-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "scale" .f32 0x41DB47A0#32 ((120550335592887 / 4398046511104 : ℝ) : EReal)
  ∧ IdealRules.named_const.Statement Cert.KernelIdeal.κ "first" .f32 0xC15C9B28#32 ((-62095090000768293 / 4503599627370496 : ℝ) : EReal)
  ∧ IdealRules.named_const.Statement Cert.KernelIdeal.κ "least" .f32 0x3CE25A74#32 ((124439064040155 / 4503599627370496 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32768x45 : Shape := ⟨2, ![32768, 45]⟩
abbrev S32768x1 : Shape := ⟨2, ![32768, 1]⟩
abbrev S6x256x45 : Shape := ⟨3, ![6, 256, 45]⟩
abbrev S6x256 : Shape := ⟨2, ![6, 256]⟩
abbrev S6x256x1 : Shape := ⟨3, ![6, 256, 1]⟩
abbrev S6x2x256x256 : Shape := ⟨4, ![6, 2, 256, 256]⟩
abbrev S6x2x256 : Shape := ⟨3, ![6, 2, 256]⟩
abbrev S6x1035x256 : Shape := ⟨3, ![6, 1035, 256]⟩
abbrev S6x1035 : Shape := ⟨2, ![6, 1035]⟩
abbrev S256x45 : Shape := ⟨2, ![256, 45]⟩
abbrev S_ : Shape := ⟨0, ![]⟩
abbrev S256x256 : Shape := ⟨2, ![256, 256]⟩
abbrev S1035x256 : Shape := ⟨2, ![1035, 256]⟩
abbrev S1x256x45 : Shape := ⟨3, ![1, 256, 45]⟩
abbrev S6x1x256x256 : Shape := ⟨4, ![6, 1, 256, 256]⟩
abbrev S6x256x256 : Shape := ⟨3, ![6, 256, 256]⟩
abbrev S1x256x256 : Shape := ⟨3, ![1, 256, 256]⟩
abbrev S6x1x256 : Shape := ⟨3, ![6, 1, 256]⟩
abbrev S1x1035x256 : Shape := ⟨3, ![1, 1035, 256]⟩

class Facts : Prop where
  bcast_S_S256x45 : S_.BroadcastsInDim S256x45 (![] : Fin 0 → Fin S256x45.rank)
  bcast_S_S256x256 : S_.BroadcastsInDim S256x256 (![] : Fin 0 → Fin S256x256.rank)
  bcast_S_S1035x256 : S_.BroadcastsInDim S1035x256 (![] : Fin 0 → Fin S1035x256.rank)
  bcast_S256x45_S1x256x45_1_2 : S256x45.BroadcastsInDim S1x256x45 (![1, 2] : Fin 2 → Fin S1x256x45.rank)
  bcast_S1x256x45_S6x256x45_0_1_2 : S1x256x45.BroadcastsInDim S6x256x45 (![0, 1, 2] : Fin 3 → Fin S6x256x45.rank)
  bcast_S_S6x256x45 : S_.BroadcastsInDim S6x256x45 (![] : Fin 0 → Fin S6x256x45.rank)
  reducesTo_S6x256x45_S6x256_d2 : S6x256x45.ReducesTo [2] S6x256
  h_S_ : 0 < S_.numel
  shapeCasts_S6x256x1_S6x256 : S6x256x1.ShapeCasts S6x256
  bcast_S_S6x256 : S_.BroadcastsInDim S6x256 (![] : Fin 0 → Fin S6x256.rank)
  slices_S6x2x256x256_S6x1x256x256_0_0_0_0 : S6x2x256x256.Slices ![0, 0, 0, 0] S6x1x256x256
  shapeCasts_S6x1x256x256_S6x256x256 : S6x1x256x256.ShapeCasts S6x256x256
  bcast_S256x256_S1x256x256_1_2 : S256x256.BroadcastsInDim S1x256x256 (![1, 2] : Fin 2 → Fin S1x256x256.rank)
  bcast_S1x256x256_S6x256x256_0_1_2 : S1x256x256.BroadcastsInDim S6x256x256 (![0, 1, 2] : Fin 3 → Fin S6x256x256.rank)
  bcast_S6x256_S6x1x256_0_2 : S6x256.BroadcastsInDim S6x1x256 (![0, 2] : Fin 2 → Fin S6x1x256.rank)
  bcast_S6x1x256_S6x256x256_0_1_2 : S6x1x256.BroadcastsInDim S6x256x256 (![0, 1, 2] : Fin 3 → Fin S6x256x256.rank)
  reducesTo_S6x256x256_S6x256_d2 : S6x256x256.ReducesTo [2] S6x256
  slices_S6x2x256_S6x1x256_0_0_0 : S6x2x256.Slices ![0, 0, 0] S6x1x256
  shapeCasts_S6x1x256_S6x256 : S6x1x256.ShapeCasts S6x256
  slices_S6x2x256x256_S6x1x256x256_0_1_0_0 : S6x2x256x256.Slices ![0, 1, 0, 0] S6x1x256x256
  slices_S6x2x256_S6x1x256_0_1_0 : S6x2x256.Slices ![0, 1, 0] S6x1x256
  bcast_S1035x256_S1x1035x256_1_2 : S1035x256.BroadcastsInDim S1x1035x256 (![1, 2] : Fin 2 → Fin S1x1035x256.rank)
  bcast_S1x1035x256_S6x1035x256_0_1_2 : S1x1035x256.BroadcastsInDim S6x1035x256 (![0, 1, 2] : Fin 3 → Fin S6x1035x256.rank)
  bcast_S6x1x256_S6x1035x256_0_1_2 : S6x1x256.BroadcastsInDim S6x1035x256 (![0, 1, 2] : Fin 3 → Fin S6x1035x256.rank)
  reducesTo_S6x1035x256_S6x1035_d2 : S6x1035x256.ReducesTo [2] S6x1035
  bcast_S_S32768x45 : S_.BroadcastsInDim S32768x45 (![] : Fin 0 → Fin S32768x45.rank)
  bcast_S_S32768x1 : S_.BroadcastsInDim S32768x1 (![] : Fin 0 → Fin S32768x1.rank)
  bcast_S_S6x1035 : S_.BroadcastsInDim S6x1035 (![] : Fin 0 → Fin S6x1035.rank)

variable [Facts]

def fn_where {F : FTy → Type} [FloatOps F] (arg0 : IVec S256x45 1) (arg1 : FVec F S_ .f32) (arg2 : FVec F S_ .f32) : FVec F S256x45 .f32 :=
  let v0 : FVec F S256x45 .f32 := broadcastInDim S256x45 ![] bcast_S_S256x45 arg1
  let v1 : FVec F S256x45 .f32 := broadcastInDim S256x45 ![] bcast_S_S256x45 arg2
  let v2 : FVec F S256x45 .f32 := select arg0 v0 v1
  v2

def fn_where_0 {F : FTy → Type} [FloatOps F] (arg0 : IVec S256x256 1) (arg1 : FVec F S_ .f32) (arg2 : FVec F S_ .f32) : FVec F S256x256 .f32 :=
  let v0 : FVec F S256x256 .f32 := broadcastInDim S256x256 ![] bcast_S_S256x256 arg1
  let v1 : FVec F S256x256 .f32 := broadcastInDim S256x256 ![] bcast_S_S256x256 arg2
  let v2 : FVec F S256x256 .f32 := select arg0 v0 v1
  v2

def fn_where_1 {F : FTy → Type} [FloatOps F] (arg0 : IVec S1035x256 1) (arg1 : FVec F S_ .f32) (arg2 : FVec F S_ .f32) : FVec F S1035x256 .f32 :=
  let v0 : FVec F S1035x256 .f32 := broadcastInDim S1035x256 ![] bcast_S_S1035x256 arg1
  let v1 : FVec F S1035x256 .f32 := broadcastInDim S1035x256 ![] bcast_S_S1035x256 arg2
  let v2 : FVec F S1035x256 .f32 := select arg0 v0 v1
  v2

def fn_part4 {F : FTy → Type} [FloatOps F] (main_arg0 : FVec F S32768x45 .f32) (main_arg1 : FVec F S32768x1 .f32) (main_v77 : FVec F S6x1035 .f32) (main_v78 : FVec F S6x1035 .f32) : IVec S32768x45 1 × IVec S32768x1 1 × IVec S6x1035 1 :=
  let main_v79 : FVec F S6x1035 .f32 := addf main_v77 main_v78
  let main_v80 : FVec F S32768x45 .f32 := Host.absf main_arg0
  let main_cst_15 : FVec F S_ .f32 := constant S_ .f32 0x41800000#32
  let main_v81 : FVec F S32768x45 .f32 := broadcastInDim S32768x45 ![] bcast_S_S32768x45 main_cst_15
  let main_v82 : IVec S32768x45 1 := cmpf .ole main_v80 main_v81
  let main_v83 : FVec F S32768x1 .f32 := Host.absf main_arg1
  let main_cst_16 : FVec F S_ .f32 := constant S_ .f32 0x41000000#32
  let main_v84 : FVec F S32768x1 .f32 := broadcastInDim S32768x1 ![] bcast_S_S32768x1 main_cst_16
  let main_v85 : IVec S32768x1 1 := cmpf .ole main_v83 main_v84
  let main_cst_17 : FVec F S_ .f32 := constant S_ .f32 0x44700000#32
  let main_v86 : FVec F S6x1035 .f32 := broadcastInDim S6x1035 ![] bcast_S_S6x1035 main_cst_17
  let main_v87 : IVec S6x1035 1 := cmpf .ole main_v79 main_v86
  (main_v82, main_v85, main_v87)

def fn_part3 {F : FTy → Type} [FloatOps F] (main_arg0 : FVec F S32768x45 .f32) (main_arg1 : FVec F S32768x1 .f32) (main_arg7 : FVec F S6x2x256 .f32) (main_arg8 : FVec F S6x1035x256 .f32) (main_arg9 : FVec F S6x1035 .f32) (main_v21 : FVec F S1035x256 .f32) (main_v53 : FVec F S6x256 .f32) (main_v55 : FVec F S6x256x256 .f32) (main_v56 : FVec F S256x256 .f32) : IVec S32768x45 1 × IVec S32768x1 1 × IVec S6x1035 1 :=
  let main_v57 : FVec F S1x256x256 .f32 := broadcastInDim S1x256x256 ![1, 2] bcast_S256x256_S1x256x256_1_2 main_v56
  let main_v58 : FVec F S6x256x256 .f32 := broadcastInDim S6x256x256 ![0, 1, 2] bcast_S1x256x256_S6x256x256_0_1_2 main_v57
  let main_v59 : FVec F S6x256x256 .f32 := mulf main_v55 main_v58
  let main_v60 : FVec F S6x256x256 .f32 := Host.absf main_v59
  let main_v61 : FVec F S6x1x256 .f32 := broadcastInDim S6x1x256 ![0, 2] bcast_S6x256_S6x1x256_0_2 main_v53
  let main_v62 : FVec F S6x256x256 .f32 := broadcastInDim S6x256x256 ![0, 1, 2] bcast_S6x1x256_S6x256x256_0_1_2 main_v61
  let main_v63 : FVec F S6x256x256 .f32 := mulf main_v60 main_v62
  let main_cst_13 : FVec F S_ .f32 := constant S_ .f32 0x00000000#32
  let main_v64 : FVec F S6x256 .f32 := (fun x v => Host.reduceAdd x v reducesTo_S6x256x256_S6x256_d2 h_S_) main_v63 main_cst_13
  let main_v65 : FVec F S6x1x256 .f32 := (extractStridedSlice S6x1x256 ![0, 1, 0] · slices_S6x2x256_S6x1x256_0_1_0) main_arg7
  let main_v66 : FVec F S6x256 .f32 := shapeCast S6x256 main_v65 shapeCasts_S6x1x256_S6x256
  let main_v67 : FVec F S6x256 .f32 := Host.absf main_v66
  let main_v68 : FVec F S6x256 .f32 := addf main_v64 main_v67
  let main_v69 : FVec F S1035x256 .f32 := id main_v21
  let main_v70 : FVec F S1x1035x256 .f32 := broadcastInDim S1x1035x256 ![1, 2] bcast_S1035x256_S1x1035x256_1_2 main_v69
  let main_v71 : FVec F S6x1035x256 .f32 := broadcastInDim S6x1035x256 ![0, 1, 2] bcast_S1x1035x256_S6x1035x256_0_1_2 main_v70
  let main_v72 : FVec F S6x1035x256 .f32 := mulf main_arg8 main_v71
  let main_v73 : FVec F S6x1035x256 .f32 := Host.absf main_v72
  let main_v74 : FVec F S6x1x256 .f32 := broadcastInDim S6x1x256 ![0, 2] bcast_S6x256_S6x1x256_0_2 main_v68
  let main_v75 : FVec F S6x1035x256 .f32 := broadcastInDim S6x1035x256 ![0, 1, 2] bcast_S6x1x256_S6x1035x256_0_1_2 main_v74
  let main_v76 : FVec F S6x1035x256 .f32 := mulf main_v73 main_v75
  let main_cst_14 : FVec F S_ .f32 := constant S_ .f32 0x00000000#32
  let main_v77 : FVec F S6x1035 .f32 := (fun x v => Host.reduceAdd x v reducesTo_S6x1035x256_S6x1035_d2 h_S_) main_v76 main_cst_14
  let main_v78 : FVec F S6x1035 .f32 := Host.absf main_arg9
  fn_part4 (F := F) main_arg0 main_arg1 main_v77 main_v78

def fn_part2 {F : FTy → Type} [FloatOps F] (main_arg0 : FVec F S32768x45 .f32) (main_arg1 : FVec F S32768x1 .f32) (main_arg5 : FVec F S6x256 .f32) (main_arg6 : FVec F S6x2x256x256 .f32) (main_arg7 : FVec F S6x2x256 .f32) (main_arg8 : FVec F S6x1035x256 .f32) (main_arg9 : FVec F S6x1035 .f32) (main_v13 : FVec F S256x256 .f32) (main_v21 : FVec F S1035x256 .f32) (main_v31 : FVec F S6x256 .f32) (main_v33 : FVec F S6x256 .f32) (main_cst_11 : FVec F S_ .f32) : IVec S32768x45 1 × IVec S32768x1 1 × IVec S6x1035 1 :=
  let main_v34 : FVec F S6x256 .f32 := broadcastInDim S6x256 ![] bcast_S_S6x256 main_cst_11
  let main_v35 : FVec F S6x256 .f32 := mulf main_v33 main_v34
  let main_v36 : FVec F S6x256 .f32 := addf main_v31 main_v35
  let main_v37 : FVec F S6x256 .f32 := Host.absf main_arg5
  let main_v38 : FVec F S6x256 .f32 := addf main_v36 main_v37
  let main_v39 : FVec F S6x1x256x256 .f32 := (extractStridedSlice S6x1x256x256 ![0, 0, 0, 0] · slices_S6x2x256x256_S6x1x256x256_0_0_0_0) main_arg6
  let main_v40 : FVec F S6x256x256 .f32 := shapeCast S6x256x256 main_v39 shapeCasts_S6x1x256x256_S6x256x256
  let main_v41 : FVec F S256x256 .f32 := id main_v13
  let main_v42 : FVec F S1x256x256 .f32 := broadcastInDim S1x256x256 ![1, 2] bcast_S256x256_S1x256x256_1_2 main_v41
  let main_v43 : FVec F S6x256x256 .f32 := broadcastInDim S6x256x256 ![0, 1, 2] bcast_S1x256x256_S6x256x256_0_1_2 main_v42
  let main_v44 : FVec F S6x256x256 .f32 := mulf main_v40 main_v43
  let main_v45 : FVec F S6x256x256 .f32 := Host.absf main_v44
  let main_v46 : FVec F S6x1x256 .f32 := broadcastInDim S6x1x256 ![0, 2] bcast_S6x256_S6x1x256_0_2 main_v38
  let main_v47 : FVec F S6x256x256 .f32 := broadcastInDim S6x256x256 ![0, 1, 2] bcast_S6x1x256_S6x256x256_0_1_2 main_v46
  let main_v48 : FVec F S6x256x256 .f32 := mulf main_v45 main_v47
  let main_cst_12 : FVec F S_ .f32 := constant S_ .f32 0x00000000#32
  let main_v49 : FVec F S6x256 .f32 := (fun x v => Host.reduceAdd x v reducesTo_S6x256x256_S6x256_d2 h_S_) main_v48 main_cst_12
  let main_v50 : FVec F S6x1x256 .f32 := (extractStridedSlice S6x1x256 ![0, 0, 0] · slices_S6x2x256_S6x1x256_0_0_0) main_arg7
  let main_v51 : FVec F S6x256 .f32 := shapeCast S6x256 main_v50 shapeCasts_S6x1x256_S6x256
  let main_v52 : FVec F S6x256 .f32 := Host.absf main_v51
  let main_v53 : FVec F S6x256 .f32 := addf main_v49 main_v52
  let main_v54 : FVec F S6x1x256x256 .f32 := (extractStridedSlice S6x1x256x256 ![0, 1, 0, 0] · slices_S6x2x256x256_S6x1x256x256_0_1_0_0) main_arg6
  let main_v55 : FVec F S6x256x256 .f32 := shapeCast S6x256x256 main_v54 shapeCasts_S6x1x256x256_S6x256x256
  let main_v56 : FVec F S256x256 .f32 := id main_v13
  fn_part3 (F := F) main_arg0 main_arg1 main_arg7 main_arg8 main_arg9 main_v21 main_v53 main_v55 main_v56

def fn_part1 {F : FTy → Type} [FloatOps F] (main_arg0 : FVec F S32768x45 .f32) (main_arg1 : FVec F S32768x1 .f32) (main_arg2 : FVec F S6x256x45 .f32) (main_arg3 : FVec F S6x256 .f32) (main_arg4 : FVec F S6x256x1 .f32) (main_arg5 : FVec F S6x256 .f32) (main_arg6 : FVec F S6x2x256x256 .f32) (main_arg7 : FVec F S6x2x256 .f32) (main_arg8 : FVec F S6x1035x256 .f32) (main_arg9 : FVec F S6x1035 .f32) (main_v5 : FVec F S256x45 .f32) (main_v13 : FVec F S256x256 .f32) (main_v14 : IVec S1035x256 32) (main_v15 : IVec S1035x256 32) : IVec S32768x45 1 × IVec S32768x1 1 × IVec S6x1035 1 :=
  let main_v16 : IVec S1035x256 32 := Host.divsi main_v14 main_v15
  let main_v17 : IVec S1035x256 32 := iotaInDim S1035x256 32 1
  let main_c_6 : IVec S_ 32 := constantI S_ 32 44#32
  let main_v18 : IVec S1035x256 32 := broadcastInDim S1035x256 ![] bcast_S_S1035x256 main_c_6
  let main_v19 : IVec S1035x256 32 := Host.remsi main_v17 main_v18
  let main_v20 : IVec S1035x256 1 := cmpi .sgt main_v16 main_v19
  let main_cst_7 : FVec F S_ .f32 := constant S_ .f32 0x3F800000#32
  let main_cst_8 : FVec F S_ .f32 := constant S_ .f32 0x00000000#32
  let main_v21 : FVec F S1035x256 .f32 := fn_where_1 (F := F) main_v20 main_cst_7 main_cst_8
  let main_v22 : FVec F S256x45 .f32 := id main_v5
  let main_v23 : FVec F S1x256x45 .f32 := broadcastInDim S1x256x45 ![1, 2] bcast_S256x45_S1x256x45_1_2 main_v22
  let main_v24 : FVec F S6x256x45 .f32 := broadcastInDim S6x256x45 ![0, 1, 2] bcast_S1x256x45_S6x256x45_0_1_2 main_v23
  let main_v25 : FVec F S6x256x45 .f32 := mulf main_arg2 main_v24
  let main_v26 : FVec F S6x256x45 .f32 := Host.absf main_v25
  let main_cst_9 : FVec F S_ .f32 := constant S_ .f32 0x41800000#32
  let main_v27 : FVec F S6x256x45 .f32 := broadcastInDim S6x256x45 ![] bcast_S_S6x256x45 main_cst_9
  let main_v28 : FVec F S6x256x45 .f32 := mulf main_v26 main_v27
  let main_cst_10 : FVec F S_ .f32 := constant S_ .f32 0x00000000#32
  let main_v29 : FVec F S6x256 .f32 := (fun x v => Host.reduceAdd x v reducesTo_S6x256x45_S6x256_d2 h_S_) main_v28 main_cst_10
  let main_v30 : FVec F S6x256 .f32 := Host.absf main_arg3
  let main_v31 : FVec F S6x256 .f32 := addf main_v29 main_v30
  let main_v32 : FVec F S6x256 .f32 := shapeCast S6x256 main_arg4 shapeCasts_S6x256x1_S6x256
  let main_v33 : FVec F S6x256 .f32 := Host.absf main_v32
  let main_cst_11 : FVec F S_ .f32 := constant S_ .f32 0x41000000#32
  fn_part2 (F := F) main_arg0 main_arg1 main_arg5 main_arg6 main_arg7 main_arg8 main_arg9 main_v13 main_v21 main_v31 main_v33 main_cst_11

def fn {F : FTy → Type} [FloatOps F] (main_arg0 : FVec F S32768x45 .f32) (main_arg1 : FVec F S32768x1 .f32) (main_arg2 : FVec F S6x256x45 .f32) (main_arg3 : FVec F S6x256 .f32) (main_arg4 : FVec F S6x256x1 .f32) (main_arg5 : FVec F S6x256 .f32) (main_arg6 : FVec F S6x2x256x256 .f32) (main_arg7 : FVec F S6x2x256 .f32) (main_arg8 : FVec F S6x1035x256 .f32) (main_arg9 : FVec F S6x1035 .f32) : IVec S32768x45 1 × IVec S32768x1 1 × IVec S6x1035 1 :=
  let main_v0 : IVec S256x45 32 := iotaInDim S256x45 32 0
  let main_c : IVec S_ 32 := constantI S_ 32 44#32
  let main_v1 : IVec S256x45 32 := broadcastInDim S256x45 ![] bcast_S_S256x45 main_c
  let main_v2 : IVec S256x45 32 := Host.remsi main_v0 main_v1
  let main_v3 : IVec S256x45 32 := iotaInDim S256x45 32 1
  let main_v4 : IVec S256x45 1 := cmpi .sge main_v2 main_v3
  let main_cst : FVec F S_ .f32 := constant S_ .f32 0x3F800000#32
  let main_cst_0 : FVec F S_ .f32 := constant S_ .f32 0x00000000#32
  let main_v5 : FVec F S256x45 .f32 := fn_where (F := F) main_v4 main_cst main_cst_0
  let main_v6 : IVec S256x256 32 := iotaInDim S256x256 32 0
  let main_c_1 : IVec S_ 32 := constantI S_ 32 44#32
  let main_v7 : IVec S256x256 32 := broadcastInDim S256x256 ![] bcast_S_S256x256 main_c_1
  let main_v8 : IVec S256x256 32 := Host.remsi main_v6 main_v7
  let main_v9 : IVec S256x256 32 := iotaInDim S256x256 32 1
  let main_c_2 : IVec S_ 32 := constantI S_ 32 44#32
  let main_v10 : IVec S256x256 32 := broadcastInDim S256x256 ![] bcast_S_S256x256 main_c_2
  let main_v11 : IVec S256x256 32 := Host.remsi main_v9 main_v10
  let main_v12 : IVec S256x256 1 := cmpi .sge main_v8 main_v11
  let main_cst_3 : FVec F S_ .f32 := constant S_ .f32 0x3F800000#32
  let main_cst_4 : FVec F S_ .f32 := constant S_ .f32 0x00000000#32
  let main_v13 : FVec F S256x256 .f32 := fn_where_0 (F := F) main_v12 main_cst_3 main_cst_4
  let main_v14 : IVec S1035x256 32 := iotaInDim S1035x256 32 0
  let main_c_5 : IVec S_ 32 := constantI S_ 32 23#32
  let main_v15 : IVec S1035x256 32 := broadcastInDim S1035x256 ![] bcast_S_S1035x256 main_c_5
  fn_part1 (F := F) main_arg0 main_arg1 main_arg2 main_arg3 main_arg4 main_arg5 main_arg6 main_arg7 main_arg8 main_arg9 main_v5 main_v13 main_v14 main_v15
-- ==== Kernel.lean ====
abbrev S32768x45 : Shape := ⟨2, ![32768, 45]⟩
abbrev S32768x1 : Shape := ⟨2, ![32768, 1]⟩
abbrev S6x256x45 : Shape := ⟨3, ![6, 256, 45]⟩
abbrev S6x256 : Shape := ⟨2, ![6, 256]⟩
abbrev S6x256x1 : Shape := ⟨3, ![6, 256, 1]⟩
abbrev S6x2x256x256 : Shape := ⟨4, ![6, 2, 256, 256]⟩
abbrev S6x2x256 : Shape := ⟨3, ![6, 2, 256]⟩
abbrev S6x1035x256 : Shape := ⟨3, ![6, 1035, 256]⟩
abbrev S6x1035 : Shape := ⟨2, ![6, 1035]⟩
abbrev S23x1x1 : Shape := ⟨3, ![23, 1, 1]⟩
abbrev S23x1 : Shape := ⟨2, ![23, 1]⟩
abbrev S256x45 : Shape := ⟨2, ![256, 45]⟩
abbrev S_ : Shape := ⟨0, ![]⟩
abbrev S256x256 : Shape := ⟨2, ![256, 256]⟩
abbrev S1035x256 : Shape := ⟨2, ![1035, 256]⟩
abbrev S1x256x45 : Shape := ⟨3, ![1, 256, 45]⟩
abbrev S6x256x48 : Shape := ⟨3, ![6, 256, 48]⟩
abbrev S1x1x256x256 : Shape := ⟨4, ![1, 1, 256, 256]⟩
abbrev S6x2x256x1 : Shape := ⟨4, ![6, 2, 256, 1]⟩
abbrev S1x1035x256 : Shape := ⟨3, ![1, 1035, 256]⟩
abbrev S6x45x23x256 : Shape := ⟨4, ![6, 45, 23, 256]⟩
abbrev S6x23x45x256 : Shape := ⟨4, ![6, 23, 45, 256]⟩
abbrev S1x23x1x1 : Shape := ⟨4, ![1, 23, 1, 1]⟩
abbrev S6x23x48x256 : Shape := ⟨4, ![6, 23, 48, 256]⟩
abbrev S6x1104x256 : Shape := ⟨3, ![6, 1104, 256]⟩
abbrev S6x45x23 : Shape := ⟨3, ![6, 45, 23]⟩
abbrev S6x23x45 : Shape := ⟨3, ![6, 23, 45]⟩
abbrev S1x23x1 : Shape := ⟨3, ![1, 23, 1]⟩
abbrev S6x23x48 : Shape := ⟨3, ![6, 23, 48]⟩
abbrev S6x1104 : Shape := ⟨2, ![6, 1104]⟩
abbrev S6x1104x1 : Shape := ⟨3, ![6, 1104, 1]⟩
abbrev S32768x48 : Shape := ⟨2, ![32768, 48]⟩
abbrev S48x32768 : Shape := ⟨2, ![48, 32768]⟩
abbrev S1x32768 : Shape := ⟨2, ![1, 32768]⟩
abbrev S48x1024 : Shape := ⟨2, ![48, 1024]⟩
abbrev S1x1024 : Shape := ⟨2, ![1, 1024]⟩
abbrev S48x1 : Shape := ⟨2, ![48, 1]⟩
abbrev S1x256x48 : Shape := ⟨3, ![1, 256, 48]⟩
abbrev S256x48 : Shape := ⟨2, ![256, 48]⟩
abbrev S256x1024 : Shape := ⟨2, ![256, 1024]⟩
abbrev S1x1x256x1 : Shape := ⟨4, ![1, 1, 256, 1]⟩
abbrev S256x1 : Shape := ⟨2, ![256, 1]⟩
abbrev S1x1104x256 : Shape := ⟨3, ![1, 1104, 256]⟩
abbrev S1104x256 : Shape := ⟨2, ![1104, 256]⟩
abbrev S1104x1024 : Shape := ⟨2, ![1104, 1024]⟩
abbrev S1x1104x1 : Shape := ⟨3, ![1, 1104, 1]⟩
abbrev S1104x1 : Shape := ⟨2, ![1104, 1]⟩
abbrev S1024 : Shape := ⟨1, ![1024]⟩

abbrev nBuf : Space → Nat
  | .hbm => 98
  | .vmem => 11
  | .smem => 0
  | _ => 0

abbrev bufTy : (tb : Table) → Fin (tcTables nBuf tb) → BufTy
  | .hbm, ⟨0, _⟩ => ⟨S32768x45, .f32⟩
  | .hbm, ⟨1, _⟩ => ⟨S32768x1, .f32⟩
  | .hbm, ⟨2, _⟩ => ⟨S6x256x45, .f32⟩
  | .hbm, ⟨3, _⟩ => ⟨S6x256, .f32⟩
  | .hbm, ⟨4, _⟩ => ⟨S6x256x1, .f32⟩
  | .hbm, ⟨5, _⟩ => ⟨S6x256, .f32⟩
  | .hbm, ⟨6, _⟩ => ⟨S6x2x256x256, .f32⟩
  | .hbm, ⟨7, _⟩ => ⟨S6x2x256, .f32⟩
  | .hbm, ⟨8, _⟩ => ⟨S6x1035x256, .f32⟩
  | .hbm, ⟨9, _⟩ => ⟨S6x1035, .f32⟩
  | .hbm, ⟨10, _⟩ => ⟨S23x1x1, .f32⟩
  | .hbm, ⟨11, _⟩ => ⟨S23x1, .f32⟩
  | .hbm, ⟨12, _⟩ => ⟨S256x45, .i32⟩
  | .hbm, ⟨13, _⟩ => ⟨S256x45, .i32⟩
  | .hbm, ⟨14, _⟩ => ⟨S_, .i32⟩
  | .hbm, ⟨15, _⟩ => ⟨S256x45, .i32⟩
  | .hbm, ⟨16, _⟩ => ⟨S256x45, .i32⟩
  | .hbm, ⟨17, _⟩ => ⟨S256x45, .i1⟩
  | .hbm, ⟨18, _⟩ => ⟨S_, .f32⟩
  | .hbm, ⟨19, _⟩ => ⟨S_, .f32⟩
  | .hbm, ⟨20, _⟩ => ⟨S256x45, .f32⟩
  | .hbm, ⟨21, _⟩ => ⟨S256x45, .f32⟩
  | .hbm, ⟨22, _⟩ => ⟨S256x45, .f32⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S_, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S1035x256, .i32⟩
  | .hbm, ⟨38, _⟩ => ⟨S_, .i32⟩
  | .hbm, ⟨39, _⟩ => ⟨S1035x256, .i32⟩
  | .hbm, ⟨40, _⟩ => ⟨S1035x256, .i32⟩
  | .hbm, ⟨41, _⟩ => ⟨S1035x256, .i32⟩
  | .hbm, ⟨42, _⟩ => ⟨S_, .i32⟩
  | .hbm, ⟨43, _⟩ => ⟨S1035x256, .i32⟩
  | .hbm, ⟨44, _⟩ => ⟨S1035x256, .i32⟩
  | .hbm, ⟨45, _⟩ => ⟨S1035x256, .i1⟩
  | .hbm, ⟨46, _⟩ => ⟨S_, .f32⟩
  | .hbm, ⟨47, _⟩ => ⟨S_, .f32⟩
  | .hbm, ⟨48, _⟩ => ⟨S1035x256, .f32⟩
  | .hbm, ⟨49, _⟩ => ⟨S1035x256, .f32⟩
  | .hbm, ⟨50, _⟩ => ⟨S1035x256, .f32⟩
  | .hbm, ⟨51, _⟩ => ⟨S256x45, .f32⟩
  | .hbm, ⟨52, _⟩ => ⟨S1x256x45, .f32⟩
  | .hbm, ⟨53, _⟩ => ⟨S6x256x45, .f32⟩
  | .hbm, ⟨54, _⟩ => ⟨S6x256x45, .f32⟩
  | .hbm, ⟨55, _⟩ => ⟨S6x256, .f32⟩
  | .hbm, ⟨56, _⟩ => ⟨S6x256x1, .f32⟩
  | .hbm, ⟨57, _⟩ => ⟨S_, .f32⟩
  | .hbm, ⟨58, _⟩ => ⟨S6x256x1, .f32⟩
  | .hbm, ⟨59, _⟩ => ⟨S6x256x48, .f32⟩
  | .hbm, ⟨60, _⟩ => ⟨S6x256x48, .bf16⟩
  | .hbm, ⟨61, _⟩ => ⟨S256x256, .f32⟩
  | .hbm, ⟨62, _⟩ => ⟨S1x1x256x256, .f32⟩
  | .hbm, ⟨63, _⟩ => ⟨S6x2x256x256, .f32⟩
  | .hbm, ⟨64, _⟩ => ⟨S6x2x256x256, .f32⟩
  | .hbm, ⟨65, _⟩ => ⟨S6x2x256x256, .bf16⟩
  | .hbm, ⟨66, _⟩ => ⟨S6x2x256x1, .f32⟩
  | .hbm, ⟨67, _⟩ => ⟨S6x2x256x1, .bf16⟩
  | .hbm, ⟨68, _⟩ => ⟨S1035x256, .f32⟩
  | .hbm, ⟨69, _⟩ => ⟨S1x1035x256, .f32⟩
  | .hbm, ⟨70, _⟩ => ⟨S6x1035x256, .f32⟩
  | .hbm, ⟨71, _⟩ => ⟨S6x1035x256, .f32⟩
  | .hbm, ⟨72, _⟩ => ⟨S6x45x23x256, .f32⟩
  | .hbm, ⟨73, _⟩ => ⟨S6x23x45x256, .f32⟩
  | .hbm, ⟨74, _⟩ => ⟨S1x23x1x1, .f32⟩
  | .hbm, ⟨75, _⟩ => ⟨S6x23x45x256, .f32⟩
  | .hbm, ⟨76, _⟩ => ⟨S6x23x45x256, .f32⟩
  | .hbm, ⟨77, _⟩ => ⟨S_, .i32⟩
  | .hbm, ⟨78, _⟩ => ⟨S_, .f32⟩
  | .hbm, ⟨79, _⟩ => ⟨S6x23x48x256, .f32⟩
  | .hbm, ⟨80, _⟩ => ⟨S6x1104x256, .f32⟩
  | .hbm, ⟨81, _⟩ => ⟨S6x1104x256, .bf16⟩
  | .hbm, ⟨82, _⟩ => ⟨S6x45x23, .f32⟩
  | .hbm, ⟨83, _⟩ => ⟨S6x23x45, .f32⟩
  | .hbm, ⟨84, _⟩ => ⟨S1x23x1, .f32⟩
  | .hbm, ⟨85, _⟩ => ⟨S6x23x45, .f32⟩
  | .hbm, ⟨86, _⟩ => ⟨S6x23x45, .f32⟩
  | .hbm, ⟨87, _⟩ => ⟨S_, .i32⟩
  | .hbm, ⟨88, _⟩ => ⟨S_, .f32⟩
  | .hbm, ⟨89, _⟩ => ⟨S6x23x48, .f32⟩
  | .hbm, ⟨90, _⟩ => ⟨S6x1104, .f32⟩
  | .hbm, ⟨91, _⟩ => ⟨S6x1104x1, .f32⟩
  | .hbm, ⟨92, _⟩ => ⟨S_, .i32⟩
  | .hbm, ⟨93, _⟩ => ⟨S_, .f32⟩
  | .hbm, ⟨94, _⟩ => ⟨S32768x48, .f32⟩
  | .hbm, ⟨95, _⟩ => ⟨S48x32768, .f32⟩
  | .hbm, ⟨96, _⟩ => ⟨S1x32768, .f32⟩
  | .hbm, ⟨97, _⟩ => ⟨S1x32768, .f32⟩
  | .local _ .vmem, ⟨0, _⟩ => ⟨S48x1024, .f32⟩
  | .local _ .vmem, ⟨1, _⟩ => ⟨S48x1024, .f32⟩
  | .local _ .vmem, ⟨2, _⟩ => ⟨S1x1024, .f32⟩
  | .local _ .vmem, ⟨3, _⟩ => ⟨S1x1024, .f32⟩
  | .local _ .vmem, ⟨4, _⟩ => ⟨S6x256x48, .bf16⟩
  | .local _ .vmem, ⟨5, _⟩ => ⟨S6x2x256x256, .bf16⟩
  | .local _ .vmem, ⟨6, _⟩ => ⟨S6x2x256x1, .bf16⟩
  | .local _ .vmem, ⟨7, _⟩ => ⟨S6x1104x256, .bf16⟩
  | .local _ .vmem, ⟨8, _⟩ => ⟨S6x1104x1, .f32⟩
  | .local _ .vmem, ⟨9, _⟩ => ⟨S1x1024, .f32⟩
  | .local _ .vmem, ⟨10, _⟩ => ⟨S1x1024, .f32⟩
  | _, _ => ⟨S32768x45, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v5 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v13 : Ref sig .tc := ⟨.hbm, 36, rfl⟩
abbrev main_v14 : Ref sig .tc := ⟨.hbm, 37, rfl⟩
abbrev main_c_7 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_8 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_9 : Ref sig .tc := ⟨.hbm, 46, rfl⟩
abbrev main_cst_10 : Ref sig .tc := ⟨.hbm, 47, rfl⟩
abbrev main_call2_v0 : Ref sig .tc := ⟨.hbm, 48, rfl⟩
abbrev main_call2_v1 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_11 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_12 : Ref sig .tc := ⟨.hbm, 77, rfl⟩
abbrev main_call3_v0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_13 : Ref sig .tc := ⟨.hbm, 87, rfl⟩
abbrev main_call4_v0 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_14 : Ref sig .tc := ⟨.hbm, 92, rfl⟩
abbrev main_call5_v0 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c6_i32 : BitVec 32 := 6#32
  let v24 : BitVec 32 := Scalar.addi c0_i32 c6_i32
  let c1_i32 : BitVec 32 := 1#32
  ⟨c0_i32, v24, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v41 : Index := Scalar.indexCast arg9
  let c0_12 : Index := 0#32
  let c0_13 : Index := 0#32
  ![v41.toNat, 0, 0]
def k0_off2 (k0_t1 : Fin k0_t1_loop.trips) : Fin 4 → Nat :=
  let c0_i32 : BitVec 32 := 0#32
  let c1_i32 : BitVec 32 := 1#32
  let arg9 : BitVec 32 := Scf.iv c0_i32 c1_i32 k0_t1
  let v47 : Index := Scalar.indexCast arg9
  let c0_15 : Index := 0#32
  let c0_16 : Index := 0#32
  let c0_17 : Index := 0#32
  ![v47.toNat, 0, 0, 0]
def k0_off3 (k0_t1 : Fin k0_t1_loop.trips) : Fin 4 → Nat :=
  let c0_i32 : BitVec 32 := 0#32
  let c1_i32 : BitVec 32 := 1#32
  let arg9 : BitVec 32 := Scf.iv c0_i32 c1_i32 k0_t1
  let v52 : Index := Scalar.indexCast arg9
  let c0_19 : Index := 0#32
  let c0_20 : Index := 0#32
  let c0_21 : Index := 0#32
  ![v52.toNat, 0, 0, 0]
def k0_off4 (k0_t1 : Fin k0_t1_loop.trips) : Fin 4 → Nat :=
  let c0_i32 : BitVec 32 := 0#32
  let c1_i32 : BitVec 32 := 1#32
  let arg9 : BitVec 32 := Scf.iv c0_i32 c1_i32 k0_t1
  let v59 : Index := Scalar.indexCast arg9
  let c1 : Index := 1#32
  let c0_23 : Index := 0#32
  let c0_24 : Index := 0#32
  ![v59.toNat, 1, 0, 0]
def k0_off5 (k0_t1 : Fin k0_t1_loop.trips) : Fin 4 → Nat :=
  let c0_i32 : BitVec 32 := 0#32
  let c1_i32 : BitVec 32 := 1#32
  let arg9 : BitVec 32 := Scf.iv c0_i32 c1_i32 k0_t1
  let v64 : Index := Scalar.indexCast arg9
  let c1_26 : Index := 1#32
  let c0_27 : Index := 0#32
  let c0_28 : Index := 0#32
  ![v64.toNat, 1, 0, 0]
def k0_off6 (k0_t1 : Fin k0_t1_loop.trips) : Fin 3 → Nat :=
  let c0_i32 : BitVec 32 := 0#32
  let c1_i32 : BitVec 32 := 1#32
  let arg9 : BitVec 32 := Scf.iv c0_i32 c1_i32 k0_t1
  let v71 : Index := Scalar.indexCast arg9
  let c0_30 : Index := 0#32
  let c0_31 : Index := 0#32
  ![v71.toNat, 0, 0]
def k0_off7 (k0_t1 : Fin k0_t1_loop.trips) : Fin 3 → Nat :=
  let c0_i32 : BitVec 32 := 0#32
  let c1_i32 : BitVec 32 := 1#32
  let arg9 : BitVec 32 := Scf.iv c0_i32 c1_i32 k0_t1
  let v75 : Index := Scalar.indexCast arg9
  let c0_33 : Index := 0#32
  let c0_34 : Index := 0#32
  ![v75.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S48x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x256x48 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x2x256x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1104x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x1104x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "first" => some ((-62095090000768293 / 4503599627370496 : ℝ) : EReal)
  | "least" => some ((124439064040155 / 4503599627370496 : ℝ) : EReal)
  | "scale" => some ((120550335592887 / 4398046511104 : ℝ) : EReal)
  | _ => none
-- ==== ReferenceIdeal.lean ====
abbrev S32768x45 : Shape := ⟨2, ![32768, 45]⟩
abbrev S32768x1 : Shape := ⟨2, ![32768, 1]⟩
abbrev S6x256x45 : Shape := ⟨3, ![6, 256, 45]⟩
abbrev S6x256 : Shape := ⟨2, ![6, 256]⟩
abbrev S6x256x1 : Shape := ⟨3, ![6, 256, 1]⟩
abbrev S6x2x256x256 : Shape := ⟨4, ![6, 2, 256, 256]⟩
abbrev S6x2x256 : Shape := ⟨3, ![6, 2, 256]⟩
abbrev S6x1035x256 : Shape := ⟨3, ![6, 1035, 256]⟩
abbrev S6x1035 : Shape := ⟨2, ![6, 1035]⟩
abbrev S_ : Shape := ⟨0, ![]⟩
abbrev S32768 : Shape := ⟨1, ![32768]⟩
abbrev S256x45 : Shape := ⟨2, ![256, 45]⟩
abbrev S256x256 : Shape := ⟨2, ![256, 256]⟩
abbrev S1035x256 : Shape := ⟨2, ![1035, 256]⟩
abbrev S1x256x45 : Shape := ⟨3, ![1, 256, 45]⟩
abbrev S45x256 : Shape := ⟨2, ![45, 256]⟩
abbrev S32768x256 : Shape := ⟨2, ![32768, 256]⟩
abbrev S1x256 : Shape := ⟨2, ![1, 256]⟩
abbrev S256 : Shape := ⟨1, ![256]⟩
abbrev S1x256x1 : Shape := ⟨3, ![1, 256, 1]⟩
abbrev S256x1 : Shape := ⟨2, ![256, 1]⟩
abbrev S1x1x256x256 : Shape := ⟨4, ![1, 1, 256, 256]⟩
abbrev S1x1x256 : Shape := ⟨3, ![1, 1, 256]⟩
abbrev S1x1035x256 : Shape := ⟨3, ![1, 1035, 256]⟩
abbrev S256x1035 : Shape := ⟨2, ![256, 1035]⟩
abbrev S32768x1035 : Shape := ⟨2, ![32768, 1035]⟩
abbrev S1x1035 : Shape := ⟨2, ![1, 1035]⟩
abbrev S1035 : Shape := ⟨1, ![1035]⟩
abbrev S32768x45x23 : Shape := ⟨3, ![32768, 45, 23]⟩
abbrev S32768x45x8 : Shape := ⟨3, ![32768, 45, 8]⟩
abbrev S32768x45x7 : Shape := ⟨3, ![32768, 45, 7]⟩
abbrev S32768x45x9 : Shape := ⟨3, ![32768, 45, 9]⟩
abbrev S32768x45x1 : Shape := ⟨3, ![32768, 45, 1]⟩
abbrev S9x8 : Shape := ⟨2, ![9, 8]⟩
abbrev S32768x45x1x8 : Shape := ⟨4, ![32768, 45, 1, 8]⟩
abbrev S32768x45x9x8 : Shape := ⟨4, ![32768, 45, 9, 8]⟩
abbrev S1x32768 : Shape := ⟨2, ![1, 32768]⟩

abbrev nBuf : Space → Nat
  | .hbm => 641
  | .vmem => 0
  | .smem => 0
  | _ => 0

abbrev hbmTy0_0 (i : Nat) : BufTy := match i % 128 with
  | 0 => ⟨S32768x45, .f32⟩
  | 1 => ⟨S32768x1, .f32⟩
  | 2 => ⟨S6x256x45, .f32⟩
  | 3 => ⟨S6x256, .f32⟩
  | 4 => ⟨S6x256x1, .f32⟩
  | 5 => ⟨S6x256, .f32⟩
  | 6 => ⟨S6x2x256x256, .f32⟩
  | 7 => ⟨S6x2x256, .f32⟩
  | 8 => ⟨S6x1035x256, .f32⟩
  | 9 => ⟨S6x1035, .f32⟩
  | 10 => ⟨S_, .f32⟩
  | 11 => ⟨S32768, .f32⟩
  | 12 => ⟨S_, .i32⟩
  | 13 => ⟨S_, .i32⟩
  | 14 => ⟨S6x256x45, .f32⟩
  | 15 => ⟨S6x256, .f32⟩
  | 16 => ⟨S6x256x1, .f32⟩
  | 17 => ⟨S32768x1, .f32⟩
  | 18 => ⟨S6x256, .f32⟩
  | 19 => ⟨S6x2x256x256, .f32⟩
  | 20 => ⟨S6x2x256, .f32⟩
  | 21 => ⟨S6x1035x256, .f32⟩
  | 22 => ⟨S6x1035, .f32⟩
  | 23 => ⟨S_, .i32⟩
  | 24 => ⟨S_, .i32⟩
  | 25 => ⟨S32768x45, .f32⟩
  | 26 => ⟨S32768, .f32⟩
  | 27 => ⟨S_, .i32⟩
  | 28 => ⟨S_, .i1⟩
  | 29 => ⟨S_, .i32⟩
  | 30 => ⟨S_, .i32⟩
  | 31 => ⟨S256x45, .i32⟩
  | 32 => ⟨S_, .i32⟩
  | 33 => ⟨S256x45, .i32⟩
  | 34 => ⟨S256x45, .i32⟩
  | 35 => ⟨S256x45, .i32⟩
  | 36 => ⟨S256x45, .i1⟩
  | 37 => ⟨S_, .f32⟩
  | 38 => ⟨S_, .f32⟩
  | 39 => ⟨S256x45, .f32⟩
  | 40 => ⟨S256x45, .f32⟩
  | 41 => ⟨S256x45, .f32⟩
  | 42 => ⟨S256x256, .i32⟩
  | 43 => ⟨S_, .i32⟩
  | 44 => ⟨S256x256, .i32⟩
  | 45 => ⟨S256x256, .i32⟩
  | 46 => ⟨S256x256, .i32⟩
  | 47 => ⟨S_, .i32⟩
  | 48 => ⟨S256x256, .i32⟩
  | 49 => ⟨S256x256, .i32⟩
  | 50 => ⟨S256x256, .i1⟩
  | 51 => ⟨S_, .f32⟩
  | 52 => ⟨S_, .f32⟩
  | 53 => ⟨S256x256, .f32⟩
  | 54 => ⟨S256x256, .f32⟩
  | 55 => ⟨S256x256, .f32⟩
  | 56 => ⟨S1035x256, .i32⟩
  | 57 => ⟨S_, .i32⟩
  | 58 => ⟨S1035x256, .i32⟩
  | 59 => ⟨S1035x256, .i32⟩
  | 60 => ⟨S1035x256, .i32⟩
  | 61 => ⟨S_, .i32⟩
  | 62 => ⟨S1035x256, .i32⟩
  | 63 => ⟨S1035x256, .i32⟩
  | 64 => ⟨S1035x256, .i1⟩
  | 65 => ⟨S_, .f32⟩
  | 66 => ⟨S_, .f32⟩
  | 67 => ⟨S1035x256, .f32⟩
  | 68 => ⟨S1035x256, .f32⟩
  | 69 => ⟨S1035x256, .f32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S1x256x45, .f32⟩
  | 93 => ⟨S256x45, .f32⟩
  | 94 => ⟨S256x45, .f32⟩
  | 95 => ⟨S256x45, .f32⟩
  | 96 => ⟨S45x256, .f32⟩
  | 97 => ⟨S32768x256, .f32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1x256, .f32⟩
  | 113 => ⟨S256, .f32⟩
  | 114 => ⟨S1x256, .f32⟩
  | 115 => ⟨S32768x256, .f32⟩
  | 116 => ⟨S32768x256, .f32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S32768x45, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S1x256x1, .f32⟩
  | 12 => ⟨S256x1, .f32⟩
  | 13 => ⟨S1x256, .f32⟩
  | 14 => ⟨S32768x256, .f32⟩
  | 15 => ⟨S32768x256, .f32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x256, .f32⟩
  | 31 => ⟨S256, .f32⟩
  | 32 => ⟨S1x256, .f32⟩
  | 33 => ⟨S32768x256, .f32⟩
  | 34 => ⟨S32768x256, .f32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S1x1x256x256, .f32⟩
  | 66 => ⟨S256x256, .f32⟩
  | 67 => ⟨S256x256, .f32⟩
  | 68 => ⟨S256x256, .f32⟩
  | 69 => ⟨S256x256, .f32⟩
  | 70 => ⟨S32768x256, .f32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S1x1x256, .f32⟩
  | 94 => ⟨S256, .f32⟩
  | 95 => ⟨S1x256, .f32⟩
  | 96 => ⟨S32768x256, .f32⟩
  | 97 => ⟨S32768x256, .f32⟩
  | 98 => ⟨S_, .f32⟩
  | 99 => ⟨S32768x256, .f32⟩
  | 100 => ⟨S32768x256, .f32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S32768x45, .f32⟩

abbrev hbmTy0_2 (i : Nat) : BufTy := match i % 128 with
  | 0 => ⟨S_, .i32⟩
  | 1 => ⟨S_, .i32⟩
  | 2 => ⟨S_, .i32⟩
  | 3 => ⟨S1x1x256x256, .f32⟩
  | 4 => ⟨S256x256, .f32⟩
  | 5 => ⟨S256x256, .f32⟩
  | 6 => ⟨S256x256, .f32⟩
  | 7 => ⟨S256x256, .f32⟩
  | 8 => ⟨S32768x256, .f32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S1x1x256, .f32⟩
  | 32 => ⟨S256, .f32⟩
  | 33 => ⟨S1x256, .f32⟩
  | 34 => ⟨S32768x256, .f32⟩
  | 35 => ⟨S32768x256, .f32⟩
  | 36 => ⟨S_, .f32⟩
  | 37 => ⟨S32768x256, .f32⟩
  | 38 => ⟨S32768x256, .f32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1x1035x256, .f32⟩
  | 62 => ⟨S1035x256, .f32⟩
  | 63 => ⟨S1035x256, .f32⟩
  | 64 => ⟨S1035x256, .f32⟩
  | 65 => ⟨S256x1035, .f32⟩
  | 66 => ⟨S32768x1035, .f32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S1x1035, .f32⟩
  | 82 => ⟨S1035, .f32⟩
  | 83 => ⟨S1x1035, .f32⟩
  | 84 => ⟨S32768x1035, .f32⟩
  | 85 => ⟨S32768x1035, .f32⟩
  | 86 => ⟨S32768x45x23, .f32⟩
  | 87 => ⟨S32768x45x8, .f32⟩
  | 88 => ⟨S_, .f32⟩
  | 89 => ⟨S32768x45x8, .f32⟩
  | 90 => ⟨S32768x45x8, .f32⟩
  | 91 => ⟨S32768x45x8, .f32⟩
  | 92 => ⟨S_, .f32⟩
  | 93 => ⟨S32768x45x8, .f32⟩
  | 94 => ⟨S32768x45x8, .f32⟩
  | 95 => ⟨S32768x45x7, .f32⟩
  | 96 => ⟨S_, .f32⟩
  | 97 => ⟨S_, .f32⟩
  | 98 => ⟨S32768x45x9, .f32⟩
  | 99 => ⟨S_, .f32⟩
  | 100 => ⟨S32768x45, .f32⟩
  | 101 => ⟨S32768x45, .i1⟩
  | 102 => ⟨S_, .f32⟩
  | 103 => ⟨S32768x45, .f32⟩
  | 104 => ⟨S32768x45, .i1⟩
  | 105 => ⟨S32768x45, .i1⟩
  | 106 => ⟨S_, .f32⟩
  | 107 => ⟨S_, .f32⟩
  | 108 => ⟨S_, .f32⟩
  | 109 => ⟨S32768x45, .f32⟩
  | 110 => ⟨S32768x45, .f32⟩
  | 111 => ⟨S_, .f32⟩
  | 112 => ⟨S32768x45, .f32⟩
  | 113 => ⟨S32768x45, .f32⟩
  | 114 => ⟨S_, .f32⟩
  | 115 => ⟨S32768x45, .f32⟩
  | 116 => ⟨S_, .f32⟩
  | 117 => ⟨S32768x45, .f32⟩
  | 118 => ⟨S32768x45, .f32⟩
  | 119 => ⟨S32768x45x1, .f32⟩
  | 120 => ⟨S32768x45x8, .f32⟩
  | 121 => ⟨S32768x45x8, .f32⟩
  | 122 => ⟨S32768x45x8, .f32⟩
  | 123 => ⟨S_, .f32⟩
  | 124 => ⟨S32768x45, .f32⟩
  | 125 => ⟨S32768x45x1, .f32⟩
  | 126 => ⟨S32768x45x8, .f32⟩
  | 127 => ⟨S32768x45x8, .f32⟩
  | _ => ⟨S32768x45, .f32⟩

abbrev hbmTy0_3 (i : Nat) : BufTy := match i % 128 with
  | 0 => ⟨S_, .f32⟩
  | 1 => ⟨S32768x45x8, .f32⟩
  | 2 => ⟨S32768x45x8, .f32⟩
  | 3 => ⟨S_, .f32⟩
  | 4 => ⟨S32768x45x8, .f32⟩
  | 5 => ⟨S32768x45x8, .f32⟩
  | 6 => ⟨S9x8, .i32⟩
  | 7 => ⟨S9x8, .i32⟩
  | 8 => ⟨S9x8, .i1⟩
  | 9 => ⟨S32768x45x1x8, .f32⟩
  | 10 => ⟨S_, .f32⟩
  | 11 => ⟨S_, .f32⟩
  | 12 => ⟨S32768x45x9x8, .i1⟩
  | 13 => ⟨S32768x45x9x8, .f32⟩
  | 14 => ⟨S32768x45x9x8, .f32⟩
  | 15 => ⟨S32768x45x9x8, .f32⟩
  | 16 => ⟨S_, .f32⟩
  | 17 => ⟨S32768x45x9, .f32⟩
  | 18 => ⟨S_, .f32⟩
  | 19 => ⟨S32768x45x9, .f32⟩
  | 20 => ⟨S32768x45x9, .f32⟩
  | 21 => ⟨S_, .f32⟩
  | 22 => ⟨S32768x45x9, .f32⟩
  | 23 => ⟨S32768x45x9, .f32⟩
  | 24 => ⟨S32768x45x9, .i32⟩
  | 25 => ⟨S_, .i32⟩
  | 26 => ⟨S32768x45x9, .i32⟩
  | 27 => ⟨S32768x45x9, .i1⟩
  | 28 => ⟨S_, .i32⟩
  | 29 => ⟨S32768x45x9, .i32⟩
  | 30 => ⟨S32768x45x9, .i1⟩
  | 31 => ⟨S_, .f32⟩
  | 32 => ⟨S_, .f32⟩
  | 33 => ⟨S32768x45x9, .f32⟩
  | 34 => ⟨S32768x45x9, .f32⟩
  | 35 => ⟨S_, .f32⟩
  | 36 => ⟨S_, .f32⟩
  | 37 => ⟨S32768x45x9, .f32⟩
  | 38 => ⟨S32768x45x9, .f32⟩
  | 39 => ⟨S32768x45x8, .f32⟩
  | 40 => ⟨S32768x45x8, .f32⟩
  | 41 => ⟨S32768x45x8, .f32⟩
  | 42 => ⟨S_, .f32⟩
  | 43 => ⟨S32768x45, .f32⟩
  | 44 => ⟨S_, .f32⟩
  | 45 => ⟨S32768x45, .f32⟩
  | 46 => ⟨S32768x45, .f32⟩
  | 47 => ⟨S32768x45x1, .f32⟩
  | 48 => ⟨S32768x45x8, .f32⟩
  | 49 => ⟨S32768x45x8, .f32⟩
  | 50 => ⟨S32768x45x8, .f32⟩
  | 51 => ⟨S_, .f32⟩
  | 52 => ⟨S32768x45, .f32⟩
  | 53 => ⟨S32768x45x1, .f32⟩
  | 54 => ⟨S32768x45x8, .f32⟩
  | 55 => ⟨S32768x45x8, .f32⟩
  | 56 => ⟨S_, .f32⟩
  | 57 => ⟨S32768x45x8, .f32⟩
  | 58 => ⟨S32768x45x8, .f32⟩
  | 59 => ⟨S_, .f32⟩
  | 60 => ⟨S32768x45x8, .f32⟩
  | 61 => ⟨S32768x45x8, .f32⟩
  | 62 => ⟨S9x8, .i32⟩
  | 63 => ⟨S9x8, .i32⟩
  | 64 => ⟨S9x8, .i1⟩
  | 65 => ⟨S32768x45x1x8, .f32⟩
  | 66 => ⟨S_, .f32⟩
  | 67 => ⟨S_, .f32⟩
  | 68 => ⟨S32768x45x9x8, .i1⟩
  | 69 => ⟨S32768x45x9x8, .f32⟩
  | 70 => ⟨S32768x45x9x8, .f32⟩
  | 71 => ⟨S32768x45x9x8, .f32⟩
  | 72 => ⟨S_, .f32⟩
  | 73 => ⟨S32768x45x9, .f32⟩
  | 74 => ⟨S_, .f32⟩
  | 75 => ⟨S32768x45x9, .f32⟩
  | 76 => ⟨S32768x45x9, .f32⟩
  | 77 => ⟨S_, .f32⟩
  | 78 => ⟨S32768x45x9, .f32⟩
  | 79 => ⟨S32768x45x9, .f32⟩
  | 80 => ⟨S32768x45x9, .i32⟩
  | 81 => ⟨S_, .i32⟩
  | 82 => ⟨S32768x45x9, .i32⟩
  | 83 => ⟨S32768x45x9, .i1⟩
  | 84 => ⟨S_, .i32⟩
  | 85 => ⟨S32768x45x9, .i32⟩
  | 86 => ⟨S32768x45x9, .i1⟩
  | 87 => ⟨S_, .f32⟩
  | 88 => ⟨S_, .f32⟩
  | 89 => ⟨S32768x45x9, .f32⟩
  | 90 => ⟨S32768x45x9, .f32⟩
  | 91 => ⟨S_, .f32⟩
  | 92 => ⟨S_, .f32⟩
  | 93 => ⟨S32768x45x9, .f32⟩
  | 94 => ⟨S32768x45x9, .f32⟩
  | 95 => ⟨S32768x45x8, .f32⟩
  | 96 => ⟨S32768x45x8, .f32⟩
  | 97 => ⟨S32768x45x8, .f32⟩
  | 98 => ⟨S_, .f32⟩
  | 99 => ⟨S32768x45x9, .f32⟩
  | 100 => ⟨S32768x45x9, .f32⟩
  | 101 => ⟨S32768x45x9, .f32⟩
  | 102 => ⟨S32768x45x9, .f32⟩
  | 103 => ⟨S32768x45x9, .i1⟩
  | 104 => ⟨S32768x45x9, .f32⟩
  | 105 => ⟨S32768x45x9, .f32⟩
  | 106 => ⟨S32768x45x9, .f32⟩
  | 107 => ⟨S32768x45x9, .f32⟩
  | 108 => ⟨S32768x45x9, .f32⟩
  | 109 => ⟨S32768x45x9, .f32⟩
  | 110 => ⟨S32768x45x9, .f32⟩
  | 111 => ⟨S32768x45x9, .f32⟩
  | 112 => ⟨S_, .f32⟩
  | 113 => ⟨S32768x45x9, .f32⟩
  | 114 => ⟨S32768x45x9, .f32⟩
  | 115 => ⟨S32768x45x1, .f32⟩
  | 116 => ⟨S32768x45x9, .f32⟩
  | 117 => ⟨S32768x45x9, .i1⟩
  | 118 => ⟨S32768x45x9, .i32⟩
  | 119 => ⟨S_, .i32⟩
  | 120 => ⟨S32768x45, .i32⟩
  | 121 => ⟨S_, .i32⟩
  | 122 => ⟨S32768x45, .i32⟩
  | 123 => ⟨S32768x45, .i32⟩
  | 124 => ⟨S_, .i32⟩
  | 125 => ⟨S_, .i32⟩
  | 126 => ⟨S_, .i32⟩
  | 127 => ⟨S32768x45, .i32⟩
  | _ => ⟨S32768x45, .f32⟩

abbrev hbmTy0_4 (i : Nat) : BufTy := match i % 128 with
  | 0 => ⟨S32768x45, .i32⟩
  | 1 => ⟨S_, .i32⟩
  | 2 => ⟨S32768x45, .i32⟩
  | 3 => ⟨S32768x45, .i32⟩
  | 4 => ⟨S32768x45x1, .i32⟩
  | 5 => ⟨S32768x45x8, .i32⟩
  | 6 => ⟨S32768x45x8, .f32⟩
  | 7 => ⟨S32768x45x8, .i32⟩
  | 8 => ⟨S32768x45x8, .i1⟩
  | 9 => ⟨S_, .f32⟩
  | 10 => ⟨S_, .f32⟩
  | 11 => ⟨S32768x45x8, .f32⟩
  | 12 => ⟨S32768x45x8, .f32⟩
  | 13 => ⟨S_, .f32⟩
  | 14 => ⟨S32768x45, .f32⟩
  | 15 => ⟨S32768x45x8, .i32⟩
  | 16 => ⟨S32768x45x8, .i1⟩
  | 17 => ⟨S_, .f32⟩
  | 18 => ⟨S_, .f32⟩
  | 19 => ⟨S32768x45x8, .f32⟩
  | 20 => ⟨S32768x45x8, .f32⟩
  | 21 => ⟨S_, .f32⟩
  | 22 => ⟨S32768x45, .f32⟩
  | 23 => ⟨S32768x45x8, .f32⟩
  | 24 => ⟨S32768x45x8, .i32⟩
  | 25 => ⟨S32768x45x8, .i1⟩
  | 26 => ⟨S_, .f32⟩
  | 27 => ⟨S_, .f32⟩
  | 28 => ⟨S32768x45x8, .f32⟩
  | 29 => ⟨S32768x45x8, .f32⟩
  | 30 => ⟨S_, .f32⟩
  | 31 => ⟨S32768x45, .f32⟩
  | 32 => ⟨S32768x45x8, .i32⟩
  | 33 => ⟨S32768x45x8, .i1⟩
  | 34 => ⟨S_, .f32⟩
  | 35 => ⟨S_, .f32⟩
  | 36 => ⟨S32768x45x8, .f32⟩
  | 37 => ⟨S32768x45x8, .f32⟩
  | 38 => ⟨S_, .f32⟩
  | 39 => ⟨S32768x45, .f32⟩
  | 40 => ⟨S32768x45x8, .f32⟩
  | 41 => ⟨S32768x45x8, .i32⟩
  | 42 => ⟨S32768x45x8, .i1⟩
  | 43 => ⟨S_, .f32⟩
  | 44 => ⟨S_, .f32⟩
  | 45 => ⟨S32768x45x8, .f32⟩
  | 46 => ⟨S32768x45x8, .f32⟩
  | 47 => ⟨S_, .f32⟩
  | 48 => ⟨S32768x45, .f32⟩
  | 49 => ⟨S32768x45x8, .f32⟩
  | 50 => ⟨S32768x45x8, .i32⟩
  | 51 => ⟨S32768x45x8, .i1⟩
  | 52 => ⟨S_, .f32⟩
  | 53 => ⟨S_, .f32⟩
  | 54 => ⟨S32768x45x8, .f32⟩
  | 55 => ⟨S32768x45x8, .f32⟩
  | 56 => ⟨S_, .f32⟩
  | 57 => ⟨S32768x45, .f32⟩
  | 58 => ⟨S32768x45x8, .f32⟩
  | 59 => ⟨S32768x45x8, .i32⟩
  | 60 => ⟨S32768x45x8, .i1⟩
  | 61 => ⟨S_, .f32⟩
  | 62 => ⟨S_, .f32⟩
  | 63 => ⟨S32768x45x8, .f32⟩
  | 64 => ⟨S32768x45x8, .f32⟩
  | 65 => ⟨S_, .f32⟩
  | 66 => ⟨S32768x45, .f32⟩
  | 67 => ⟨S32768x45, .f32⟩
  | 68 => ⟨S32768x45, .f32⟩
  | 69 => ⟨S_, .f32⟩
  | 70 => ⟨S32768x45, .f32⟩
  | 71 => ⟨S32768x45, .f32⟩
  | 72 => ⟨S32768x45, .f32⟩
  | 73 => ⟨S32768x45, .f32⟩
  | 74 => ⟨S_, .f32⟩
  | 75 => ⟨S32768x45, .f32⟩
  | 76 => ⟨S32768x45, .f32⟩
  | 77 => ⟨S32768x45, .f32⟩
  | 78 => ⟨S32768x45, .f32⟩
  | 79 => ⟨S32768x45, .f32⟩
  | 80 => ⟨S32768x45, .f32⟩
  | 81 => ⟨S32768x45, .f32⟩
  | 82 => ⟨S32768x45, .f32⟩
  | 83 => ⟨S32768x45, .f32⟩
  | 84 => ⟨S32768x45, .f32⟩
  | 85 => ⟨S32768x45, .f32⟩
  | 86 => ⟨S32768x45, .f32⟩
  | 87 => ⟨S32768x45, .f32⟩
  | 88 => ⟨S32768x45, .f32⟩
  | 89 => ⟨S32768x45, .f32⟩
  | 90 => ⟨S_, .f32⟩
  | 91 => ⟨S32768x45, .f32⟩
  | 92 => ⟨S32768x45, .f32⟩
  | 93 => ⟨S32768x45, .f32⟩
  | 94 => ⟨S32768x45, .f32⟩
  | 95 => ⟨S_, .f32⟩
  | 96 => ⟨S32768x45, .f32⟩
  | 97 => ⟨S32768x45, .f32⟩
  | 98 => ⟨S32768x45, .f32⟩
  | 99 => ⟨S32768x45, .f32⟩
  | 100 => ⟨S32768x45, .f32⟩
  | 101 => ⟨S32768x45, .f32⟩
  | 102 => ⟨S32768x45, .f32⟩
  | 103 => ⟨S32768x45, .f32⟩
  | 104 => ⟨S_, .f32⟩
  | 105 => ⟨S32768x45, .f32⟩
  | 106 => ⟨S32768x45, .f32⟩
  | 107 => ⟨S32768x45, .f32⟩
  | 108 => ⟨S32768x45, .f32⟩
  | 109 => ⟨S_, .f32⟩
  | 110 => ⟨S_, .f32⟩
  | 111 => ⟨S32768x45, .f32⟩
  | 112 => ⟨S32768x45, .f32⟩
  | 113 => ⟨S_, .f32⟩
  | 114 => ⟨S32768, .f32⟩
  | 115 => ⟨S32768, .f32⟩
  | 116 => ⟨S_, .i32⟩
  | 117 => ⟨S_, .i32⟩
  | 118 => ⟨S32768x45, .f32⟩
  | 119 => ⟨S_, .f32⟩
  | 120 => ⟨S32768, .f32⟩
  | 121 => ⟨S_, .f32⟩
  | 122 => ⟨S32768, .f32⟩
  | 123 => ⟨S32768, .f32⟩
  | 124 => ⟨S_, .f32⟩
  | 125 => ⟨S32768, .f32⟩
  | 126 => ⟨S32768, .f32⟩
  | 127 => ⟨S32768, .f32⟩
  | _ => ⟨S32768x45, .f32⟩

abbrev hbmTy0_5 (i : Nat) : BufTy := match i % 128 with
  | 0 => ⟨S1x32768, .f32⟩
  | _ => ⟨S32768x45, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32768x45, .f32⟩

abbrev bufTy : (tb : Table) → Fin (tcTables nBuf tb) → BufTy
  | .hbm, ⟨i, _⟩ => hbmTy i
  | _, _ => ⟨S32768x45, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_c_0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev main_v1_4 : Ref sig .tc := ⟨.hbm, 18, rfl⟩
abbrev main_v1_5 : Ref sig .tc := ⟨.hbm, 19, rfl⟩
abbrev main_v1_6 : Ref sig .tc := ⟨.hbm, 20, rfl⟩
abbrev main_v1_7 : Ref sig .tc := ⟨.hbm, 21, rfl⟩
abbrev main_v1_8 : Ref sig .tc := ⟨.hbm, 22, rfl⟩
abbrev main_v1_9 : Ref sig .tc := ⟨.hbm, 23, rfl⟩
abbrev main_v1_10 : Ref sig .tc := ⟨.hbm, 24, rfl⟩
abbrev main_v1_11 : Ref sig .tc := ⟨.hbm, 25, rfl⟩
abbrev main_v1_12 : Ref sig .tc := ⟨.hbm, 26, rfl⟩
abbrev main_while0c_c_16 : Ref sig .tc := ⟨.hbm, 27, rfl⟩
abbrev main_while0c_v10 : Ref sig .tc := ⟨.hbm, 28, rfl⟩
abbrev main_while0b_c_16 : Ref sig .tc := ⟨.hbm, 29, rfl⟩
abbrev main_while0b_v10 : Ref sig .tc := ⟨.hbm, 30, rfl⟩
abbrev main_while0b_v11 : Ref sig .tc := ⟨.hbm, 31, rfl⟩
abbrev main_while0b_c_17 : Ref sig .tc := ⟨.hbm, 32, rfl⟩
abbrev main_while0b_v12 : Ref sig .tc := ⟨.hbm, 33, rfl⟩
abbrev main_while0b_v13 : Ref sig .tc := ⟨.hbm, 34, rfl⟩
abbrev main_while0b_v14 : Ref sig .tc := ⟨.hbm, 35, rfl⟩
abbrev main_while0b_v15 : Ref sig .tc := ⟨.hbm, 36, rfl⟩
abbrev main_while0b_cst_18 : Ref sig .tc := ⟨.hbm, 37, rfl⟩
abbrev main_while0b_cst_19 : Ref sig .tc := ⟨.hbm, 38, rfl⟩
abbrev main_while0b_call0_v0 : Ref sig .tc := ⟨.hbm, 39, rfl⟩
abbrev main_while0b_call0_v1 : Ref sig .tc := ⟨.hbm, 40, rfl⟩
abbrev main_while0b_v16 : Ref sig .tc := ⟨.hbm, 41, rfl⟩
abbrev main_while0b_v17 : Ref sig .tc := ⟨.hbm, 42, rfl⟩
abbrev main_while0b_c_20 : Ref sig .tc := ⟨.hbm, 43, rfl⟩
abbrev main_while0b_v18 : Ref sig .tc := ⟨.hbm, 44, rfl⟩
abbrev main_while0b_v19 : Ref sig .tc := ⟨.hbm, 45, rfl⟩
abbrev main_while0b_v20 : Ref sig .tc := ⟨.hbm, 46, rfl⟩
abbrev main_while0b_c_21 : Ref sig .tc := ⟨.hbm, 47, rfl⟩
abbrev main_while0b_v21 : Ref sig .tc := ⟨.hbm, 48, rfl⟩
abbrev main_while0b_v22 : Ref sig .tc := ⟨.hbm, 49, rfl⟩
abbrev main_while0b_v23 : Ref sig .tc := ⟨.hbm, 50, rfl⟩
abbrev main_while0b_cst_22 : Ref sig .tc := ⟨.hbm, 51, rfl⟩
abbrev main_while0b_cst_23 : Ref sig .tc := ⟨.hbm, 52, rfl⟩
abbrev main_while0b_call1_v0 : Ref sig .tc := ⟨.hbm, 53, rfl⟩
abbrev main_while0b_call1_v1 : Ref sig .tc := ⟨.hbm, 54, rfl⟩
abbrev main_while0b_v24 : Ref sig .tc := ⟨.hbm, 55, rfl⟩
abbrev main_while0b_v25 : Ref sig .tc := ⟨.hbm, 56, rfl⟩
abbrev main_while0b_c_24 : Ref sig .tc := ⟨.hbm, 57, rfl⟩
abbrev main_while0b_v26 : Ref sig .tc := ⟨.hbm, 58, rfl⟩
abbrev main_while0b_v27 : Ref sig .tc := ⟨.hbm, 59, rfl⟩
abbrev main_while0b_v28 : Ref sig .tc := ⟨.hbm, 60, rfl⟩
abbrev main_while0b_c_25 : Ref sig .tc := ⟨.hbm, 61, rfl⟩
abbrev main_while0b_v29 : Ref sig .tc := ⟨.hbm, 62, rfl⟩
abbrev main_while0b_v30 : Ref sig .tc := ⟨.hbm, 63, rfl⟩
abbrev main_while0b_v31 : Ref sig .tc := ⟨.hbm, 64, rfl⟩
abbrev main_while0b_cst_26 : Ref sig .tc := ⟨.hbm, 65, rfl⟩
abbrev main_while0b_cst_27 : Ref sig .tc := ⟨.hbm, 66, rfl⟩
abbrev main_while0b_call2_v0 : Ref sig .tc := ⟨.hbm, 67, rfl⟩
abbrev main_while0b_call2_v1 : Ref sig .tc := ⟨.hbm, 68, rfl⟩
abbrev main_while0b_v32 : Ref sig .tc := ⟨.hbm, 69, rfl⟩
abbrev main_while0b_v33 : Ref sig .tc := ⟨.hbm, 70, rfl⟩
abbrev main_while0b_c_28 : Ref sig .tc := ⟨.hbm, 71, rfl⟩
abbrev main_while0b_v34 : Ref sig .tc := ⟨.hbm, 72, rfl⟩
abbrev main_while0b_c_29 : Ref sig .tc := ⟨.hbm, 73, rfl⟩
abbrev main_while0b_v35 : Ref sig .tc := ⟨.hbm, 74, rfl⟩
abbrev main_while0b_v36 : Ref sig .tc := ⟨.hbm, 75, rfl⟩
abbrev main_while0b_c_30 : Ref sig .tc := ⟨.hbm, 76, rfl⟩
abbrev main_while0b_c_31 : Ref sig .tc := ⟨.hbm, 77, rfl⟩
abbrev main_while0b_v37 : Ref sig .tc := ⟨.hbm, 78, rfl⟩
abbrev main_while0b_c_32 : Ref sig .tc := ⟨.hbm, 79, rfl⟩
abbrev main_while0b_c_33 : Ref sig .tc := ⟨.hbm, 80, rfl⟩
abbrev main_while0b_v38 : Ref sig .tc := ⟨.hbm, 81, rfl⟩
abbrev main_while0b_c_34 : Ref sig .tc := ⟨.hbm, 82, rfl⟩
abbrev main_while0b_v39 : Ref sig .tc := ⟨.hbm, 83, rfl⟩
abbrev main_while0b_c_35 : Ref sig .tc := ⟨.hbm, 84, rfl⟩
abbrev main_while0b_c_36 : Ref sig .tc := ⟨.hbm, 85, rfl⟩
abbrev main_while0b_v40 : Ref sig .tc := ⟨.hbm, 86, rfl⟩
abbrev main_while0b_c_37 : Ref sig .tc := ⟨.hbm, 87, rfl⟩
abbrev main_while0b_c_38 : Ref sig .tc := ⟨.hbm, 88, rfl⟩
abbrev main_while0b_v41 : Ref sig .tc := ⟨.hbm, 89, rfl⟩
abbrev main_while0b_c_39 : Ref sig .tc := ⟨.hbm, 90, rfl⟩
abbrev main_while0b_v42 : Ref sig .tc := ⟨.hbm, 91, rfl⟩
abbrev main_while0b_v43 : Ref sig .tc := ⟨.hbm, 92, rfl⟩
abbrev main_while0b_v44 : Ref sig .tc := ⟨.hbm, 93, rfl⟩
abbrev main_while0b_v45 : Ref sig .tc := ⟨.hbm, 94, rfl⟩
abbrev main_while0b_v46 : Ref sig .tc := ⟨.hbm, 95, rfl⟩
abbrev main_while0b_v47 : Ref sig .tc := ⟨.hbm, 96, rfl⟩
abbrev main_while0b_v48 : Ref sig .tc := ⟨.hbm, 97, rfl⟩
abbrev main_while0b_v49 : Ref sig .tc := ⟨.hbm, 98, rfl⟩
abbrev main_while0b_c_40 : Ref sig .tc := ⟨.hbm, 99, rfl⟩
abbrev main_while0b_v50 : Ref sig .tc := ⟨.hbm, 100, rfl⟩
abbrev main_while0b_c_41 : Ref sig .tc := ⟨.hbm, 101, rfl⟩
abbrev main_while0b_v51 : Ref sig .tc := ⟨.hbm, 102, rfl⟩
abbrev main_while0b_v52 : Ref sig .tc := ⟨.hbm, 103, rfl⟩
abbrev main_while0b_c_42 : Ref sig .tc := ⟨.hbm, 104, rfl⟩
abbrev main_while0b_c_43 : Ref sig .tc := ⟨.hbm, 105, rfl⟩
abbrev main_while0b_v53 : Ref sig .tc := ⟨.hbm, 106, rfl⟩
abbrev main_while0b_c_44 : Ref sig .tc := ⟨.hbm, 107, rfl⟩
abbrev main_while0b_c_45 : Ref sig .tc := ⟨.hbm, 108, rfl⟩
abbrev main_while0b_v54 : Ref sig .tc := ⟨.hbm, 109, rfl⟩
abbrev main_while0b_c_46 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_v61 : Ref sig .tc := ⟨.hbm, 117, rfl⟩
abbrev main_while0b_c_47 : Ref sig .tc := ⟨.hbm, 118, rfl⟩
abbrev main_while0b_v62 : Ref sig .tc := ⟨.hbm, 119, rfl⟩
abbrev main_while0b_c_48 : Ref sig .tc := ⟨.hbm, 120, rfl⟩
abbrev main_while0b_v63 : Ref sig .tc := ⟨.hbm, 121, rfl⟩
abbrev main_while0b_v64 : Ref sig .tc := ⟨.hbm, 122, rfl⟩
abbrev main_while0b_c_49 : Ref sig .tc := ⟨.hbm, 123, rfl⟩
abbrev main_while0b_c_50 : Ref sig .tc := ⟨.hbm, 124, rfl⟩
abbrev main_while0b_v65 : Ref sig .tc := ⟨.hbm, 125, rfl⟩
abbrev main_while0b_c_51 : Ref sig .tc := ⟨.hbm, 126, rfl⟩
abbrev main_while0b_c_52 : Ref sig .tc := ⟨.hbm, 127, rfl⟩
abbrev main_while0b_v66 : Ref sig .tc := ⟨.hbm, 128, rfl⟩
abbrev main_while0b_c_53 : Ref sig .tc := ⟨.hbm, 129, rfl⟩
abbrev main_while0b_v67 : Ref sig .tc := ⟨.hbm, 130, rfl⟩
abbrev main_while0b_c_54 : Ref sig .tc := ⟨.hbm, 131, rfl⟩
abbrev main_while0b_c_55 : Ref sig .tc := ⟨.hbm, 132, rfl⟩
abbrev main_while0b_v68 : Ref sig .tc := ⟨.hbm, 133, rfl⟩
abbrev main_while0b_c_56 : Ref sig .tc := ⟨.hbm, 134, rfl⟩
abbrev main_while0b_c_57 : Ref sig .tc := ⟨.hbm, 135, rfl⟩
abbrev main_while0b_v69 : Ref sig .tc := ⟨.hbm, 136, rfl⟩
abbrev main_while0b_c_58 : Ref sig .tc := ⟨.hbm, 137, rfl⟩
abbrev main_while0b_v70 : Ref sig .tc := ⟨.hbm, 138, rfl⟩
abbrev main_while0b_v71 : Ref sig .tc := ⟨.hbm, 139, rfl⟩
abbrev main_while0b_v72 : Ref sig .tc := ⟨.hbm, 140, rfl⟩
abbrev main_while0b_v73 : Ref sig .tc := ⟨.hbm, 141, rfl⟩
abbrev main_while0b_v74 : Ref sig .tc := ⟨.hbm, 142, rfl⟩
abbrev main_while0b_v75 : Ref sig .tc := ⟨.hbm, 143, rfl⟩
abbrev main_while0b_v76 : Ref sig .tc := ⟨.hbm, 144, rfl⟩
abbrev main_while0b_c_59 : Ref sig .tc := ⟨.hbm, 145, rfl⟩
abbrev main_while0b_v77 : Ref sig .tc := ⟨.hbm, 146, rfl⟩
abbrev main_while0b_c_60 : Ref sig .tc := ⟨.hbm, 147, rfl⟩
abbrev main_while0b_v78 : Ref sig .tc := ⟨.hbm, 148, rfl⟩
abbrev main_while0b_v79 : Ref sig .tc := ⟨.hbm, 149, rfl⟩
abbrev main_while0b_c_61 : Ref sig .tc := ⟨.hbm, 150, rfl⟩
abbrev main_while0b_c_62 : Ref sig .tc := ⟨.hbm, 151, rfl⟩
abbrev main_while0b_v80 : Ref sig .tc := ⟨.hbm, 152, rfl⟩
abbrev main_while0b_c_63 : Ref sig .tc := ⟨.hbm, 153, rfl⟩
abbrev main_while0b_c_64 : Ref sig .tc := ⟨.hbm, 154, rfl⟩
abbrev main_while0b_v81 : Ref sig .tc := ⟨.hbm, 155, rfl⟩
abbrev main_while0b_c_65 : Ref sig .tc := ⟨.hbm, 156, rfl⟩
abbrev main_while0b_v82 : Ref sig .tc := ⟨.hbm, 157, rfl⟩
abbrev main_while0b_v83 : Ref sig .tc := ⟨.hbm, 158, rfl⟩
abbrev main_while0b_v84 : Ref sig .tc := ⟨.hbm, 159, rfl⟩
abbrev main_while0b_v85 : Ref sig .tc := ⟨.hbm, 160, rfl⟩
abbrev main_while0b_v86 : Ref sig .tc := ⟨.hbm, 161, rfl⟩
abbrev main_while0b_v87 : Ref sig .tc := ⟨.hbm, 162, rfl⟩
abbrev main_while0b_v88 : Ref sig .tc := ⟨.hbm, 163, rfl⟩
abbrev main_while0b_c_66 : Ref sig .tc := ⟨.hbm, 164, rfl⟩
abbrev main_while0b_v89 : Ref sig .tc := ⟨.hbm, 165, rfl⟩
abbrev main_while0b_c_67 : Ref sig .tc := ⟨.hbm, 166, rfl⟩
abbrev main_while0b_v90 : Ref sig .tc := ⟨.hbm, 167, rfl⟩
abbrev main_while0b_v91 : Ref sig .tc := ⟨.hbm, 168, rfl⟩
abbrev main_while0b_c_68 : Ref sig .tc := ⟨.hbm, 169, rfl⟩
abbrev main_while0b_c_69 : Ref sig .tc := ⟨.hbm, 170, rfl⟩
abbrev main_while0b_v92 : Ref sig .tc := ⟨.hbm, 171, rfl⟩
abbrev main_while0b_c_70 : Ref sig .tc := ⟨.hbm, 172, rfl⟩
abbrev main_while0b_c_71 : Ref sig .tc := ⟨.hbm, 173, rfl⟩
abbrev main_while0b_v93 : Ref sig .tc := ⟨.hbm, 174, rfl⟩
abbrev main_while0b_c_72 : Ref sig .tc := ⟨.hbm, 175, rfl⟩
abbrev main_while0b_v94 : Ref sig .tc := ⟨.hbm, 176, rfl⟩
abbrev main_while0b_c_73 : Ref sig .tc := ⟨.hbm, 177, rfl⟩
abbrev main_while0b_c_74 : Ref sig .tc := ⟨.hbm, 178, rfl⟩
abbrev main_while0b_v95 : Ref sig .tc := ⟨.hbm, 179, rfl⟩
abbrev main_while0b_c_75 : Ref sig .tc := ⟨.hbm, 180, rfl⟩
abbrev main_while0b_c_76 : Ref sig .tc := ⟨.hbm, 181, rfl⟩
abbrev main_while0b_v96 : Ref sig .tc := ⟨.hbm, 182, rfl⟩
abbrev main_while0b_c_77 : Ref sig .tc := ⟨.hbm, 183, rfl⟩
abbrev main_while0b_v97 : Ref sig .tc := ⟨.hbm, 184, rfl⟩
abbrev main_while0b_c_78 : Ref sig .tc := ⟨.hbm, 185, rfl⟩
abbrev main_while0b_c_79 : Ref sig .tc := ⟨.hbm, 186, rfl⟩
abbrev main_while0b_v98 : Ref sig .tc := ⟨.hbm, 187, rfl⟩
abbrev main_while0b_c_80 : Ref sig .tc := ⟨.hbm, 188, rfl⟩
abbrev main_while0b_c_81 : Ref sig .tc := ⟨.hbm, 189, rfl⟩
abbrev main_while0b_v99 : Ref sig .tc := ⟨.hbm, 190, rfl⟩
abbrev main_while0b_c_82 : Ref sig .tc := ⟨.hbm, 191, rfl⟩
abbrev main_while0b_v100 : Ref sig .tc := ⟨.hbm, 192, rfl⟩
abbrev main_while0b_v101 : Ref sig .tc := ⟨.hbm, 193, rfl⟩
abbrev main_while0b_v102 : Ref sig .tc := ⟨.hbm, 194, rfl⟩
abbrev main_while0b_v103 : Ref sig .tc := ⟨.hbm, 195, rfl⟩
abbrev main_while0b_v104 : Ref sig .tc := ⟨.hbm, 196, rfl⟩
abbrev main_while0b_v105 : Ref sig .tc := ⟨.hbm, 197, rfl⟩
abbrev main_while0b_v106 : Ref sig .tc := ⟨.hbm, 198, rfl⟩
abbrev main_while0b_v107 : Ref sig .tc := ⟨.hbm, 199, rfl⟩
abbrev main_while0b_c_83 : Ref sig .tc := ⟨.hbm, 200, rfl⟩
abbrev main_while0b_v108 : Ref sig .tc := ⟨.hbm, 201, rfl⟩
abbrev main_while0b_c_84 : Ref sig .tc := ⟨.hbm, 202, rfl⟩
abbrev main_while0b_v109 : Ref sig .tc := ⟨.hbm, 203, rfl⟩
abbrev main_while0b_v110 : Ref sig .tc := ⟨.hbm, 204, rfl⟩
abbrev main_while0b_c_85 : Ref sig .tc := ⟨.hbm, 205, rfl⟩
abbrev main_while0b_c_86 : Ref sig .tc := ⟨.hbm, 206, rfl⟩
abbrev main_while0b_v111 : Ref sig .tc := ⟨.hbm, 207, rfl⟩
abbrev main_while0b_c_87 : Ref sig .tc := ⟨.hbm, 208, rfl⟩
abbrev main_while0b_c_88 : Ref sig .tc := ⟨.hbm, 209, rfl⟩
abbrev main_while0b_v112 : Ref sig .tc := ⟨.hbm, 210, rfl⟩
abbrev main_while0b_c_89 : Ref sig .tc := ⟨.hbm, 211, rfl⟩
abbrev main_while0b_v113 : Ref sig .tc := ⟨.hbm, 212, rfl⟩
abbrev main_while0b_c_90 : Ref sig .tc := ⟨.hbm, 213, rfl⟩
abbrev main_while0b_c_91 : Ref sig .tc := ⟨.hbm, 214, rfl⟩
abbrev main_while0b_v114 : Ref sig .tc := ⟨.hbm, 215, rfl⟩
abbrev main_while0b_c_92 : Ref sig .tc := ⟨.hbm, 216, rfl⟩
abbrev main_while0b_c_93 : Ref sig .tc := ⟨.hbm, 217, rfl⟩
abbrev main_while0b_v115 : Ref sig .tc := ⟨.hbm, 218, rfl⟩
abbrev main_while0b_c_94 : Ref sig .tc := ⟨.hbm, 219, rfl⟩
abbrev main_while0b_v116 : Ref sig .tc := ⟨.hbm, 220, rfl⟩
abbrev main_while0b_v117 : Ref sig .tc := ⟨.hbm, 221, rfl⟩
abbrev main_while0b_v118 : Ref sig .tc := ⟨.hbm, 222, rfl⟩
abbrev main_while0b_v119 : Ref sig .tc := ⟨.hbm, 223, rfl⟩
abbrev main_while0b_v120 : Ref sig .tc := ⟨.hbm, 224, rfl⟩
abbrev main_while0b_v121 : Ref sig .tc := ⟨.hbm, 225, rfl⟩
abbrev main_while0b_cst_95 : Ref sig .tc := ⟨.hbm, 226, rfl⟩
abbrev main_while0b_v122 : Ref sig .tc := ⟨.hbm, 227, rfl⟩
abbrev main_while0b_v123 : Ref sig .tc := ⟨.hbm, 228, rfl⟩
abbrev main_while0b_v124 : Ref sig .tc := ⟨.hbm, 229, rfl⟩
abbrev main_while0b_c_96 : Ref sig .tc := ⟨.hbm, 230, rfl⟩
abbrev main_while0b_v125 : Ref sig .tc := ⟨.hbm, 231, rfl⟩
abbrev main_while0b_c_97 : Ref sig .tc := ⟨.hbm, 232, rfl⟩
abbrev main_while0b_v126 : Ref sig .tc := ⟨.hbm, 233, rfl⟩
abbrev main_while0b_v127 : Ref sig .tc := ⟨.hbm, 234, rfl⟩
abbrev main_while0b_c_98 : Ref sig .tc := ⟨.hbm, 235, rfl⟩
abbrev main_while0b_c_99 : Ref sig .tc := ⟨.hbm, 236, rfl⟩
abbrev main_while0b_v128 : Ref sig .tc := ⟨.hbm, 237, rfl⟩
abbrev main_while0b_c_100 : Ref sig .tc := ⟨.hbm, 238, rfl⟩
abbrev main_while0b_c_101 : Ref sig .tc := ⟨.hbm, 239, rfl⟩
abbrev main_while0b_v129 : Ref sig .tc := ⟨.hbm, 240, rfl⟩
abbrev main_while0b_c_102 : Ref sig .tc := ⟨.hbm, 241, rfl⟩
abbrev main_while0b_v130 : Ref sig .tc := ⟨.hbm, 242, rfl⟩
abbrev main_while0b_c_103 : Ref sig .tc := ⟨.hbm, 243, rfl⟩
abbrev main_while0b_c_104 : Ref sig .tc := ⟨.hbm, 244, rfl⟩
abbrev main_while0b_v131 : Ref sig .tc := ⟨.hbm, 245, rfl⟩
abbrev main_while0b_c_105 : Ref sig .tc := ⟨.hbm, 246, rfl⟩
abbrev main_while0b_c_106 : Ref sig .tc := ⟨.hbm, 247, rfl⟩
abbrev main_while0b_v132 : Ref sig .tc := ⟨.hbm, 248, rfl⟩
abbrev main_while0b_c_107 : Ref sig .tc := ⟨.hbm, 249, rfl⟩
abbrev main_while0b_v133 : Ref sig .tc := ⟨.hbm, 250, rfl⟩
abbrev main_while0b_c_108 : Ref sig .tc := ⟨.hbm, 251, rfl⟩
abbrev main_while0b_c_109 : Ref sig .tc := ⟨.hbm, 252, rfl⟩
abbrev main_while0b_v134 : Ref sig .tc := ⟨.hbm, 253, rfl⟩
abbrev main_while0b_c_110 : Ref sig .tc := ⟨.hbm, 254, rfl⟩
abbrev main_while0b_c_111 : Ref sig .tc := ⟨.hbm, 255, rfl⟩
abbrev main_while0b_v135 : Ref sig .tc := ⟨.hbm, 256, rfl⟩
abbrev main_while0b_c_112 : Ref sig .tc := ⟨.hbm, 257, rfl⟩
abbrev main_while0b_v136 : Ref sig .tc := ⟨.hbm, 258, rfl⟩
abbrev main_while0b_v137 : Ref sig .tc := ⟨.hbm, 259, rfl⟩
abbrev main_while0b_v138 : Ref sig .tc := ⟨.hbm, 260, rfl⟩
abbrev main_while0b_v139 : Ref sig .tc := ⟨.hbm, 261, rfl⟩
abbrev main_while0b_v140 : Ref sig .tc := ⟨.hbm, 262, rfl⟩
abbrev main_while0b_v141 : Ref sig .tc := ⟨.hbm, 263, rfl⟩
abbrev main_while0b_v142 : Ref sig .tc := ⟨.hbm, 264, rfl⟩
abbrev main_while0b_v143 : Ref sig .tc := ⟨.hbm, 265, rfl⟩
abbrev main_while0b_c_113 : Ref sig .tc := ⟨.hbm, 266, rfl⟩
abbrev main_while0b_v144 : Ref sig .tc := ⟨.hbm, 267, rfl⟩
abbrev main_while0b_c_114 : Ref sig .tc := ⟨.hbm, 268, rfl⟩
abbrev main_while0b_v145 : Ref sig .tc := ⟨.hbm, 269, rfl⟩
abbrev main_while0b_v146 : Ref sig .tc := ⟨.hbm, 270, rfl⟩
abbrev main_while0b_c_115 : Ref sig .tc := ⟨.hbm, 271, rfl⟩
abbrev main_while0b_c_116 : Ref sig .tc := ⟨.hbm, 272, rfl⟩
abbrev main_while0b_v147 : Ref sig .tc := ⟨.hbm, 273, rfl⟩
abbrev main_while0b_c_117 : Ref sig .tc := ⟨.hbm, 274, rfl⟩
abbrev main_while0b_c_118 : Ref sig .tc := ⟨.hbm, 275, rfl⟩
abbrev main_while0b_v148 : Ref sig .tc := ⟨.hbm, 276, rfl⟩
abbrev main_while0b_c_119 : Ref sig .tc := ⟨.hbm, 277, rfl⟩
abbrev main_while0b_v149 : Ref sig .tc := ⟨.hbm, 278, rfl⟩
abbrev main_while0b_c_120 : Ref sig .tc := ⟨.hbm, 279, rfl⟩
abbrev main_while0b_c_121 : Ref sig .tc := ⟨.hbm, 280, rfl⟩
abbrev main_while0b_v150 : Ref sig .tc := ⟨.hbm, 281, rfl⟩
abbrev main_while0b_c_122 : Ref sig .tc := ⟨.hbm, 282, rfl⟩
abbrev main_while0b_c_123 : Ref sig .tc := ⟨.hbm, 283, rfl⟩
abbrev main_while0b_v151 : Ref sig .tc := ⟨.hbm, 284, rfl⟩
abbrev main_while0b_c_124 : Ref sig .tc := ⟨.hbm, 285, rfl⟩
abbrev main_while0b_v152 : Ref sig .tc := ⟨.hbm, 286, rfl⟩
abbrev main_while0b_v153 : Ref sig .tc := ⟨.hbm, 287, rfl⟩
abbrev main_while0b_v154 : Ref sig .tc := ⟨.hbm, 288, rfl⟩
abbrev main_while0b_v155 : Ref sig .tc := ⟨.hbm, 289, rfl⟩
abbrev main_while0b_v156 : Ref sig .tc := ⟨.hbm, 290, rfl⟩
abbrev main_while0b_v157 : Ref sig .tc := ⟨.hbm, 291, rfl⟩
abbrev main_while0b_cst_125 : Ref sig .tc := ⟨.hbm, 292, rfl⟩
abbrev main_while0b_v158 : Ref sig .tc := ⟨.hbm, 293, rfl⟩
abbrev main_while0b_v159 : Ref sig .tc := ⟨.hbm, 294, rfl⟩
abbrev main_while0b_v160 : Ref sig .tc := ⟨.hbm, 295, rfl⟩
abbrev main_while0b_c_126 : Ref sig .tc := ⟨.hbm, 296, rfl⟩
abbrev main_while0b_v161 : Ref sig .tc := ⟨.hbm, 297, rfl⟩
abbrev main_while0b_c_127 : Ref sig .tc := ⟨.hbm, 298, rfl⟩
abbrev main_while0b_v162 : Ref sig .tc := ⟨.hbm, 299, rfl⟩
abbrev main_while0b_v163 : Ref sig .tc := ⟨.hbm, 300, rfl⟩
abbrev main_while0b_c_128 : Ref sig .tc := ⟨.hbm, 301, rfl⟩
abbrev main_while0b_c_129 : Ref sig .tc := ⟨.hbm, 302, rfl⟩
abbrev main_while0b_v164 : Ref sig .tc := ⟨.hbm, 303, rfl⟩
abbrev main_while0b_c_130 : Ref sig .tc := ⟨.hbm, 304, rfl⟩
abbrev main_while0b_c_131 : Ref sig .tc := ⟨.hbm, 305, rfl⟩
abbrev main_while0b_v165 : Ref sig .tc := ⟨.hbm, 306, rfl⟩
abbrev main_while0b_c_132 : Ref sig .tc := ⟨.hbm, 307, rfl⟩
abbrev main_while0b_v166 : Ref sig .tc := ⟨.hbm, 308, rfl⟩
abbrev main_while0b_c_133 : Ref sig .tc := ⟨.hbm, 309, rfl⟩
abbrev main_while0b_c_134 : Ref sig .tc := ⟨.hbm, 310, rfl⟩
abbrev main_while0b_v167 : Ref sig .tc := ⟨.hbm, 311, rfl⟩
abbrev main_while0b_c_135 : Ref sig .tc := ⟨.hbm, 312, rfl⟩
abbrev main_while0b_c_136 : Ref sig .tc := ⟨.hbm, 313, rfl⟩
abbrev main_while0b_v168 : Ref sig .tc := ⟨.hbm, 314, rfl⟩
abbrev main_while0b_c_137 : Ref sig .tc := ⟨.hbm, 315, rfl⟩
abbrev main_while0b_v169 : Ref sig .tc := ⟨.hbm, 316, rfl⟩
abbrev main_while0b_v170 : Ref sig .tc := ⟨.hbm, 317, rfl⟩
abbrev main_while0b_v171 : Ref sig .tc := ⟨.hbm, 318, rfl⟩
abbrev main_while0b_v172 : Ref sig .tc := ⟨.hbm, 319, rfl⟩
abbrev main_while0b_v173 : Ref sig .tc := ⟨.hbm, 320, rfl⟩
abbrev main_while0b_v174 : Ref sig .tc := ⟨.hbm, 321, rfl⟩
abbrev main_while0b_v175 : Ref sig .tc := ⟨.hbm, 322, rfl⟩
abbrev main_while0b_v176 : Ref sig .tc := ⟨.hbm, 323, rfl⟩
abbrev main_while0b_c_138 : Ref sig .tc := ⟨.hbm, 324, rfl⟩
abbrev main_while0b_v177 : Ref sig .tc := ⟨.hbm, 325, rfl⟩
abbrev main_while0b_c_139 : Ref sig .tc := ⟨.hbm, 326, rfl⟩
abbrev main_while0b_v178 : Ref sig .tc := ⟨.hbm, 327, rfl⟩
abbrev main_while0b_v179 : Ref sig .tc := ⟨.hbm, 328, rfl⟩
abbrev main_while0b_c_140 : Ref sig .tc := ⟨.hbm, 329, rfl⟩
abbrev main_while0b_c_141 : Ref sig .tc := ⟨.hbm, 330, rfl⟩
abbrev main_while0b_v180 : Ref sig .tc := ⟨.hbm, 331, rfl⟩
abbrev main_while0b_c_142 : Ref sig .tc := ⟨.hbm, 332, rfl⟩
abbrev main_while0b_c_143 : Ref sig .tc := ⟨.hbm, 333, rfl⟩
abbrev main_while0b_v181 : Ref sig .tc := ⟨.hbm, 334, rfl⟩
abbrev main_while0b_c_144 : Ref sig .tc := ⟨.hbm, 335, rfl⟩
abbrev main_while0b_v182 : Ref sig .tc := ⟨.hbm, 336, rfl⟩
abbrev main_while0b_v183 : Ref sig .tc := ⟨.hbm, 337, rfl⟩
abbrev main_while0b_v184 : Ref sig .tc := ⟨.hbm, 338, rfl⟩
abbrev main_while0b_v185 : Ref sig .tc := ⟨.hbm, 339, rfl⟩
abbrev main_while0b_v186 : Ref sig .tc := ⟨.hbm, 340, rfl⟩
abbrev main_while0b_v187 : Ref sig .tc := ⟨.hbm, 341, rfl⟩
abbrev main_while0b_v188 : Ref sig .tc := ⟨.hbm, 342, rfl⟩
abbrev main_while0b_v189 : Ref sig .tc := ⟨.hbm, 343, rfl⟩
abbrev main_while0b_cst_145 : Ref sig .tc := ⟨.hbm, 344, rfl⟩
abbrev main_while0b_v190 : Ref sig .tc := ⟨.hbm, 345, rfl⟩
abbrev main_while0b_v191 : Ref sig .tc := ⟨.hbm, 346, rfl⟩
abbrev main_while0b_v192 : Ref sig .tc := ⟨.hbm, 347, rfl⟩
abbrev main_while0b_cst_146 : Ref sig .tc := ⟨.hbm, 348, rfl⟩
abbrev main_while0b_v193 : Ref sig .tc := ⟨.hbm, 349, rfl⟩
abbrev main_while0b_v194 : Ref sig .tc := ⟨.hbm, 350, rfl⟩
abbrev main_while0b_v195 : Ref sig .tc := ⟨.hbm, 351, rfl⟩
abbrev main_while0b_cst_147 : Ref sig .tc := ⟨.hbm, 352, rfl⟩
abbrev main_while0b_call3_v0 : Ref sig .tc := ⟨.hbm, 353, rfl⟩
abbrev main_while0b_v196 : Ref sig .tc := ⟨.hbm, 354, rfl⟩
abbrev main_while0b_cst_148 : Ref sig .tc := ⟨.hbm, 355, rfl⟩
abbrev main_while0b_v197 : Ref sig .tc := ⟨.hbm, 356, rfl⟩
abbrev main_while0b_v198 : Ref sig .tc := ⟨.hbm, 357, rfl⟩
abbrev main_while0b_cst_149 : Ref sig .tc := ⟨.hbm, 358, rfl⟩
abbrev main_while0b_v199 : Ref sig .tc := ⟨.hbm, 359, rfl⟩
abbrev main_while0b_v200 : Ref sig .tc := ⟨.hbm, 360, rfl⟩
abbrev main_while0b_v201 : Ref sig .tc := ⟨.hbm, 361, rfl⟩
abbrev main_while0b_cst_150 : Ref sig .tc := ⟨.hbm, 362, rfl⟩
abbrev main_while0b_cst_151 : Ref sig .tc := ⟨.hbm, 363, rfl⟩
abbrev main_while0b_call4_v0 : Ref sig .tc := ⟨.hbm, 364, rfl⟩
abbrev main_while0b_call4_v1 : Ref sig .tc := ⟨.hbm, 365, rfl⟩
abbrev main_while0b_call4_v2 : Ref sig .tc := ⟨.hbm, 366, rfl⟩
abbrev main_while0b_call4_v3 : Ref sig .tc := ⟨.hbm, 367, rfl⟩
abbrev main_while0b_call4_v4 : Ref sig .tc := ⟨.hbm, 368, rfl⟩
abbrev main_while0b_v202 : Ref sig .tc := ⟨.hbm, 369, rfl⟩
abbrev main_while0b_cst_152 : Ref sig .tc := ⟨.hbm, 370, rfl⟩
abbrev main_while0b_v203 : Ref sig .tc := ⟨.hbm, 371, rfl⟩
abbrev main_while0b_cst_153 : Ref sig .tc := ⟨.hbm, 372, rfl⟩
abbrev main_while0b_v204 : Ref sig .tc := ⟨.hbm, 373, rfl⟩
abbrev main_while0b_v205 : Ref sig .tc := ⟨.hbm, 374, rfl⟩
abbrev main_while0b_v206 : Ref sig .tc := ⟨.hbm, 375, rfl⟩
abbrev main_while0b_v207 : Ref sig .tc := ⟨.hbm, 376, rfl⟩
abbrev main_while0b_v208 : Ref sig .tc := ⟨.hbm, 377, rfl⟩
abbrev main_while0b_v209 : Ref sig .tc := ⟨.hbm, 378, rfl⟩
abbrev main_while0b_cst_154 : Ref sig .tc := ⟨.hbm, 379, rfl⟩
abbrev main_while0b_v210 : Ref sig .tc := ⟨.hbm, 380, rfl⟩
abbrev main_while0b_v211 : Ref sig .tc := ⟨.hbm, 381, rfl⟩
abbrev main_while0b_v212 : Ref sig .tc := ⟨.hbm, 382, rfl⟩
abbrev main_while0b_v213 : Ref sig .tc := ⟨.hbm, 383, rfl⟩
abbrev main_while0b_cst_155 : Ref sig .tc := ⟨.hbm, 384, rfl⟩
abbrev main_while0b_v214 : Ref sig .tc := ⟨.hbm, 385, rfl⟩
abbrev main_while0b_v215 : Ref sig .tc := ⟨.hbm, 386, rfl⟩
abbrev main_while0b_cst_156 : Ref sig .tc := ⟨.hbm, 387, rfl⟩
abbrev main_while0b_v216 : Ref sig .tc := ⟨.hbm, 388, rfl⟩
abbrev main_while0b_v217 : Ref sig .tc := ⟨.hbm, 389, rfl⟩
abbrev main_while0b_v218 : Ref sig .tc := ⟨.hbm, 390, rfl⟩
abbrev main_while0b_v219 : Ref sig .tc := ⟨.hbm, 391, rfl⟩
abbrev main_while0b_v220 : Ref sig .tc := ⟨.hbm, 392, rfl⟩
abbrev main_while0b_v221 : Ref sig .tc := ⟨.hbm, 393, rfl⟩
abbrev main_while0b_cst_157 : Ref sig .tc := ⟨.hbm, 394, rfl⟩
abbrev main_while0b_call5_v0 : Ref sig .tc := ⟨.hbm, 395, rfl⟩
abbrev main_while0b_call5_v1 : Ref sig .tc := ⟨.hbm, 396, rfl⟩
abbrev main_while0b_call5_v2 : Ref sig .tc := ⟨.hbm, 397, rfl⟩
abbrev main_while0b_call5_v3 : Ref sig .tc := ⟨.hbm, 398, rfl⟩
abbrev main_while0b_v222 : Ref sig .tc := ⟨.hbm, 399, rfl⟩
abbrev main_while0b_cst_158 : Ref sig .tc := ⟨.hbm, 400, rfl⟩
abbrev main_while0b_v223 : Ref sig .tc := ⟨.hbm, 401, rfl⟩
abbrev main_while0b_cst_159 : Ref sig .tc := ⟨.hbm, 402, rfl⟩
abbrev main_while0b_v224 : Ref sig .tc := ⟨.hbm, 403, rfl⟩
abbrev main_while0b_v225 : Ref sig .tc := ⟨.hbm, 404, rfl⟩
abbrev main_while0b_cst_160 : Ref sig .tc := ⟨.hbm, 405, rfl⟩
abbrev main_while0b_v226 : Ref sig .tc := ⟨.hbm, 406, rfl⟩
abbrev main_while0b_v227 : Ref sig .tc := ⟨.hbm, 407, rfl⟩
abbrev main_while0b_v228 : Ref sig .tc := ⟨.hbm, 408, rfl⟩
abbrev main_while0b_c_161 : Ref sig .tc := ⟨.hbm, 409, rfl⟩
abbrev main_while0b_v229 : Ref sig .tc := ⟨.hbm, 410, rfl⟩
abbrev main_while0b_v230 : Ref sig .tc := ⟨.hbm, 411, rfl⟩
abbrev main_while0b_c_162 : Ref sig .tc := ⟨.hbm, 412, rfl⟩
abbrev main_while0b_v231 : Ref sig .tc := ⟨.hbm, 413, rfl⟩
abbrev main_while0b_v232 : Ref sig .tc := ⟨.hbm, 414, rfl⟩
abbrev main_while0b_cst_163 : Ref sig .tc := ⟨.hbm, 415, rfl⟩
abbrev main_while0b_call6_v0 : Ref sig .tc := ⟨.hbm, 416, rfl⟩
abbrev main_while0b_call6_v1 : Ref sig .tc := ⟨.hbm, 417, rfl⟩
abbrev main_while0b_v233 : Ref sig .tc := ⟨.hbm, 418, rfl⟩
abbrev main_while0b_cst_164 : Ref sig .tc := ⟨.hbm, 419, rfl⟩
abbrev main_while0b_call7_v0 : Ref sig .tc := ⟨.hbm, 420, rfl⟩
abbrev main_while0b_call7_v1 : Ref sig .tc := ⟨.hbm, 421, rfl⟩
abbrev main_while0b_v234 : Ref sig .tc := ⟨.hbm, 422, rfl⟩
abbrev main_while0b_v235 : Ref sig .tc := ⟨.hbm, 423, rfl⟩
abbrev main_while0b_v236 : Ref sig .tc := ⟨.hbm, 424, rfl⟩
abbrev main_while0b_v237 : Ref sig .tc := ⟨.hbm, 425, rfl⟩
abbrev main_while0b_cst_165 : Ref sig .tc := ⟨.hbm, 426, rfl⟩
abbrev main_while0b_v238 : Ref sig .tc := ⟨.hbm, 427, rfl⟩
abbrev main_while0b_cst_166 : Ref sig .tc := ⟨.hbm, 428, rfl⟩
abbrev main_while0b_v239 : Ref sig .tc := ⟨.hbm, 429, rfl⟩
abbrev main_while0b_v240 : Ref sig .tc := ⟨.hbm, 430, rfl⟩
abbrev main_while0b_v241 : Ref sig .tc := ⟨.hbm, 431, rfl⟩
abbrev main_while0b_v242 : Ref sig .tc := ⟨.hbm, 432, rfl⟩
abbrev main_while0b_v243 : Ref sig .tc := ⟨.hbm, 433, rfl⟩
abbrev main_while0b_v244 : Ref sig .tc := ⟨.hbm, 434, rfl⟩
abbrev main_while0b_cst_167 : Ref sig .tc := ⟨.hbm, 435, rfl⟩
abbrev main_while0b_v245 : Ref sig .tc := ⟨.hbm, 436, rfl⟩
abbrev main_while0b_v246 : Ref sig .tc := ⟨.hbm, 437, rfl⟩
abbrev main_while0b_v247 : Ref sig .tc := ⟨.hbm, 438, rfl⟩
abbrev main_while0b_v248 : Ref sig .tc := ⟨.hbm, 439, rfl⟩
abbrev main_while0b_cst_168 : Ref sig .tc := ⟨.hbm, 440, rfl⟩
abbrev main_while0b_v249 : Ref sig .tc := ⟨.hbm, 441, rfl⟩
abbrev main_while0b_v250 : Ref sig .tc := ⟨.hbm, 442, rfl⟩
abbrev main_while0b_cst_169 : Ref sig .tc := ⟨.hbm, 443, rfl⟩
abbrev main_while0b_v251 : Ref sig .tc := ⟨.hbm, 444, rfl⟩
abbrev main_while0b_v252 : Ref sig .tc := ⟨.hbm, 445, rfl⟩
abbrev main_while0b_v253 : Ref sig .tc := ⟨.hbm, 446, rfl⟩
abbrev main_while0b_v254 : Ref sig .tc := ⟨.hbm, 447, rfl⟩
abbrev main_while0b_v255 : Ref sig .tc := ⟨.hbm, 448, rfl⟩
abbrev main_while0b_v256 : Ref sig .tc := ⟨.hbm, 449, rfl⟩
abbrev main_while0b_cst_170 : Ref sig .tc := ⟨.hbm, 450, rfl⟩
abbrev main_while0b_call8_v0 : Ref sig .tc := ⟨.hbm, 451, rfl⟩
abbrev main_while0b_call8_v1 : Ref sig .tc := ⟨.hbm, 452, rfl⟩
abbrev main_while0b_call8_v2 : Ref sig .tc := ⟨.hbm, 453, rfl⟩
abbrev main_while0b_call8_v3 : Ref sig .tc := ⟨.hbm, 454, rfl⟩
abbrev main_while0b_v257 : Ref sig .tc := ⟨.hbm, 455, rfl⟩
abbrev main_while0b_cst_171 : Ref sig .tc := ⟨.hbm, 456, rfl⟩
abbrev main_while0b_v258 : Ref sig .tc := ⟨.hbm, 457, rfl⟩
abbrev main_while0b_cst_172 : Ref sig .tc := ⟨.hbm, 458, rfl⟩
abbrev main_while0b_v259 : Ref sig .tc := ⟨.hbm, 459, rfl⟩
abbrev main_while0b_v260 : Ref sig .tc := ⟨.hbm, 460, rfl⟩
abbrev main_while0b_cst_173 : Ref sig .tc := ⟨.hbm, 461, rfl⟩
abbrev main_while0b_v261 : Ref sig .tc := ⟨.hbm, 462, rfl⟩
abbrev main_while0b_v262 : Ref sig .tc := ⟨.hbm, 463, rfl⟩
abbrev main_while0b_v263 : Ref sig .tc := ⟨.hbm, 464, rfl⟩
abbrev main_while0b_c_174 : Ref sig .tc := ⟨.hbm, 465, rfl⟩
abbrev main_while0b_v264 : Ref sig .tc := ⟨.hbm, 466, rfl⟩
abbrev main_while0b_v265 : Ref sig .tc := ⟨.hbm, 467, rfl⟩
abbrev main_while0b_c_175 : Ref sig .tc := ⟨.hbm, 468, rfl⟩
abbrev main_while0b_v266 : Ref sig .tc := ⟨.hbm, 469, rfl⟩
abbrev main_while0b_v267 : Ref sig .tc := ⟨.hbm, 470, rfl⟩
abbrev main_while0b_cst_176 : Ref sig .tc := ⟨.hbm, 471, rfl⟩
abbrev main_while0b_call9_v0 : Ref sig .tc := ⟨.hbm, 472, rfl⟩
abbrev main_while0b_call9_v1 : Ref sig .tc := ⟨.hbm, 473, rfl⟩
abbrev main_while0b_v268 : Ref sig .tc := ⟨.hbm, 474, rfl⟩
abbrev main_while0b_cst_177 : Ref sig .tc := ⟨.hbm, 475, rfl⟩
abbrev main_while0b_call10_v0 : Ref sig .tc := ⟨.hbm, 476, rfl⟩
abbrev main_while0b_call10_v1 : Ref sig .tc := ⟨.hbm, 477, rfl⟩
abbrev main_while0b_v269 : Ref sig .tc := ⟨.hbm, 478, rfl⟩
abbrev main_while0b_v270 : Ref sig .tc := ⟨.hbm, 479, rfl⟩
abbrev main_while0b_v271 : Ref sig .tc := ⟨.hbm, 480, rfl⟩
abbrev main_while0b_v272 : Ref sig .tc := ⟨.hbm, 481, rfl⟩
abbrev main_while0b_call11_cst : Ref sig .tc := ⟨.hbm, 482, rfl⟩
abbrev main_while0b_call11_v0 : Ref sig .tc := ⟨.hbm, 483, rfl⟩
abbrev main_while0b_call11_v1 : Ref sig .tc := ⟨.hbm, 484, rfl⟩
abbrev main_while0b_call11_v2 : Ref sig .tc := ⟨.hbm, 485, rfl⟩
abbrev main_while0b_call11_v3 : Ref sig .tc := ⟨.hbm, 486, rfl⟩
abbrev main_while0b_call11_v4 : Ref sig .tc := ⟨.hbm, 487, rfl⟩
abbrev main_while0b_call11_v5 : Ref sig .tc := ⟨.hbm, 488, rfl⟩
abbrev main_while0b_call11_v6 : Ref sig .tc := ⟨.hbm, 489, rfl⟩
abbrev main_while0b_call11_v7 : Ref sig .tc := ⟨.hbm, 490, rfl⟩
abbrev main_while0b_call11_v8 : Ref sig .tc := ⟨.hbm, 491, rfl⟩
abbrev main_while0b_call11_v9 : Ref sig .tc := ⟨.hbm, 492, rfl⟩
abbrev main_while0b_call11_v10 : Ref sig .tc := ⟨.hbm, 493, rfl⟩
abbrev main_while0b_call11_v11 : Ref sig .tc := ⟨.hbm, 494, rfl⟩
abbrev main_while0b_v273 : Ref sig .tc := ⟨.hbm, 495, rfl⟩
abbrev main_while0b_cst_178 : Ref sig .tc := ⟨.hbm, 496, rfl⟩
abbrev main_while0b_v274 : Ref sig .tc := ⟨.hbm, 497, rfl⟩
abbrev main_while0b_v275 : Ref sig .tc := ⟨.hbm, 498, rfl⟩
abbrev main_while0b_v276 : Ref sig .tc := ⟨.hbm, 499, rfl⟩
abbrev main_while0b_v277 : Ref sig .tc := ⟨.hbm, 500, rfl⟩
abbrev main_while0b_v278 : Ref sig .tc := ⟨.hbm, 501, rfl⟩
abbrev main_while0b_v279 : Ref sig .tc := ⟨.hbm, 502, rfl⟩
abbrev main_while0b_c_179 : Ref sig .tc := ⟨.hbm, 503, rfl⟩
abbrev main_while0b_v280 : Ref sig .tc := ⟨.hbm, 504, rfl⟩
abbrev main_while0b_c_180 : Ref sig .tc := ⟨.hbm, 505, rfl⟩
abbrev main_while0b_v281 : Ref sig .tc := ⟨.hbm, 506, rfl⟩
abbrev main_while0b_v282 : Ref sig .tc := ⟨.hbm, 507, rfl⟩
abbrev main_while0b_c_181 : Ref sig .tc := ⟨.hbm, 508, rfl⟩
abbrev main_while0b_c_182 : Ref sig .tc := ⟨.hbm, 509, rfl⟩
abbrev main_while0b_call12_v0 : Ref sig .tc := ⟨.hbm, 510, rfl⟩
abbrev main_while0b_call12_v1 : Ref sig .tc := ⟨.hbm, 511, rfl⟩
abbrev main_while0b_call12_v2 : Ref sig .tc := ⟨.hbm, 512, rfl⟩
abbrev main_while0b_call12_v3 : Ref sig .tc := ⟨.hbm, 513, rfl⟩
abbrev main_while0b_call12_v4 : Ref sig .tc := ⟨.hbm, 514, rfl⟩
abbrev main_while0b_v283 : Ref sig .tc := ⟨.hbm, 515, rfl⟩
abbrev main_while0b_v284 : Ref sig .tc := ⟨.hbm, 516, rfl⟩
abbrev main_while0b_v285 : Ref sig .tc := ⟨.hbm, 517, rfl⟩
abbrev main_while0b_v286 : Ref sig .tc := ⟨.hbm, 518, rfl⟩
abbrev main_while0b_v287 : Ref sig .tc := ⟨.hbm, 519, rfl⟩
abbrev main_while0b_v288 : Ref sig .tc := ⟨.hbm, 520, rfl⟩
abbrev main_while0b_cst_183 : Ref sig .tc := ⟨.hbm, 521, rfl⟩
abbrev main_while0b_call13_v0 : Ref sig .tc := ⟨.hbm, 522, rfl⟩
abbrev main_while0b_call13_v1 : Ref sig .tc := ⟨.hbm, 523, rfl⟩
abbrev main_while0b_v289 : Ref sig .tc := ⟨.hbm, 524, rfl⟩
abbrev main_while0b_cst_184 : Ref sig .tc := ⟨.hbm, 525, rfl⟩
abbrev main_while0b_v290 : Ref sig .tc := ⟨.hbm, 526, rfl⟩
abbrev main_while0b_v291 : Ref sig .tc := ⟨.hbm, 527, rfl⟩
abbrev main_while0b_v292 : Ref sig .tc := ⟨.hbm, 528, rfl⟩
abbrev main_while0b_cst_185 : Ref sig .tc := ⟨.hbm, 529, rfl⟩
abbrev main_while0b_call14_v0 : Ref sig .tc := ⟨.hbm, 530, rfl⟩
abbrev main_while0b_call14_v1 : Ref sig .tc := ⟨.hbm, 531, rfl⟩
abbrev main_while0b_v293 : Ref sig .tc := ⟨.hbm, 532, rfl⟩
abbrev main_while0b_cst_186 : Ref sig .tc := ⟨.hbm, 533, rfl⟩
abbrev main_while0b_v294 : Ref sig .tc := ⟨.hbm, 534, rfl⟩
abbrev main_while0b_v295 : Ref sig .tc := ⟨.hbm, 535, rfl⟩
abbrev main_while0b_v296 : Ref sig .tc := ⟨.hbm, 536, rfl⟩
abbrev main_while0b_v297 : Ref sig .tc := ⟨.hbm, 537, rfl⟩
abbrev main_while0b_cst_187 : Ref sig .tc := ⟨.hbm, 538, rfl⟩
abbrev main_while0b_call15_v0 : Ref sig .tc := ⟨.hbm, 539, rfl⟩
abbrev main_while0b_call15_v1 : Ref sig .tc := ⟨.hbm, 540, rfl⟩
abbrev main_while0b_v298 : Ref sig .tc := ⟨.hbm, 541, rfl⟩
abbrev main_while0b_cst_188 : Ref sig .tc := ⟨.hbm, 542, rfl⟩
abbrev main_while0b_v299 : Ref sig .tc := ⟨.hbm, 543, rfl⟩
abbrev main_while0b_v300 : Ref sig .tc := ⟨.hbm, 544, rfl⟩
abbrev main_while0b_v301 : Ref sig .tc := ⟨.hbm, 545, rfl⟩
abbrev main_while0b_cst_189 : Ref sig .tc := ⟨.hbm, 546, rfl⟩
abbrev main_while0b_call16_v0 : Ref sig .tc := ⟨.hbm, 547, rfl⟩
abbrev main_while0b_call16_v1 : Ref sig .tc := ⟨.hbm, 548, rfl⟩
abbrev main_while0b_v302 : Ref sig .tc := ⟨.hbm, 549, rfl⟩
abbrev main_while0b_cst_190 : Ref sig .tc := ⟨.hbm, 550, rfl⟩
abbrev main_while0b_v303 : Ref sig .tc := ⟨.hbm, 551, rfl⟩
abbrev main_while0b_v304 : Ref sig .tc := ⟨.hbm, 552, rfl⟩
abbrev main_while0b_v305 : Ref sig .tc := ⟨.hbm, 553, rfl⟩
abbrev main_while0b_v306 : Ref sig .tc := ⟨.hbm, 554, rfl⟩
abbrev main_while0b_cst_191 : Ref sig .tc := ⟨.hbm, 555, rfl⟩
abbrev main_while0b_call17_v0 : Ref sig .tc := ⟨.hbm, 556, rfl⟩
abbrev main_while0b_call17_v1 : Ref sig .tc := ⟨.hbm, 557, rfl⟩
abbrev main_while0b_v307 : Ref sig .tc := ⟨.hbm, 558, rfl⟩
abbrev main_while0b_cst_192 : Ref sig .tc := ⟨.hbm, 559, rfl⟩
abbrev main_while0b_v308 : Ref sig .tc := ⟨.hbm, 560, rfl⟩
abbrev main_while0b_v309 : Ref sig .tc := ⟨.hbm, 561, rfl⟩
abbrev main_while0b_v310 : Ref sig .tc := ⟨.hbm, 562, rfl⟩
abbrev main_while0b_v311 : Ref sig .tc := ⟨.hbm, 563, rfl⟩
abbrev main_while0b_cst_193 : Ref sig .tc := ⟨.hbm, 564, rfl⟩
abbrev main_while0b_call18_v0 : Ref sig .tc := ⟨.hbm, 565, rfl⟩
abbrev main_while0b_call18_v1 : Ref sig .tc := ⟨.hbm, 566, rfl⟩
abbrev main_while0b_v312 : Ref sig .tc := ⟨.hbm, 567, rfl⟩
abbrev main_while0b_cst_194 : Ref sig .tc := ⟨.hbm, 568, rfl⟩
abbrev main_while0b_v313 : Ref sig .tc := ⟨.hbm, 569, rfl⟩
abbrev main_while0b_v314 : Ref sig .tc := ⟨.hbm, 570, rfl⟩
abbrev main_while0b_v315 : Ref sig .tc := ⟨.hbm, 571, rfl⟩
abbrev main_while0b_v316 : Ref sig .tc := ⟨.hbm, 572, rfl⟩
abbrev main_while0b_cst_195 : Ref sig .tc := ⟨.hbm, 573, rfl⟩
abbrev main_while0b_call19_v0 : Ref sig .tc := ⟨.hbm, 574, rfl⟩
abbrev main_while0b_call19_v1 : Ref sig .tc := ⟨.hbm, 575, rfl⟩
abbrev main_while0b_v317 : Ref sig .tc := ⟨.hbm, 576, rfl⟩
abbrev main_while0b_cst_196 : Ref sig .tc := ⟨.hbm, 577, rfl⟩
abbrev main_while0b_v318 : Ref sig .tc := ⟨.hbm, 578, rfl⟩
abbrev main_while0b_v319 : Ref sig .tc := ⟨.hbm, 579, rfl⟩
abbrev main_while0b_v320 : Ref sig .tc := ⟨.hbm, 580, rfl⟩
abbrev main_while0b_cst_197 : Ref sig .tc := ⟨.hbm, 581, rfl⟩
abbrev main_while0b_v321 : Ref sig .tc := ⟨.hbm, 582, rfl⟩
abbrev main_while0b_v322 : Ref sig .tc := ⟨.hbm, 583, rfl⟩
abbrev main_while0b_v323 : Ref sig .tc := ⟨.hbm, 584, rfl⟩
abbrev main_while0b_v324 : Ref sig .tc := ⟨.hbm, 585, rfl⟩
abbrev main_while0b_cst_198 : Ref sig .tc := ⟨.hbm, 586, rfl⟩
abbrev main_while0b_v325 : Ref sig .tc := ⟨.hbm, 587, rfl⟩
abbrev main_while0b_v326 : Ref sig .tc := ⟨.hbm, 588, rfl⟩
abbrev main_while0b_v327 : Ref sig .tc := ⟨.hbm, 589, rfl⟩
abbrev main_while0b_v328 : Ref sig .tc := ⟨.hbm, 590, rfl⟩
abbrev main_while0b_v329 : Ref sig .tc := ⟨.hbm, 591, rfl⟩
abbrev main_while0b_v330 : Ref sig .tc := ⟨.hbm, 592, rfl⟩
abbrev main_while0b_v331 : Ref sig .tc := ⟨.hbm, 593, rfl⟩
abbrev main_while0b_v332 : Ref sig .tc := ⟨.hbm, 594, rfl⟩
abbrev main_while0b_v333 : Ref sig .tc := ⟨.hbm, 595, rfl⟩
abbrev main_while0b_v334 : Ref sig .tc := ⟨.hbm, 596, rfl⟩
abbrev main_while0b_v335 : Ref sig .tc := ⟨.hbm, 597, rfl⟩
abbrev main_while0b_v336 : Ref sig .tc := ⟨.hbm, 598, rfl⟩
abbrev main_while0b_v337 : Ref sig .tc := ⟨.hbm, 599, rfl⟩
abbrev main_while0b_v338 : Ref sig .tc := ⟨.hbm, 600, rfl⟩
abbrev main_while0b_v339 : Ref sig .tc := ⟨.hbm, 601, rfl⟩
abbrev main_while0b_cst_199 : Ref sig .tc := ⟨.hbm, 602, rfl⟩
abbrev main_while0b_v340 : Ref sig .tc := ⟨.hbm, 603, rfl⟩
abbrev main_while0b_v341 : Ref sig .tc := ⟨.hbm, 604, rfl⟩
abbrev main_while0b_v342 : Ref sig .tc := ⟨.hbm, 605, rfl⟩
abbrev main_while0b_v343 : Ref sig .tc := ⟨.hbm, 606, rfl⟩
abbrev main_while0b_cst_200 : Ref sig .tc := ⟨.hbm, 607, rfl⟩
abbrev main_while0b_v344 : Ref sig .tc := ⟨.hbm, 608, rfl⟩
abbrev main_while0b_v345 : Ref sig .tc := ⟨.hbm, 609, rfl⟩
abbrev main_while0b_v346 : Ref sig .tc := ⟨.hbm, 610, rfl⟩
abbrev main_while0b_v347 : Ref sig .tc := ⟨.hbm, 611, rfl⟩
abbrev main_while0b_v348 : Ref sig .tc := ⟨.hbm, 612, rfl⟩
abbrev main_while0b_v349 : Ref sig .tc := ⟨.hbm, 613, rfl⟩
abbrev main_while0b_v350 : Ref sig .tc := ⟨.hbm, 614, rfl⟩
abbrev main_while0b_v351 : Ref sig .tc := ⟨.hbm, 615, rfl⟩
abbrev main_while0b_cst_201 : Ref sig .tc := ⟨.hbm, 616, rfl⟩
abbrev main_while0b_v352 : Ref sig .tc := ⟨.hbm, 617, rfl⟩
abbrev main_while0b_v353 : Ref sig .tc := ⟨.hbm, 618, rfl⟩
abbrev main_while0b_v354 : Ref sig .tc := ⟨.hbm, 619, rfl⟩
abbrev main_while0b_v355 : Ref sig .tc := ⟨.hbm, 620, rfl⟩
abbrev main_while0b_cst_202 : Ref sig .tc := ⟨.hbm, 621, rfl⟩
abbrev main_while0b_call21_v0 : Ref sig .tc := ⟨.hbm, 622, rfl⟩
abbrev main_while0b_call21_v1 : Ref sig .tc := ⟨.hbm, 623, rfl⟩
abbrev main_while0b_v356 : Ref sig .tc := ⟨.hbm, 624, rfl⟩
abbrev main_while0b_cst_203 : Ref sig .tc := ⟨.hbm, 625, rfl⟩
abbrev main_while0b_v357 : Ref sig .tc := ⟨.hbm, 626, rfl⟩
abbrev main_while0b_v358 : Ref sig .tc := ⟨.hbm, 627, rfl⟩
abbrev main_while0b_c_204 : Ref sig .tc := ⟨.hbm, 628, rfl⟩
abbrev main_while0b_v359 : Ref sig .tc := ⟨.hbm, 629, rfl⟩
abbrev main_v2 : Ref sig .tc := ⟨.hbm, 630, rfl⟩
abbrev main_cst_1 : Ref sig .tc := ⟨.hbm, 631, rfl⟩
abbrev main_v3 : Ref sig .tc := ⟨.hbm, 632, rfl⟩
abbrev main_cst_2 : Ref sig .tc := ⟨.hbm, 633, rfl⟩
abbrev main_v4 : Ref sig .tc := ⟨.hbm, 634, rfl⟩
abbrev main_v5 : Ref sig .tc := ⟨.hbm, 635, rfl⟩
abbrev main_cst_3 : Ref sig .tc := ⟨.hbm, 636, rfl⟩
abbrev main_v6 : Ref sig .tc := ⟨.hbm, 637, rfl⟩
abbrev main_v7 : Ref sig .tc := ⟨.hbm, 638, rfl⟩
abbrev main_v8 : Ref sig .tc := ⟨.hbm, 639, rfl⟩
abbrev main_v9 : Ref sig .tc := ⟨.hbm, 640, rfl⟩

abbrev nD : Nat := 1
abbrev τ : Topo := Topo.v7x

variable {F : FTy → Type} [FloatOps F]

abbrev main_while0_count : Scf.Loop 32 := ⟨0#32, 6#32, 1#32⟩
-- ==== Proof.Frames.lean ====
/-
  The frames, and the step from the kernel to its idealized form.

  Each of the three programs runs to the end from any memory, leaves its arguments as they were and every counter at
  zero; and the idealized kernel differs from the kernel only in three named constants.
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Frames

/-- The kernel runs, changes no argument and leaves every counter at zero. -/
theorem frame_kernel : Cert.quiescent_Kernel := fun m ρ _ => Cert.Kernel.Gen.frame m ρ

/-- The idealized kernel runs, changes no argument and leaves every counter at zero. -/
theorem frame_ideal : Cert.quiescent_KernelIdeal := fun m ρ _ => Cert.KernelIdeal.Gen.frame m ρ

/-- The idealized reference runs, changes no argument and leaves every counter at zero. -/
theorem frame_reference : Cert.quiescent_ReferenceIdeal := fun m ρ _ =>
  (θ_run Cert.ReferenceIdeal.defs _ _).mono (fun r h => ⟨fun c => (h c).2,
      sem_eq_zero_of_no_sems (by decide) r.2⟩)
    (Cert.ReferenceIdeal.Value.run (F := Ideal) m ρ)

/-- The three constants the idealized kernel names: the knots' width factor, the first knot's offset and the least
    knot distance. -/
theorem named_constants : Cert.preserves_Kernel_KernelIdeal :=
  ⟨IdealRules.named_const.statement Cert.KernelIdeal.κ "scale" .f32 0x41DB47A0#32 ((120550335592887 / 4398046511104 : ℝ) : EReal) rfl,
   IdealRules.named_const.statement Cert.KernelIdeal.κ "first" .f32 0xC15C9B28#32 ((-62095090000768293 / 4503599627370496 : ℝ) : EReal) rfl,
   IdealRules.named_const.statement Cert.KernelIdeal.κ "least" .f32 0x3CE25A74#32 ((124439064040155 / 4503599627370496 : ℝ) : EReal) rfl⟩

end Cert.Frames

end
-- ==== Proof.Net.lean ====
/-
  The masked network of one block, over the extended reals: what the reference computes for each coordinate and
  parameter, and how large it can be where the weights are in range.
-/
module

public import Idealize.ShloMosaic.Lib.Pointwise
public import Mathlib.Tactic.Linarith

@[expose] public section

set_option maxRecDepth 16384

noncomputable section

namespace Cert.Flow

open Idealize.ShloMosaic Idealize.ShloMosaic.TcCoe Idealize.SL.Sem

/-- The weights and biases of the six blocks, as the two programs are given them. -/
structure Weights where
  W0 : FVec Ideal ⟨3, ![6, 256, 45]⟩ .f32
  b0 : FVec Ideal ⟨2, ![6, 256]⟩ .f32
  Wc : FVec Ideal ⟨3, ![6, 256, 1]⟩ .f32
  bc : FVec Ideal ⟨2, ![6, 256]⟩ .f32
  Wh : FVec Ideal ⟨4, ![6, 2, 256, 256]⟩ .f32
  bh : FVec Ideal ⟨3, ![6, 2, 256]⟩ .f32
  Wf : FVec Ideal ⟨3, ![6, 1035, 256]⟩ .f32
  bf : FVec Ideal ⟨2, ![6, 1035]⟩ .f32

/-- The mask of the first layer: whether hidden unit `h` sees coordinate `d`. -/
def maskIn (h : Fin 256) (d : Fin 45) : BitVec 1 :=
  IntOp.cmpi CmpIPredicate.sge (IntOp.remsi ArithUnit.host (BitVec.ofNat 32 h.val) 44#32) (BitVec.ofNat 32 d.val)

/-- The mask of the hidden layers. -/
def maskHid (h i : Fin 256) : BitVec 1 :=
  IntOp.cmpi CmpIPredicate.sge (IntOp.remsi ArithUnit.host (BitVec.ofNat 32 h.val) 44#32)
    (IntOp.remsi ArithUnit.host (BitVec.ofNat 32 i.val) 44#32)

/-- The mask of the last layer. -/
def maskOut (r : Fin 1035) (h : Fin 256) : BitVec 1 :=
  IntOp.cmpi CmpIPredicate.sgt (IntOp.divsi ArithUnit.host (BitVec.ofNat 32 r.val) 23#32)
    (IntOp.remsi ArithUnit.host (BitVec.ofNat 32 h.val) 44#32)

variable (w : Weights) (t : Fin 6)

/-- The first layer of block `t` at the point `z` with the condition `c`. -/
def layer0 (z : Fin 45 → EReal) (c : EReal) (h : Fin 256) : EReal :=
  (∑ d, z d * (Scalar.select (maskIn h d) (w.W0 (ix3 t h d)) 0)) + w.b0 (ix2 t h) + c * w.Wc (ix3 t h 0) + w.bc (ix2 t h)

/-- Hidden layer `l` of block `t`, of the layer `v` before it. -/
def layer (l : Fin 2) (v : Fin 256 → EReal) (h : Fin 256) : EReal :=
  max ((∑ i, v i * (Scalar.select (maskHid h i) (w.Wh (ix4 t l h i)) 0)) + w.bh (ix3 t l h)) 0

/-- The last layer of block `t`, of the layer `v` before it. -/
def layerOut (v : Fin 256 → EReal) (r : Fin 1035) : EReal :=
  (∑ h, v h * (Scalar.select (maskOut r h) (w.Wf (ix3 t r h)) 0)) + w.bf (ix2 t r)

/-- The outputs of block `t`'s network at the point `z` with the condition `c`. -/
def net (z : Fin 45 → EReal) (c : EReal) : Fin 1035 → EReal :=
  layerOut w t (layer w t 1 (layer w t 0 (layer0 w t z c)))

/-- The magnitude of an extended real. -/
def mag (x : EReal) : EReal := max x (-x)

/-- Bounds of the layers, for a point within 16 and a condition within 8. -/
def bound0 (h : Fin 256) : EReal :=
  (∑ d, mag (Scalar.select (maskIn h d) (w.W0 (ix3 t h d)) 0) * ((16 : ℝ) : EReal)) + mag (w.b0 (ix2 t h))
    + mag (w.Wc (ix3 t h 0)) * ((8 : ℝ) : EReal) + mag (w.bc (ix2 t h))

/-- The bound of hidden layer `l`, of the bound `v` of the layer before it. -/
def bound (l : Fin 2) (v : Fin 256 → EReal) (h : Fin 256) : EReal :=
  (∑ i, mag (Scalar.select (maskHid h i) (w.Wh (ix4 t l h i)) 0) * v i) + mag (w.bh (ix3 t l h))

/-- The bound of the last layer, of the bound `v` of the layer before it. -/
def boundOut (v : Fin 256 → EReal) (r : Fin 1035) : EReal :=
  (∑ h, mag (Scalar.select (maskOut r h) (w.Wf (ix3 t r h)) 0) * v h) + mag (w.bf (ix2 t r))

/-- The bound of the network's outputs. -/
def boundNet : Fin 1035 → EReal := boundOut w t (bound w t 1 (bound w t 0 (bound0 w t)))

/-- The magnitude is the absolute value. -/
theorem mag_eq (x : EReal) : mag x = (x.abs : EReal) := by
  induction x using EReal.rec with
  | bot => simp [mag]
  | top => simp [mag]
  | coe a =>
    rw [mag, ← EReal.coe_neg, EReal.abs_def, EReal.coe_ennreal_ofReal, max_eq_left (abs_nonneg a), abs_eq_max_neg]
    exact (EReal.coe_strictMono.monotone.map_max).symm

/-- A magnitude is not negative. -/
theorem mag_nonneg (x : EReal) : 0 ≤ mag x := by rw [mag_eq]; exact EReal.coe_ennreal_nonneg _

/-- The magnitude of a real number. -/
theorem mag_coe (a : ℝ) : mag (a : EReal) = ((|a| : ℝ) : EReal) := by
  rw [mag, ← EReal.coe_neg, abs_eq_max_neg]
  exact (EReal.coe_strictMono.monotone.map_max).symm

/-- The magnitude of a sum is at most the sum of the magnitudes. -/
theorem mag_add (x y : EReal) : mag (x + y) ≤ mag x + mag y := by
  have hx := mag_nonneg x
  have hy := mag_nonneg y
  have top {a : EReal} (h : 0 ≤ a) : a + ⊤ = ⊤ :=
    EReal.add_top_of_ne_bot (ne_of_gt (lt_of_lt_of_le EReal.bot_lt_zero h))
  have mb : mag ⊥ = ⊤ := by simp [mag]
  have mt : mag ⊤ = ⊤ := by simp [mag]
  induction x using EReal.rec with
  | bot => rw [mb, add_comm ⊤ (mag y), top hy]; exact le_top
  | top => rw [mt, add_comm ⊤ (mag y), top hy]; exact le_top
  | coe a =>
    induction y using EReal.rec with
    | bot => rw [mb, top hx]; exact le_top
    | top => rw [mt, top hx]; exact le_top
    | coe b =>
      rw [← EReal.coe_add, mag_coe, mag_coe, mag_coe, ← EReal.coe_add]
      exact EReal.coe_le_coe_iff.mpr (abs_add_le a b)

/-- The magnitude of a product is the product of the magnitudes. -/
theorem mag_mul (x y : EReal) : mag (x * y) = mag x * mag y := by
  rw [mag_eq, mag_eq, mag_eq, EReal.abs_mul, EReal.coe_ennreal_mul]

/-- The magnitude of a finite sum is at most the sum of the magnitudes. -/
theorem mag_sum {n : ℕ} (f : Fin n → EReal) : mag (∑ i, f i) ≤ ∑ i, mag (f i) := by
  induction (Finset.univ : Finset (Fin n)) using Finset.induction_on with
  | empty => simp [mag]
  | insert a s ha ih =>
    rw [Finset.sum_insert ha, Finset.sum_insert ha]
    exact (mag_add _ _).trans (add_le_add le_rfl ih)

/-- A sum of terms each a layer's value and a weight, by the bounds of the values. -/
theorem mag_dot {n : ℕ} (v r a : Fin n → EReal) (hv : ∀ i, mag (v i) ≤ r i) :
    mag (∑ i, v i * a i) ≤ ∑ i, mag (a i) * r i := by
  refine (mag_sum _).trans (Finset.sum_le_sum fun i _ => ?_)
  rw [mag_mul, mul_comm]
  exact mul_le_mul_of_nonneg_left (hv i) (mag_nonneg _)

/-- The greater of a number and zero has no greater magnitude than the number. -/
theorem mag_max (x : EReal) : mag (max x 0) ≤ mag x := by
  rcases le_total x 0 with h | h
  · rw [max_eq_right h]
    exact (by simp [mag] : mag 0 ≤ 0).trans (mag_nonneg x)
  · rw [max_eq_left h]

/-- The first layer is within its bound. -/
theorem layer0_le {z : Fin 45 → EReal} {c : EReal} (hz : ∀ d, mag (z d) ≤ ((16 : ℝ) : EReal))
    (hc : mag c ≤ ((8 : ℝ) : EReal)) (h : Fin 256) : mag (layer0 w t z c h) ≤ bound0 w t h := by
  refine (mag_add _ _).trans (add_le_add ((mag_add _ _).trans (add_le_add ((mag_add _ _).trans (add_le_add ?_ le_rfl)) ?_))
    le_rfl)
  · exact mag_dot _ _ _ hz
  · rw [mag_mul, mul_comm]
    exact mul_le_mul_of_nonneg_left hc (mag_nonneg _)

/-- A hidden layer is within its bound. -/
theorem layer_le (l : Fin 2) {v r : Fin 256 → EReal} (hv : ∀ h, mag (v h) ≤ r h) (h : Fin 256) :
    mag (layer w t l v h) ≤ bound w t l r h :=
  (mag_max _).trans ((mag_add _ _).trans (add_le_add (mag_dot _ _ _ hv) le_rfl))

/-- The network's outputs are within their bounds. -/
theorem net_le {z : Fin 45 → EReal} {c : EReal} (hz : ∀ d, mag (z d) ≤ ((16 : ℝ) : EReal))
    (hc : mag c ≤ ((8 : ℝ) : EReal)) (r : Fin 1035) : mag (net w t z c r) ≤ boundNet w t r :=
  (mag_add _ _).trans (add_le_add (mag_dot _ _ _ (layer_le w t 1 (layer_le w t 0 (layer0_le w t hz hc)))) le_rfl)

/-- An extended real of magnitude at most 960 is a real number of that magnitude. -/
theorem real_of_mag {x : EReal} (h : mag x ≤ ((960 : ℝ) : EReal)) : ∃ a : ℝ, x = (a : EReal) ∧ |a| ≤ 960 := by
  induction x using EReal.rec with
  | bot => simp [mag] at h
  | top => simp [mag] at h
  | coe a =>
    rw [mag_coe] at h
    exact ⟨a, rfl, EReal.coe_le_coe_iff.mp h⟩

/-- A real factor that is not negative comes out of a layer's sum. -/
theorem factor_out {n : ℕ} (f : Fin n → EReal) (b : EReal) {k : ℝ} (hk : 0 ≤ k) :
    (∑ i, f i * (k : EReal)) + b * (k : EReal) = ((∑ i, f i) + b) * (k : EReal) := by
  have dist (x y : EReal) : (x + y) * (k : EReal) = x * (k : EReal) + y * (k : EReal) := by
    rw [mul_comm, EReal.left_distrib_of_nonneg_of_ne_top (EReal.coe_nonneg.mpr hk) (EReal.coe_ne_top k),
      mul_comm (k : EReal), mul_comm (k : EReal)]
  rw [dist]
  congr 1
  induction (Finset.univ : Finset (Fin n)) using Finset.induction_on with
  | empty => simp
  | insert a s ha ih => rw [Finset.sum_insert ha, Finset.sum_insert ha, dist, ih]

end Cert.Flow

end
-- ==== Proof.Spline.lean ====
/-
  The rational-quadratic spline over the reals: its knots, bins and slopes, the value and the log-slope on a bin, and
  what bounds them. Nothing here mentions a program.
-/
module

public import Idealize.ShloMosaic.PureOps.Ideal
public import Mathlib.Analysis.SpecialFunctions.Log.Basic
public import Mathlib.Tactic.Linarith
public import Mathlib.Tactic.FieldSimp
public import Mathlib.Tactic.Positivity
public import Mathlib.Tactic.IntervalCases
public import Mathlib.Tactic.Ring

@[expose] public section

noncomputable section

namespace Cert.Flow

open Finset

/-- The end of the spline's interval `[-T, T]`, the float word of `-log(1e-6)`. -/
def T : ℝ := 14486613 / 1048576

/-- The least share of a bin, and the least slope: the float word of `1e-3`. -/
def mB : ℝ := 8589935 / 8589934592

/-- What the eight least shares leave: the float word of `1 - 8e-3`. -/
def qB : ℝ := 8321499 / 8388608

/-- The softmax share of bin `k`. -/
def share (u : Fin 8 → ℝ) (k : Fin 8) : ℝ := Real.exp (u k) / ∑ l, Real.exp (u l)

/-- The end of the first `k` bins laid one after the other from `-T`. -/
def upto (u : Fin 8 → ℝ) (k : ℕ) : ℝ := 2 * T * (∑ l : Fin 8, if l.val < k then mB + qB * share u l else 0) - T

/-- The `k`-th of the nine knots: the two outer ones are `-T` and `T`. -/
def knot (u : Fin 8 → ℝ) (k : ℕ) : ℝ := if k = 0 then -T else if k = 8 then T else upto u k

/-- The width of bin `k`. -/
def width (u : Fin 8 → ℝ) (k : ℕ) : ℝ := knot u (k + 1) - knot u k

/-- The tail bound is positive. -/
theorem T_pos : 0 < T := by norm_num [T]

/-- The least share is positive. -/
theorem mB_pos : 0 < mB := by norm_num [mB]

/-- The rest of the shares is positive. -/
theorem qB_pos : 0 < qB := by norm_num [qB]

/-- The shares' denominator is positive. -/
theorem total_pos (u : Fin 8 → ℝ) : 0 < ∑ l, Real.exp (u l) :=
  sum_pos (fun l _ => Real.exp_pos (u l)) univ_nonempty

/-- Every share is positive. -/
theorem share_pos (u : Fin 8 → ℝ) (k : Fin 8) : 0 < share u k := div_pos (Real.exp_pos _) (total_pos u)

/-- The shares add up to one. -/
theorem share_sum (u : Fin 8 → ℝ) : ∑ k, share u k = 1 := by
  unfold share
  rw [← sum_div]
  exact div_self (total_pos u).ne'

/-- A shift of every logit leaves the shares as they are. -/
theorem share_shift (u : Fin 8 → ℝ) (c : ℝ) (k : Fin 8) :
    Real.exp (u k - c) / ∑ l, Real.exp (u l - c) = share u k := by
  unfold share
  simp only [Real.exp_sub]
  rw [← sum_div]
  exact div_div_div_cancel_right₀ (Real.exp_pos c).ne' _ _

/-- Every bin has a positive width. -/
theorem width_pos (u : Fin 8 → ℝ) (k : ℕ) (hk : k < 8) : 0 < width u k := by
  have h1 := share_sum u
  have hp := share_pos u
  have p0 := hp 0; have p1 := hp 1; have p2 := hp 2; have p3 := hp 3
  have p4 := hp 4; have p5 := hp 5; have p6 := hp 6; have p7 := hp 7
  simp only [Fin.sum_univ_eight] at h1
  have e : ∀ a : ℝ, 0 < a → 0 < 2 * T * (mB + qB * a) := fun a ha =>
    mul_pos (by linarith [T_pos]) (by linarith [mB_pos, mul_pos qB_pos ha])
  unfold width knot upto
  interval_cases k <;> simp [Fin.sum_univ_eight]
  · linarith [e _ p0]
  · linarith [e _ p1]
  · linarith [e _ p2]
  · linarith [e _ p3]
  · linarith [e _ p4]
  · linarith [e _ p5]
  · linarith [e _ p6]
  · have hT := T_pos
    have : (mB + qB * share u 0 + (mB + qB * share u 1) + (mB + qB * share u 2) + (mB + qB * share u 3)
        + (mB + qB * share u 4) + (mB + qB * share u 5) + (mB + qB * share u 6)) < 1 := by
      have h7 : share u 0 + share u 1 + share u 2 + share u 3 + share u 4 + share u 5 + share u 6 = 1 - share u 7 := by
        linarith
      have hq : qB * (share u 0 + share u 1 + share u 2 + share u 3 + share u 4 + share u 5 + share u 6) < qB := by
        rw [h7]; nlinarith [qB_pos]
      have hm : 7 * mB + qB < 1 := by norm_num [mB, qB]
      linarith
    nlinarith

/-- The knots ascend. -/
theorem knot_lt (u : Fin 8 → ℝ) {k : ℕ} (hk : k < 8) : knot u k < knot u (k + 1) := by
  have := width_pos u k hk
  unfold width at this
  linarith

/-- The bin of `x` among nine knots: the last whose left knot `x` has reached. -/
def bin (c : ℕ → ℝ) (x : ℝ) : ℕ :=
  if c 7 ≤ x then 7 else if c 6 ≤ x then 6 else if c 5 ≤ x then 5 else if c 4 ≤ x then 4
  else if c 3 ≤ x then 3 else if c 2 ≤ x then 2 else if c 1 ≤ x then 1 else 0

/-- There are eight bins. -/
theorem bin_lt (c : ℕ → ℝ) (x : ℝ) : bin c x < 8 := by
  unfold bin; split_ifs <;> norm_num

/-- `x` of `[-T, T]` lies in its bin. -/
theorem bin_mem (u : Fin 8 → ℝ) {x : ℝ} (h0 : -T ≤ x) (h1 : x ≤ T) :
    knot u (bin (knot u) x) ≤ x ∧ x ≤ knot u (bin (knot u) x + 1) := by
  have k0 : knot u 0 = -T := by simp [knot]
  have k8 : knot u 8 = T := by simp [knot]
  unfold bin
  split_ifs <;> constructor <;> first | assumption | (simp only [Nat.reduceAdd, zero_add]; linarith)

/-- How many of the nine knots `x` has reached: the bin's number and one. -/
theorem count_eq (u : Fin 8 → ℝ) {x : ℝ} (h0 : -T ≤ x) (h1 : x ≤ T) :
    (∀ k, k ≤ bin (knot u) x → knot u k ≤ x) ∧ (∀ k, bin (knot u) x < k → k < 8 → x < knot u k) := by
  have k0 : knot u 0 = -T := by simp [knot]
  have l0 := knot_lt u (k := 0) (by norm_num); have l1 := knot_lt u (k := 1) (by norm_num)
  have l2 := knot_lt u (k := 2) (by norm_num); have l3 := knot_lt u (k := 3) (by norm_num)
  have l4 := knot_lt u (k := 4) (by norm_num); have l5 := knot_lt u (k := 5) (by norm_num)
  have l6 := knot_lt u (k := 6) (by norm_num)
  simp only [Nat.reduceAdd, zero_add] at l0 l1 l2 l3 l4 l5 l6
  unfold bin
  constructor
  · intro k hk
    split_ifs at hk <;> interval_cases k <;> linarith
  · intro k hk hk8
    split_ifs at hk <;> interval_cases k <;> linarith

/-- `softplus`, as it is computed. -/
def softplus (x : ℝ) : ℝ := max x 0 + Real.log (1 + Real.exp (-|x|))

/-- The softplus is not negative. -/
theorem softplus_nonneg (x : ℝ) : 0 ≤ softplus x :=
  add_nonneg (le_max_right _ _) (Real.log_nonneg (by linarith [Real.exp_pos (-|x|)]))

/-- The logit of the slope at knot `k`: `c` at the two outer knots. -/
def padded (c : ℝ) (v : Fin 7 → ℝ) (k : ℕ) : ℝ := if h : 1 ≤ k ∧ k < 8 then v ⟨k - 1, by omega⟩ else c

/-- The slope at knot `k`. -/
def slope (c : ℝ) (v : Fin 7 → ℝ) (k : ℕ) : ℝ := mB + softplus (padded c v k)

/-- A slope is positive. -/
theorem slope_pos (c : ℝ) (v : Fin 7 → ℝ) (k : ℕ) : 0 < slope c v k :=
  add_pos_of_pos_of_nonneg mB_pos (softplus_nonneg _)

/-- The denominator on a bin of mean slope `δ` and end slopes `a` and `b`, at the fraction `t`. -/
def den (δ a b t : ℝ) : ℝ := δ + (a + b - 2 * δ) * (t * (1 - t))

/-- The numerator of the slope there. -/
def num (δ a b t : ℝ) : ℝ := b * t * t + 2 * δ * (t * (1 - t)) + a * ((1 - t) * (1 - t))

/-- The share of the bin's height reached at `t`, times the denominator. -/
def rise (δ a t : ℝ) : ℝ := δ * t * t + a * (t * (1 - t))

section
variable {δ a b t : ℝ} (hδ : 0 < δ) (ha : 0 < a) (hb : 0 < b) (h0 : 0 ≤ t) (h1 : t ≤ 1)
include hδ ha hb h0 h1

/-- The denominator is positive. -/
theorem den_pos : 0 < den δ a b t := by
  have hs : 0 ≤ t * (1 - t) := mul_nonneg h0 (by linarith)
  have hq : 0 < t * t + (1 - t) * (1 - t) := by nlinarith [sq_nonneg (2 * t - 1)]
  have e : den δ a b t = δ * (t * t + (1 - t) * (1 - t)) + (a + b) * (t * (1 - t)) := by unfold den; ring
  rw [e]
  exact add_pos_of_pos_of_nonneg (mul_pos hδ hq) (mul_nonneg (by linarith) hs)

/-- The numerator is positive. -/
theorem num_pos : 0 < num δ a b t := by
  have hs : 0 ≤ t * (1 - t) := mul_nonneg h0 (by linarith)
  have e : num δ a b t = b * (t * t) + 2 * δ * (t * (1 - t)) + a * ((1 - t) * (1 - t)) := by unfold num; ring
  rw [e]
  rcases le_or_gt t (1 / 2) with h | h
  · have : 0 < a * ((1 - t) * (1 - t)) := mul_pos ha (mul_pos (by linarith) (by linarith))
    have := mul_nonneg hb.le (mul_nonneg h0 h0)
    have := mul_nonneg (by linarith : (0 : ℝ) ≤ 2 * δ) hs
    linarith
  · have : 0 < b * (t * t) := mul_pos hb (mul_pos (by linarith) (by linarith))
    have := mul_nonneg ha.le (mul_self_nonneg (1 - t))
    have := mul_nonneg (by linarith : (0 : ℝ) ≤ 2 * δ) hs
    linarith

/-- The share of the bin's height lies between none and all of it. -/
theorem rise_mem : 0 ≤ rise δ a t / den δ a b t ∧ rise δ a t / den δ a b t ≤ 1 := by
  have hd := den_pos hδ ha hb h0 h1
  have hs : 0 ≤ t * (1 - t) := mul_nonneg h0 (by linarith)
  have hr : 0 ≤ rise δ a t := by
    have e : rise δ a t = δ * (t * t) + a * (t * (1 - t)) := by unfold rise; ring
    rw [e]
    exact add_nonneg (mul_nonneg hδ.le (mul_self_nonneg t)) (mul_nonneg ha.le hs)
  refine ⟨div_nonneg hr hd.le, (div_le_one hd).2 ?_⟩
  have e : den δ a b t - rise δ a t = δ * ((1 - t) * (1 - t)) + b * (t * (1 - t)) := by unfold den rise; ring
  have := mul_nonneg hδ.le (mul_self_nonneg (1 - t))
  have := mul_nonneg hb.le hs
  linarith

/-- The log-slope in one logarithm is the log-slope in two. -/
theorem log_slope : Real.log (δ * δ * num δ a b t * (1 / den δ a b t) * (1 / den δ a b t))
    = Real.log (δ * δ * num δ a b t) - 2 * Real.log (den δ a b t) := by
  have hd := den_pos hδ ha hb h0 h1
  have hn := num_pos hδ ha hb h0 h1
  have hm : δ * δ * num δ a b t ≠ 0 := (mul_pos (mul_pos hδ hδ) hn).ne'
  rw [Real.log_mul (mul_ne_zero hm (by positivity)) (by positivity), Real.log_mul hm (by positivity),
    Real.log_div one_ne_zero hd.ne', Real.log_one]
  ring

end

/-- The clipped argument. -/
def clip (z : ℝ) : ℝ := min T (max (-T) z)

/-- The clip is within the tails. -/
theorem clip_mem (z : ℝ) : -T ≤ clip z ∧ clip z ≤ T :=
  ⟨le_min (by linarith [T_pos]) (le_max_left _ _), min_le_left _ _⟩

/-- The clip changes nothing exactly within the tails. -/
theorem clip_eq_iff (z : ℝ) : z = clip z ↔ -T ≤ z ∧ z ≤ T := by
  constructor
  · intro h; rw [h]; exact clip_mem z
  · rintro ⟨h0, h1⟩; unfold clip; rw [max_eq_right h0, min_eq_right h1]

/-- One coordinate's spline at a point: everything it reads of the bin. -/
structure Bin where
  left : ℝ
  wide : ℝ
  low : ℝ
  high : ℝ
  a : ℝ
  b : ℝ

/-- The bin of `z`, for width logits `u`, height logits `h`, slope logits `v`. -/
def binOf (c : ℝ) (u h : Fin 8 → ℝ) (v : Fin 7 → ℝ) (z : ℝ) : Bin :=
  let i := bin (knot u) (clip z)
  ⟨knot u i, width u i, knot h i, width h i, slope c v i, slope c v (i + 1)⟩

/-- The mean slope of the bin. -/
def Bin.mean (s : Bin) : ℝ := s.high / s.wide

/-- The fraction of the bin's width reached at `x`. -/
def Bin.frac (s : Bin) (x : ℝ) : ℝ := (x - s.left) / s.wide

/-- The spline's value at `x`. -/
def Bin.val (s : Bin) (x : ℝ) : ℝ :=
  s.low + s.high * rise s.mean s.a (s.frac x) / den s.mean s.a s.b (s.frac x)

/-- The logarithm of the spline's slope at `x`. -/
def Bin.lad (s : Bin) (x : ℝ) : ℝ :=
  Real.log (s.mean * s.mean * num s.mean s.a s.b (s.frac x)) - 2 * Real.log (den s.mean s.a s.b (s.frac x))

/-- A bin that has a positive width and height, positive slopes, and `x` in it. -/
structure Bin.Ok (s : Bin) (x : ℝ) : Prop where
  wide : 0 < s.wide
  high : 0 < s.high
  a : 0 < s.a
  b : 0 < s.b
  frac0 : 0 ≤ s.frac x
  frac1 : s.frac x ≤ 1

/-- The mean slope of a proper bin is positive. -/
theorem Bin.Ok.mean {s : Bin} {x : ℝ} (h : s.Ok x) : 0 < s.mean := div_pos h.high h.wide

/-- The bin of any point is as it should be. -/
theorem binOf_ok (c : ℝ) (u h : Fin 8 → ℝ) (v : Fin 7 → ℝ) (z : ℝ) : (binOf c u h v z).Ok (clip z) := by
  have hi := bin_lt (knot u) (clip z)
  have hm := bin_mem u (clip_mem z).1 (clip_mem z).2
  have hw := width_pos u _ hi
  refine ⟨hw, width_pos h _ hi, slope_pos c v _, slope_pos c v _, ?_, ?_⟩
  · exact div_nonneg (by simpa [binOf] using hm.1) hw.le
  · refine (div_le_one hw).2 ?_
    simp only [binOf, width]
    linarith [hm.2]

/-- The next point: the spline's value inside the interval, the point itself outside. -/
def next (c : ℝ) (u h : Fin 8 → ℝ) (v : Fin 7 → ℝ) (z : ℝ) : ℝ :=
  if -T ≤ z ∧ z ≤ T then (binOf c u h v z).val (clip z) else z

/-- The log-slope: the spline's inside the interval, zero outside. -/
def logSlope (c : ℝ) (u h : Fin 8 → ℝ) (v : Fin 7 → ℝ) (z : ℝ) : ℝ :=
  if -T ≤ z ∧ z ≤ T then (binOf c u h v z).lad (clip z) else 0

/-- Every knot lies in the interval. -/
theorem knot_mem (u : Fin 8 → ℝ) (k : ℕ) (hk : k ≤ 8) : -T ≤ knot u k ∧ knot u k ≤ T := by
  have k0 : knot u 0 = -T := by simp [knot]
  have k8 : knot u 8 = T := by simp [knot]
  have l0 := knot_lt u (k := 0) (by norm_num); have l1 := knot_lt u (k := 1) (by norm_num)
  have l2 := knot_lt u (k := 2) (by norm_num); have l3 := knot_lt u (k := 3) (by norm_num)
  have l4 := knot_lt u (k := 4) (by norm_num); have l5 := knot_lt u (k := 5) (by norm_num)
  have l6 := knot_lt u (k := 6) (by norm_num); have l7 := knot_lt u (k := 7) (by norm_num)
  simp only [Nat.reduceAdd, zero_add] at l0 l1 l2 l3 l4 l5 l6 l7
  interval_cases k <;> constructor <;> linarith

/-- A spline keeps `[-16, 16]`. -/
theorem next_le (c : ℝ) (u h : Fin 8 → ℝ) (v : Fin 7 → ℝ) (z : ℝ) (hz : |z| ≤ 16) : |next c u h v z| ≤ 16 := by
  unfold next
  split_ifs with hin
  · have ok := binOf_ok c u h v z
    have hr := rise_mem ok.mean ok.a ok.b ok.frac0 ok.frac1
    have hi := bin_lt (knot u) (clip z)
    have lo := knot_mem h (bin (knot u) (clip z)) hi.le
    have hi' := knot_mem h (bin (knot u) (clip z) + 1) hi
    have hT : T ≤ 16 := by norm_num [T]
    have hl : (binOf c u h v z).low = knot h (bin (knot u) (clip z)) := rfl
    have hh : (binOf c u h v z).high = knot h (bin (knot u) (clip z) + 1) - knot h (bin (knot u) (clip z)) := rfl
    have h0 := mul_nonneg ok.high.le hr.1
    have h1 := mul_le_mul_of_nonneg_left hr.2 ok.high.le
    unfold Bin.val
    rw [mul_div_assoc, abs_le]
    constructor <;> linarith
  · exact hz

end Cert.Flow

end
-- ==== Proof.Lift.lean ====
/-
  Real numbers among the extended reals: each operation the programs use, at arguments that are real numbers, is the
  real operation; and the float words the programs write, as real numbers.
-/
module

public import Idealize.ShloMosaic.PureOps.Ideal
public import Idealize.ShloMosaic.Lib.Pointwise
public import proofs.«01_k».proof.Proof.Spline
public import proofs.«01_k».proof.KernelIdeal

@[expose] public section

noncomputable section

namespace Cert.Flow

open Idealize.ShloMosaic

/-- The greater of two real numbers is real. -/
theorem max_coe (a b : ℝ) : max (a : EReal) (b : EReal) = ((max a b : ℝ) : EReal) :=
  (EReal.coe_strictMono.monotone.map_max).symm

/-- The smaller of two real numbers is real. -/
theorem min_coe (a b : ℝ) : min (a : EReal) (b : EReal) = ((min a b : ℝ) : EReal) :=
  (EReal.coe_strictMono.monotone.map_min).symm

/-- A quotient of real numbers by one that is not zero is real. -/
theorem div_real (a : ℝ) {b : ℝ} (h : b ≠ 0) : Ideal.div (a : EReal) (b : EReal) = ((a / b : ℝ) : EReal) := by
  rw [Ideal.div_coe h, ← EReal.coe_mul, mul_one_div]

/-- The logarithm of a positive real number is real. -/
theorem log_real {r : ℝ} (h : 0 < r) : Ideal.log (r : EReal) = ((Real.log r : ℝ) : EReal) := by
  rw [Ideal.log_coe, if_neg h.not_ge]

/-- The logarithm of one and a positive real number is real. -/
theorem log1p_real {r : ℝ} (h : 0 < r) : Ideal.log1p (r : EReal) = ((Real.log (1 + r) : ℝ) : EReal) := by
  rw [Ideal.log1p, ← EReal.coe_one, ← EReal.coe_add, log_real (by linarith)]

/-- The magnitude of a real number is real. -/
theorem abs_real (a : ℝ) : FloatOps.absf (F := Ideal) (φ := .f32) (a : EReal) = ((|a| : ℝ) : EReal) := by
  show max (a : EReal) (-(a : EReal)) = _
  rw [← EReal.coe_neg, max_coe, abs_eq_max_neg]

/-- A choice between real numbers is real. -/
theorem ite_coe (p : Prop) [Decidable p] (a b : ℝ) :
    (if p then (a : EReal) else (b : EReal)) = ((if p then a else b : ℝ) : EReal) := by
  split_ifs <;> rfl

/-- `softplus` as both programs compute it. -/
theorem softplus_real (a : ℝ) :
    max (a : EReal) 0 + Ideal.log1p (Ideal.exp (0 - FloatOps.absf (F := Ideal) (φ := .f32) (a : EReal)))
      = ((softplus a : ℝ) : EReal) := by
  rw [abs_real, ← EReal.coe_zero, ← EReal.coe_sub, Ideal.exp_coe, log1p_real (Real.exp_pos _), max_coe,
    ← EReal.coe_add, softplus, zero_sub]

/-- Reading a list of nine by the bin's number, the way a chain of comparisons does. -/
theorem chain_real (c f : ℕ → ℝ) (x : ℝ) :
    (if (c 7 : EReal) ≤ x then (f 7 : EReal) else if (c 6 : EReal) ≤ x then (f 6 : EReal)
      else if (c 5 : EReal) ≤ x then (f 5 : EReal) else if (c 4 : EReal) ≤ x then (f 4 : EReal)
      else if (c 3 : EReal) ≤ x then (f 3 : EReal) else if (c 2 : EReal) ≤ x then (f 2 : EReal)
      else if (c 1 : EReal) ≤ x then (f 1 : EReal) else (f 0 : EReal)) = ((f (bin c x) : ℝ) : EReal) := by
  simp only [EReal.coe_le_coe_iff]
  unfold bin
  split_ifs <;> rfl

/-! The float words. -/

/-- The word of the slope's logit at the two outer knots. -/
def cB : ℝ := 9055375 / 16777216

/-- The word of the density's constant. -/
def logZ : ℝ := 677515 / 16384

/-- The word of the tail bound. -/
theorem word_T : Ideal.ofBits .f32 0x415D0C55#32 = ((T : ℝ) : EReal) := by
  simp [Ideal.ofBits, Ideal.ieee, T, -EReal.coe_mul]; norm_num

/-- The word of minus the tail bound. -/
theorem word_negT : Ideal.ofBits .f32 0xC15D0C55#32 = ((-T : ℝ) : EReal) := by
  simp [Ideal.ofBits, Ideal.ieee, T, -EReal.coe_mul, -EReal.coe_neg]; norm_num

/-- The word of twice the tail bound. -/
theorem word_2T : Ideal.ofBits .f32 0x41DD0C55#32 = ((2 * T : ℝ) : EReal) := by
  simp [Ideal.ofBits, Ideal.ieee, T, -EReal.coe_mul]; norm_num

/-- The word of the least share. -/
theorem word_m : Ideal.ofBits .f32 0x3A83126F#32 = ((mB : ℝ) : EReal) := by
  simp [Ideal.ofBits, Ideal.ieee, mB, -EReal.coe_mul]; norm_num

/-- The word of the rest of the shares. -/
theorem word_q : Ideal.ofBits .f32 0x3F7DF3B6#32 = ((qB : ℝ) : EReal) := by
  simp [Ideal.ofBits, Ideal.ieee, qB, -EReal.coe_mul]; norm_num

/-- The word of 16. -/
theorem word_16 : Ideal.ofBits .f32 0x41800000#32 = ((16 : ℝ) : EReal) := by
  simp [Ideal.ofBits, Ideal.ieee, -EReal.coe_mul]; norm_num

/-- The word of a sixteenth. -/
theorem word_sixteenth : Ideal.ofBits .f32 0x3D800000#32 = ((1 / 16 : ℝ) : EReal) := by
  simp [Ideal.ofBits, Ideal.ieee, -EReal.coe_mul]; norm_num

/-- The word of 60. -/
theorem word_60 : Ideal.ofBits .f32 0x42700000#32 = ((60 : ℝ) : EReal) := by
  simp [Ideal.ofBits, Ideal.ieee, -EReal.coe_mul]; norm_num

/-- The word of minus 60. -/
theorem word_neg60 : Ideal.ofBits .f32 0xC2700000#32 = ((-60 : ℝ) : EReal) := by
  simp [Ideal.ofBits, Ideal.ieee, -EReal.coe_mul, -EReal.coe_neg]; norm_num

/-- The word of 2. -/
theorem word_2 : Ideal.ofBits .f32 0x40000000#32 = ((2 : ℝ) : EReal) := by
  simp [Ideal.ofBits, Ideal.ieee, -EReal.coe_mul]; norm_num

/-- The word of one. -/
theorem word_1 : Ideal.ofBits .f32 0x3F800000#32 = ((1 : ℝ) : EReal) := by
  simp [Ideal.ofBits, Ideal.ieee, -EReal.coe_mul]; norm_num

/-- The word of one half. -/
theorem word_half : Ideal.ofBits .f32 0x3F000000#32 = ((1 / 2 : ℝ) : EReal) := by
  simp [Ideal.ofBits, Ideal.ieee, -EReal.coe_mul]; norm_num

/-- The word of the slope constant at the ends. -/
theorem word_c : Ideal.ofBits .f32 0x3F0A2C8F#32 = ((cB : ℝ) : EReal) := by
  simp [Ideal.ofBits, Ideal.ieee, cB, -EReal.coe_mul]; norm_num

/-- The word of the normal density's constant. -/
theorem word_logZ : Ideal.ofBits .f32 0x422568B0#32 = ((logZ : ℝ) : EReal) := by
  simp [Ideal.ofBits, Ideal.ieee, logZ, -EReal.coe_mul]; norm_num

open Cert.KernelIdeal in
theorem named_scale : Named.named (F := Ideal) (φ := .f32) κ "scale" 0x41DB47A0#32 = ((2 * T * qB : ℝ) : EReal) := by
  show (((120550335592887 / 4398046511104 : ℝ)) : EReal) = _
  congr 1; norm_num [T, qB]

open Cert.KernelIdeal in
theorem named_first : Named.named (F := Ideal) (φ := .f32) κ "first" 0xC15C9B28#32 = ((2 * T * mB - T : ℝ) : EReal) := by
  show (((-62095090000768293 / 4503599627370496 : ℝ)) : EReal) = _
  congr 1; norm_num [T, mB]

open Cert.KernelIdeal in
theorem named_least : Named.named (F := Ideal) (φ := .f32) κ "least" 0x3CE25A74#32 = ((2 * T * mB : ℝ) : EReal) := by
  show (((124439064040155 / 4503599627370496 : ℝ)) : EReal) = _
  congr 1; norm_num [T, mB]

/-! The knots, as they are accumulated one width at a time. -/

/-- A knot and the width after it make the next knot. -/
theorem knot_succ (u : Fin 8 → ℝ) (k : ℕ) : knot u k + width u k = knot u (k + 1) := by unfold width; ring

/-- The second knot, as the kernel computes it. -/
theorem knot_one (u : Fin 8 → ℝ) : Real.exp (u 0) * (2 * T * qB / ∑ l, Real.exp (u l)) + (2 * T * mB - T) = knot u 1 := by
  simp [knot, upto, share, Fin.sum_univ_eight]; ring

/-- The inner widths, as the kernel computes them. -/
theorem width_inner (u : Fin 8 → ℝ) (k : Fin 8) (h1 : 1 ≤ k.val) (h2 : k.val < 7) :
    Real.exp (u k) * (2 * T * qB / ∑ l, Real.exp (u l)) + 2 * T * mB = width u k.val := by
  fin_cases k <;> simp [width, knot, upto, share, Fin.sum_univ_eight] at h1 h2 ⊢ <;> ring

/-- The first width, from the second knot. -/
theorem width_zero (u : Fin 8 → ℝ) : knot u 1 + T = width u 0 := by
  simp [width, knot]

/-- The last width, from the last knot but one. -/
theorem width_seven (u : Fin 8 → ℝ) : T - knot u 7 = width u 7 := by
  simp [width, knot]

/-- The clamp within 60 changes nothing within 60. -/
theorem clamp_exp {x : ℝ} (h : |x| ≤ 60) : Ideal.exp (min (max (x : EReal) ((-60 : ℝ) : EReal)) ((60 : ℝ) : EReal))
    = ((Real.exp x : ℝ) : EReal) := by
  have := abs_le.1 h
  rw [max_coe, min_coe, max_eq_left this.1, min_eq_left this.2, Ideal.exp_coe]

end Cert.Flow

end
-- ==== Proof.Range.lean ====
/-
  The stated range of the arguments, read at an index: the point and the condition are bounded, and so are the network's
  outputs' bounds.
-/
module

public import Idealize.ShloMosaic.Lib.Pointwise
public import proofs.«01_k».proof.Proof.Gen.Pre_in_range
public import proofs.«01_k».proof.Proof.Net
public import proofs.«01_k».proof.Proof.Lift

@[expose] public section

set_option maxRecDepth 16384

noncomputable section

namespace Cert.Flow

open Idealize.ShloMosaic Idealize.ShloMosaic.TcCoe Idealize.SL.Sem
open Cert.Pre_in_range

/-- The word of 16. -/
theorem word_16r : Ideal.ofBits .f32 0x41800000#32 = ((16 : ℝ) : EReal) := by
  simp [Ideal.ofBits, Ideal.ieee, -EReal.coe_mul]; norm_num

/-- The word of 8. -/
theorem word_8 : Ideal.ofBits .f32 0x41000000#32 = ((8 : ℝ) : EReal) := by
  simp [Ideal.ofBits, Ideal.ieee, -EReal.coe_mul]; norm_num

/-- The word of 960. -/
theorem word_960 : Ideal.ofBits .f32 0x44700000#32 = ((960 : ℝ) : EReal) := by
  simp [Ideal.ofBits, Ideal.ieee, -EReal.coe_mul]; norm_num

/-- A comparison that came out one holds. -/
theorem of_bit {p : Prop} [Decidable p] (h : BitVec.ofBool (decide p) = 1#1) : p := by
  by_contra hp
  rw [decide_eq_false hp] at h
  exact absurd h (by decide)

variable [Facts] (x : FVec Ideal S32768x45 .f32) (c : FVec Ideal S32768x1 .f32) (w : Weights)

/-- Every coordinate of the points is within 16. -/
theorem range_point (h : (fn x c w.W0 w.b0 w.Wc w.bc w.Wh w.bh w.Wf w.bf).1 = fun _ => 1#1) (n : Fin 32768) (d : Fin 45) :
    mag (x (ix2 n d)) ≤ ((16 : ℝ) : EReal) := by
  have e := congrFun h (ix2 n d)
  revert e
  pointwise [fn, fn_part1, fn_part2, fn_part3, fn_part4]
  intro e
  rw [word_16r] at e
  exact of_bit e

/-- Every condition is within 8. -/
theorem range_cond (h : (fn x c w.W0 w.b0 w.Wc w.bc w.Wh w.bh w.Wf w.bf).2.1 = fun _ => 1#1) (n : Fin 32768) :
    mag (c (ix2 n 0)) ≤ ((8 : ℝ) : EReal) := by
  have e := congrFun h (ix2 n 0)
  revert e
  pointwise [fn, fn_part1, fn_part2, fn_part3, fn_part4]
  intro e
  rw [word_8] at e
  exact of_bit e

/-- The absolute value at the ideal instance is the magnitude. -/
theorem mag_def (a : EReal) : FloatOps.absf (F := Ideal) (φ := .f32) a = mag a := rfl

/-- The bound of every output of every block's network is at most 960. -/
theorem range_net (h : (fn x c w.W0 w.b0 w.Wc w.bc w.Wh w.bh w.Wf w.bf).2.2 = fun _ => 1#1) (t : Fin 6) (r : Fin 1035) :
    boundNet w t r ≤ ((960 : ℝ) : EReal) := by
  have e := congrFun h (ix2 t r)
  revert e
  pointwise [fn, fn_part1, fn_part2, fn_part3, fn_part4, fn_where, fn_where_0, fn_where_1]
  intro e
  simp only [id_eq] at e
  revert e
  pointwise []
  intro e
  rw [word_16r, word_8, word_960] at e
  exact of_bit e

end Cert.Flow

end
-- ==== Proof.KernelLane.lean ====
/-
  One trip of the kernel's loop after the network: the spline, a coordinate at a time. Where a coordinate's point and
  the network's outputs for it are real numbers, the new point and the log-slope are the real spline's.
-/
module

public import proofs.«01_k».proof.Proof.Gen.KernelIdeal.Skeleton
public import proofs.«01_k».proof.Proof.Lift

@[expose] public section

set_option maxRecDepth 16384

noncomputable section

namespace Cert.Flow

open Idealize.ShloMosaic Idealize.ShloMosaic.TcCoe Idealize.SL.Sem
open Cert.KernelIdeal Cert.KernelIdeal.Gen

/-- The row of output `m` of coordinate `d` among the network's outputs. -/
def row (m : Fin 23) (d : Fin 48) : Fin 1104 := ⟨m.val * 48 + d.val, by omega⟩

/-- The point and the summed log-slope after a trip, from those before it and the network's outputs. -/
def spline (v0 : Vec Ideal S1x1024 .f32) (z ld : FVec Ideal S48x1024 .f32) (v74 : FVec Ideal S1104x1024 .f32)
    (v76 : Vec Ideal S1x1104x1 .f32) : FVec Ideal S48x1024 .f32 × FVec Ideal S48x1024 .f32 :=
  let v83 := k0_pay3 z
  let v84 := k0_pay4 z
  let v89 := k0_pay5 v74 v76
  let v90 := k0_pay6 v74 v76
  let v91 := k0_pay7 v74 v76
  let v92 := k0_pay8 v74 v76
  let v93 := k0_pay9 v74 v76
  let v94 := k0_pay10 v74 v76
  let v95 := k0_pay11 v74 v76
  let v96 := k0_pay12 v74 v76
  let v97 := k0_pay13 v74 v76
  let v98 := k0_pay14 v74 v76
  let v99 := k0_pay15 v74 v76
  let v100 := k0_pay16 v74 v76
  let v101 := k0_pay17 v74 v76
  let v102 := k0_pay18 v74 v76
  let v103 := k0_pay19 v74 v76
  let v104 := k0_pay20 v74 v76
  let v105 := k0_pay21 v74 v76
  let v106 := k0_pay22 v74 v76
  let v107 := k0_pay23 v74 v76
  let v112 := k0_pay24 v74 v76
  let v117 := k0_pay25 v74 v76
  let v122 := k0_pay26 v74 v76
  let v124 := k0_pay27 v74 v76
  let v125 := k0_pay28 (F := Ideal)
  let v137 := k0_pay31 v90
  let v142 := k0_pay32 v91
  let v156 := k0_pay33 v89 v90 v91 v92 v112 v117 v122 v124 v125
  let v157 := k0_pay34 (F := Ideal)
  let v160 := k0_pay35 v89 v90 v91 v92 v112 v117 v122 v124 v125
  let v163 := k0_pay36 v89 v90 v91 v92 v112 v117 v122 v124 v125
  let v166 := k0_pay37 v89 v90 v91 v92 v112 v117 v122 v124 v125
  let v169 := k0_pay38 v89 v90 v91 v92 v112 v117 v122 v124 v125
  let v170 := k0_pay39 v89 v90 v91 v92 v112 v117 v122 v124 v125
  let cst_59 : Ideal .f32 := Named.named κ "least" 0x3CE25A74#32
  let v172 := k0_pay40 v170 cst_59
  let v175 := k0_pay41 v137 v156
  let v178 := k0_pay42 v142 v156
  let v179 := k0_pay43 v160 v163
  let v180 := k0_pay44 v160 v163 v166
  let v181 := k0_pay45 v160 v163 v166 v169
  let v182 := k0_pay46 v160 v163 v166 v169 v170 cst_59
  let v183 := k0_pay47 v137 v156 v160 v163 v166 v169 v170 cst_59
  let v184 := k0_pay48 v137 v142 v156 v160 v163 v166 v169 v170 cst_59
  let v186 := k0_pay49 v160
  let v188 := k0_pay50 v137 v142 v156 v160 v163 v166 v169 v170 cst_59
  let v193 := k0_pay51 v93
  let v198 := k0_pay52 v94
  let v203 := k0_pay53 v95
  let v208 := k0_pay54 v96
  let v213 := k0_pay55 v97
  let cst_75 : Ideal .f32 := Scalar.ofBits .f32 0x42700000#32
  let v214 := k0_pay56 (F := Ideal)
  let v238 := k0_pay60 (F := Ideal)
  let v241 := k0_pay61 v98 v99 v100 v193 v198 v203 v208 v213 cst_75 v214
  let v244 := k0_pay62 v98 v99 v100 v193 v198 v203 v208 v213 cst_75 v214
  let v247 := k0_pay63 v98 v99 v100 v193 v198 v203 v208 v213 cst_75 v214
  let v250 := k0_pay64 v98 v99 v100 v193 v198 v203 v208 v213 cst_75 v214
  let v253 := k0_pay65 v98 v99 v100 v193 v198 v203 v208 v213 cst_75 v214
  let v256 := k0_pay66 v98 v99 v100 v193 v198 v203 v208 v213 cst_75 v214
  let v259 := k0_pay67 v98 v99 v100 v193 v198 v203 v208 v213 cst_75 v214
  let v260 := k0_pay68 v98 v99 v100 v193 v198 v203 v208 v213 cst_75 v214
  let v261 := k0_pay69 v98 v99 v100 v193 v198 v203 v208 v213 cst_75 v214
  let v274 := k0_pay78 v83 v182
  let v275 := k0_pay79 v83 v183
  let v276 := k0_pay80 v83 v184
  let v283 := k0_pay81 v83 v157 v160 v179 v180 v181 v182 v183 v184
  let v290 := k0_pay82 v83 v160 v163 v166 v169 v172 v175 v178 v179 v180 v181 v182 v183 v184 v186 v188
  let v297 := k0_pay83 v83 v160 v179 v180 v181 v182 v183 v184 v238 v241 v250 v253 v256 v259 v260 v261
  let v304 := k0_pay84 v83 v160 v179 v180 v181 v182 v183 v184 v241 v244 v247 v250 v253 v256 v259 v261
  let v312 := k0_pay85 v83 v101 v102 v103 v104 v105 v106 v107 v160 v179 v180 v181 v182 v183 v184
  let v313 := k0_pay86 (F := Ideal)
  let v317 := k0_pay87 v83 v101 v102 v103 v104 v105 v160 v179 v180 v181
  let v336 := k0_pay88 v312
  let v352 := k0_pay89 v106 v107 v274 v275 v276 v313 v317
  let v355 := k0_pay91 v290 v304
  let v357 := k0_pay92 v83 v283 v290
  let v360 := k0_pay93 v83 v283 v290
  let v361 := k0_pay94 v83 v283 v290
  let v367 := k0_pay95 v83 v106 v107 v274 v275 v276 v283 v290 v304 v312 v313 v317
  let cst_102 : Ideal .f32 := Scalar.ofBits .f32 0x3F800000#32
  (k0_pay102 v0 z v84 v297 v304 v336 v355 v360 v361 v367 cst_102,
    k0_pay103 ld v84 v336 v352 v355 v357 v360 v361 v367 cst_102)

section
variable {v0 : Vec Ideal S1x1024 .f32} {z ld : FVec Ideal S48x1024 .f32} {v74 : FVec Ideal S1104x1024 .f32}
  {v76 : Vec Ideal S1x1104x1 .f32} {d : Fin 48} {n : Fin 1024} {x : ℝ} {U : Fin 23 → ℝ}

/-- What one coordinate reads: its point, its 23 outputs, and that the sixteen logits are within the clamp. -/
structure Lane (z : FVec Ideal S48x1024 .f32) (v74 : FVec Ideal S1104x1024 .f32) (v76 : Vec Ideal S1x1104x1 .f32)
    (d : Fin 48) (n : Fin 1024) (x : ℝ) (U : Fin 23 → ℝ) : Prop where
  point : z (ix2 d n) = (x : EReal)
  outs : ∀ m, k0_pay2 v74 v76 (ix2 (row m d) n) = (U m : EReal)
  within : ∀ m : Fin 23, m.val < 16 → |U m| ≤ 60

/-- The width logits among the 23 outputs. -/
def uOf (U : Fin 23 → ℝ) (k : Fin 8) : ℝ := U ⟨k.val, by omega⟩

/-- The height logits among the 23 outputs. -/
def hOf (U : Fin 23 → ℝ) (k : Fin 8) : ℝ := U ⟨8 + k.val, by omega⟩

/-- The slope logits among the 23 outputs. -/
def vOf (U : Fin 23 → ℝ) (k : Fin 7) : ℝ := U ⟨16 + k.val, by omega⟩

/-- The word one, as a number. -/
theorem sitofp_one : FloatOps.sitofp (F := Ideal) .f32 (1#32) = (1 : EReal) := by
  show (((1#32).toInt : ℝ) : EReal) = 1
  norm_num

/-- The word zero, as a number. -/
theorem sitofp_zero : FloatOps.sitofp (F := Ideal) .f32 (0#32) = (0 : EReal) := by
  show (((0#32).toInt : ℝ) : EReal) = 0
  norm_num

/-- The mark of a row that holds a coordinate is one. -/
theorem valid_lt (d : Fin 48) (h : d.val < 45) : FloatOps.sitofp (F := Ideal) .f32
    (BitVec.setWidth 32 (IntOp.cmpi CmpIPredicate.slt (BitVec.ofNat 32 d.val) 45#32)) = (1 : EReal) := by
  rw [show BitVec.setWidth 32 (IntOp.cmpi CmpIPredicate.slt (BitVec.ofNat 32 d.val) 45#32) = 1#32 from
    (by decide +kernel : ∀ d : Fin 48, d.val < 45 →
      BitVec.setWidth 32 (IntOp.cmpi CmpIPredicate.slt (BitVec.ofNat 32 d.val) 45#32) = 1#32) d h, sitofp_one]

/-- The mark of a row that holds none is zero. -/
theorem valid_ge (d : Fin 48) (h : ¬ d.val < 45) : FloatOps.sitofp (F := Ideal) .f32
    (BitVec.setWidth 32 (IntOp.cmpi CmpIPredicate.slt (BitVec.ofNat 32 d.val) 45#32)) = (0 : EReal) := by
  rw [show BitVec.setWidth 32 (IntOp.cmpi CmpIPredicate.slt (BitVec.ofNat 32 d.val) 45#32) = 0#32 from
    (by decide +kernel : ∀ d : Fin 48, ¬ d.val < 45 →
      BitVec.setWidth 32 (IntOp.cmpi CmpIPredicate.slt (BitVec.ofNat 32 d.val) 45#32) = 0#32) d h, sitofp_zero]

/-- The mark of one row. -/
theorem mark_eq (c : ℕ) (hc : c = 45 ∨ c = 46) (d : Fin 48) : FloatOps.sitofp (F := Ideal) .f32
    (BitVec.setWidth 32 (IntOp.cmpi CmpIPredicate.eq (BitVec.ofNat 32 d.val) (BitVec.ofNat 32 c)))
      = (if d.val = c then 1 else 0 : EReal) := by
  have e : BitVec.setWidth 32 (IntOp.cmpi CmpIPredicate.eq (BitVec.ofNat 32 d.val) (BitVec.ofNat 32 c))
      = if d.val = c then 1#32 else 0#32 := by
    rcases hc with rfl | rfl
    · exact (by decide +kernel : ∀ d : Fin 48, BitVec.setWidth 32 (IntOp.cmpi CmpIPredicate.eq (BitVec.ofNat 32 d.val)
        (BitVec.ofNat 32 45)) = if d.val = 45 then 1#32 else 0#32) d
    · exact (by decide +kernel : ∀ d : Fin 48, BitVec.setWidth 32 (IntOp.cmpi CmpIPredicate.eq (BitVec.ofNat 32 d.val)
        (BitVec.ofNat 32 46)) = if d.val = 46 then 1#32 else 0#32) d
  rw [e]
  split_ifs
  · exact sitofp_one
  · exact sitofp_zero

/-- The rows after the coordinates: a one, the condition, and a zero. -/
theorem aug_read (v0 : Vec Ideal S1x1024 .f32) (d : Fin 48) (n : Fin 1024) :
    k0_pay98 v0 (ix2 d n) = if d.val = 45 then (1 : EReal) else if d.val = 46 then v0 (ix2 0 n) else 0 := by
  pointwise [k0_pay98, k0_pay96]
  rw [mark_eq 45 (.inl rfl), mark_eq 46 (.inr rfl)]
  by_cases h5 : d.val = 45
  · rw [if_pos h5, if_neg (by omega), if_pos h5, zero_mul, add_zero]
  · rw [if_neg h5, if_neg h5, zero_add]
    by_cases h6 : d.val = 46
    · rw [if_pos h6, if_pos h6, one_mul]
    · rw [if_neg h6, if_neg h6, zero_mul]

/-- After a trip, a row that holds no coordinate is what it was at the start, and its log-slope stays. -/
theorem spline_rest (hd : ¬ d.val < 45) :
    (spline v0 z ld v74 v76).1 (ix2 d n) = k0_pay98 v0 (ix2 d n) ∧
    (spline v0 z ld v74 v76).2 (ix2 d n) = ld (ix2 d n) := by
  constructor
  · unfold spline
    pointwise [k0_pay102, k0_pay97]
    rw [valid_ge d hd, mul_zero, zero_add]
  · unfold spline
    pointwise [k0_pay103, k0_pay97]
    rw [valid_ge d hd, mul_zero]
    simp [Scalar.select]

/-- Row `48 m + d` of the outputs with their biases is output `m` of coordinate `d`. -/
theorem out_read (L : Lane z v74 v76 d n x U) (m : Fin 23) (r : Fin 1104) (h : r.val = m.val * 48 + d.val) :
    k0_pay2 v74 v76 (ix2 r n) = (U m : EReal) :=
  (congrArg (fun r => k0_pay2 v74 v76 (ix2 r n)) (Fin.ext h)).trans (L.outs m)

set_option maxHeartbeats 4000000 in
/-- One coordinate of a trip. -/
theorem spline_read (L : Lane z v74 v76 d n x U) (hd : d.val < 45) :
    (spline v0 z ld v74 v76).1 (ix2 d n) = ((next cB (uOf U) (hOf U) (vOf U) x : ℝ) : EReal) ∧
    (spline v0 z ld v74 v76).2 (ix2 d n)
      = ld (ix2 d n) + ((logSlope cB (uOf U) (hOf U) (vOf U) x : ℝ) : EReal) := by
  have hw := L.within
  have hz := L.point

  let v83 := k0_pay3 z
  let v84 := k0_pay4 z
  let v89 := k0_pay5 v74 v76
  let v90 := k0_pay6 v74 v76
  let v91 := k0_pay7 v74 v76
  let v92 := k0_pay8 v74 v76
  let v93 := k0_pay9 v74 v76
  let v94 := k0_pay10 v74 v76
  let v95 := k0_pay11 v74 v76
  let v96 := k0_pay12 v74 v76
  let v97 := k0_pay13 v74 v76
  let v98 := k0_pay14 v74 v76
  let v99 := k0_pay15 v74 v76
  let v100 := k0_pay16 v74 v76
  let v101 := k0_pay17 v74 v76
  let v102 := k0_pay18 v74 v76
  let v103 := k0_pay19 v74 v76
  let v104 := k0_pay20 v74 v76
  let v105 := k0_pay21 v74 v76
  let v106 := k0_pay22 v74 v76
  let v107 := k0_pay23 v74 v76
  let v112 := k0_pay24 v74 v76
  let v117 := k0_pay25 v74 v76
  let v122 := k0_pay26 v74 v76
  let v124 := k0_pay27 v74 v76
  let v125 := k0_pay28 (F := Ideal)
  let v137 := k0_pay31 v90
  let v142 := k0_pay32 v91
  let v156 := k0_pay33 v89 v90 v91 v92 v112 v117 v122 v124 v125
  let v157 := k0_pay34 (F := Ideal)
  let v160 := k0_pay35 v89 v90 v91 v92 v112 v117 v122 v124 v125
  let v163 := k0_pay36 v89 v90 v91 v92 v112 v117 v122 v124 v125
  let v166 := k0_pay37 v89 v90 v91 v92 v112 v117 v122 v124 v125
  let v169 := k0_pay38 v89 v90 v91 v92 v112 v117 v122 v124 v125
  let v170 := k0_pay39 v89 v90 v91 v92 v112 v117 v122 v124 v125
  let cst_59 : Ideal .f32 := Named.named κ "least" 0x3CE25A74#32
  let v172 := k0_pay40 v170 cst_59
  let v175 := k0_pay41 v137 v156
  let v178 := k0_pay42 v142 v156
  let v179 := k0_pay43 v160 v163
  let v180 := k0_pay44 v160 v163 v166
  let v181 := k0_pay45 v160 v163 v166 v169
  let v182 := k0_pay46 v160 v163 v166 v169 v170 cst_59
  let v183 := k0_pay47 v137 v156 v160 v163 v166 v169 v170 cst_59
  let v184 := k0_pay48 v137 v142 v156 v160 v163 v166 v169 v170 cst_59
  let v186 := k0_pay49 v160
  let v188 := k0_pay50 v137 v142 v156 v160 v163 v166 v169 v170 cst_59
  let v193 := k0_pay51 v93
  let v198 := k0_pay52 v94
  let v203 := k0_pay53 v95
  let v208 := k0_pay54 v96
  let v213 := k0_pay55 v97
  let cst_75 : Ideal .f32 := Scalar.ofBits .f32 0x42700000#32
  let v214 := k0_pay56 (F := Ideal)
  let v238 := k0_pay60 (F := Ideal)
  let v241 := k0_pay61 v98 v99 v100 v193 v198 v203 v208 v213 cst_75 v214
  let v244 := k0_pay62 v98 v99 v100 v193 v198 v203 v208 v213 cst_75 v214
  let v247 := k0_pay63 v98 v99 v100 v193 v198 v203 v208 v213 cst_75 v214
  let v250 := k0_pay64 v98 v99 v100 v193 v198 v203 v208 v213 cst_75 v214
  let v253 := k0_pay65 v98 v99 v100 v193 v198 v203 v208 v213 cst_75 v214
  let v256 := k0_pay66 v98 v99 v100 v193 v198 v203 v208 v213 cst_75 v214
  let v259 := k0_pay67 v98 v99 v100 v193 v198 v203 v208 v213 cst_75 v214
  let v260 := k0_pay68 v98 v99 v100 v193 v198 v203 v208 v213 cst_75 v214
  let v261 := k0_pay69 v98 v99 v100 v193 v198 v203 v208 v213 cst_75 v214
  let v274 := k0_pay78 v83 v182
  let v275 := k0_pay79 v83 v183
  let v276 := k0_pay80 v83 v184
  let v283 := k0_pay81 v83 v157 v160 v179 v180 v181 v182 v183 v184
  let v290 := k0_pay82 v83 v160 v163 v166 v169 v172 v175 v178 v179 v180 v181 v182 v183 v184 v186 v188
  let v297 := k0_pay83 v83 v160 v179 v180 v181 v182 v183 v184 v238 v241 v250 v253 v256 v259 v260 v261
  let v304 := k0_pay84 v83 v160 v179 v180 v181 v182 v183 v184 v241 v244 v247 v250 v253 v256 v259 v261
  let v312 := k0_pay85 v83 v101 v102 v103 v104 v105 v106 v107 v160 v179 v180 v181 v182 v183 v184
  let v313 := k0_pay86 (F := Ideal)
  let v317 := k0_pay87 v83 v101 v102 v103 v104 v105 v160 v179 v180 v181
  let v336 := k0_pay88 v312
  let v352 := k0_pay89 v106 v107 v274 v275 v276 v313 v317
  let v355 := k0_pay91 v290 v304
  let v357 := k0_pay92 v83 v283 v290
  let v360 := k0_pay93 v83 v283 v290
  let v361 := k0_pay94 v83 v283 v290
  let v367 := k0_pay95 v83 v106 v107 v274 v275 v276 v283 v290 v304 v312 v313 v317
  let cst_102 : Ideal .f32 := Scalar.ofBits .f32 0x3F800000#32
  have hv83 : v83 (ix2 d n) = ((clip x : ℝ) : EReal) := by
    change (k0_pay3 z) (ix2 d n) = _
    pointwise [k0_pay3, hz]
    rw [word_T, word_negT, max_coe, min_coe]; rfl
  have h84 : ∀ a b : EReal, Scalar.select (v84 (ix2 d n)) a b = if -T ≤ x ∧ x ≤ T then a else b := by
    intro a b
    change Scalar.select (k0_pay4 z (ix2 d n)) a b = _
    have h83' := hv83
    change k0_pay3 z (ix2 d n) = _ at h83'
    pointwise [k0_pay4, hz, h83']
    simp only [EReal.coe_eq_coe_iff, clip_eq_iff]
  have hv89 : v89 (ix2 d n) = ((U 4 : ℝ) : EReal) := by
    change (k0_pay5 v74 v76) (ix2 d n) = _
    pointwise [k0_pay5]
    exact out_read L 4 _ (by simp)
  have hv90 : v90 (ix2 d n) = ((U 5 : ℝ) : EReal) := by
    change (k0_pay6 v74 v76) (ix2 d n) = _
    pointwise [k0_pay6]
    exact out_read L 5 _ (by simp)
  have hv91 : v91 (ix2 d n) = ((U 6 : ℝ) : EReal) := by
    change (k0_pay7 v74 v76) (ix2 d n) = _
    pointwise [k0_pay7]
    exact out_read L 6 _ (by simp)
  have hv92 : v92 (ix2 d n) = ((U 7 : ℝ) : EReal) := by
    change (k0_pay8 v74 v76) (ix2 d n) = _
    pointwise [k0_pay8]
    exact out_read L 7 _ (by simp)
  have hv93 : v93 (ix2 d n) = ((U 8 : ℝ) : EReal) := by
    change (k0_pay9 v74 v76) (ix2 d n) = _
    pointwise [k0_pay9]
    exact out_read L 8 _ (by simp)
  have hv94 : v94 (ix2 d n) = ((U 9 : ℝ) : EReal) := by
    change (k0_pay10 v74 v76) (ix2 d n) = _
    pointwise [k0_pay10]
    exact out_read L 9 _ (by simp)
  have hv95 : v95 (ix2 d n) = ((U 10 : ℝ) : EReal) := by
    change (k0_pay11 v74 v76) (ix2 d n) = _
    pointwise [k0_pay11]
    exact out_read L 10 _ (by simp)
  have hv96 : v96 (ix2 d n) = ((U 11 : ℝ) : EReal) := by
    change (k0_pay12 v74 v76) (ix2 d n) = _
    pointwise [k0_pay12]
    exact out_read L 11 _ (by simp)
  have hv97 : v97 (ix2 d n) = ((U 12 : ℝ) : EReal) := by
    change (k0_pay13 v74 v76) (ix2 d n) = _
    pointwise [k0_pay13]
    exact out_read L 12 _ (by simp)
  have hv98 : v98 (ix2 d n) = ((U 13 : ℝ) : EReal) := by
    change (k0_pay14 v74 v76) (ix2 d n) = _
    pointwise [k0_pay14]
    exact out_read L 13 _ (by simp)
  have hv99 : v99 (ix2 d n) = ((U 14 : ℝ) : EReal) := by
    change (k0_pay15 v74 v76) (ix2 d n) = _
    pointwise [k0_pay15]
    exact out_read L 14 _ (by simp)
  have hv100 : v100 (ix2 d n) = ((U 15 : ℝ) : EReal) := by
    change (k0_pay16 v74 v76) (ix2 d n) = _
    pointwise [k0_pay16]
    exact out_read L 15 _ (by simp)
  have hv101 : v101 (ix2 d n) = ((U 16 : ℝ) : EReal) := by
    change (k0_pay17 v74 v76) (ix2 d n) = _
    pointwise [k0_pay17]
    exact out_read L 16 _ (by simp)
  have hv102 : v102 (ix2 d n) = ((U 17 : ℝ) : EReal) := by
    change (k0_pay18 v74 v76) (ix2 d n) = _
    pointwise [k0_pay18]
    exact out_read L 17 _ (by simp)
  have hv103 : v103 (ix2 d n) = ((U 18 : ℝ) : EReal) := by
    change (k0_pay19 v74 v76) (ix2 d n) = _
    pointwise [k0_pay19]
    exact out_read L 18 _ (by simp)
  have hv104 : v104 (ix2 d n) = ((U 19 : ℝ) : EReal) := by
    change (k0_pay20 v74 v76) (ix2 d n) = _
    pointwise [k0_pay20]
    exact out_read L 19 _ (by simp)
  have hv105 : v105 (ix2 d n) = ((U 20 : ℝ) : EReal) := by
    change (k0_pay21 v74 v76) (ix2 d n) = _
    pointwise [k0_pay21]
    exact out_read L 20 _ (by simp)
  have hv106 : v106 (ix2 d n) = ((U 21 : ℝ) : EReal) := by
    change (k0_pay22 v74 v76) (ix2 d n) = _
    pointwise [k0_pay22]
    exact out_read L 21 _ (by simp)
  have hv107 : v107 (ix2 d n) = ((U 22 : ℝ) : EReal) := by
    change (k0_pay23 v74 v76) (ix2 d n) = _
    pointwise [k0_pay23]
    exact out_read L 22 _ (by simp)
  have hv112 : v112 (ix2 d n) = ((Real.exp (U 0) : ℝ) : EReal) := by
    change (k0_pay24 v74 v76) (ix2 d n) = _
    pointwise [k0_pay24]
    rw [out_read L 0 _ (by simp), word_60, word_neg60, clamp_exp (hw _ (by decide))]
  have hv117 : v117 (ix2 d n) = ((Real.exp (U 1) : ℝ) : EReal) := by
    change (k0_pay25 v74 v76) (ix2 d n) = _
    pointwise [k0_pay25]
    rw [out_read L 1 _ (by simp), word_60, word_neg60, clamp_exp (hw _ (by decide))]
  have hv122 : v122 (ix2 d n) = ((Real.exp (U 2) : ℝ) : EReal) := by
    change (k0_pay26 v74 v76) (ix2 d n) = _
    pointwise [k0_pay26]
    rw [out_read L 2 _ (by simp), word_60, word_neg60, clamp_exp (hw _ (by decide))]
  have hv124 : v124 (ix2 d n) = ((max (U 3) (-60) : ℝ) : EReal) := by
    change (k0_pay27 v74 v76) (ix2 d n) = _
    pointwise [k0_pay27]
    rw [out_read L 3 _ (by simp), word_neg60, max_coe]
  have hv125 : v125 (ix2 d n) = ((60 : ℝ) : EReal) := by
    change (k0_pay28 (F := Ideal)) (ix2 d n) = _
    pointwise [k0_pay28]
    exact word_60
  have h127 : k0_pay29 v124 v125 (ix2 d n) = ((Real.exp (U 3) : ℝ) : EReal) := by
    pointwise [k0_pay29]
    rw [hv124, hv125, ← max_coe, clamp_exp (hw _ (by decide))]
  have h132 : k0_pay30 v89 (ix2 d n) = ((Real.exp (U 4) : ℝ) : EReal) := by
    pointwise [k0_pay30]
    rw [hv89, word_60, word_neg60, clamp_exp (hw _ (by decide))]
  have hv137 : v137 (ix2 d n) = ((Real.exp (U 5) : ℝ) : EReal) := by
    change (k0_pay31 v90) (ix2 d n) = _
    pointwise [k0_pay31]
    rw [hv90, word_60, word_neg60, clamp_exp (hw _ (by decide))]
  have hv142 : v142 (ix2 d n) = ((Real.exp (U 6) : ℝ) : EReal) := by
    change (k0_pay32 v91) (ix2 d n) = _
    pointwise [k0_pay32]
    rw [hv91, word_60, word_neg60, clamp_exp (hw _ (by decide))]
  have hS : ∀ f : Fin 8 → ℝ, (∑ l, Real.exp (f l)) ≠ 0 := fun f => (total_pos f).ne'
  have hv156 : v156 (ix2 d n) = ((2 * T * qB / ∑ l, Real.exp (uOf U l) : ℝ) : EReal) := by
    change (k0_pay33 v89 v90 v91 v92 v112 v117 v122 v124 v125) (ix2 d n) = _
    pointwise [k0_pay33]
    rw [hv112, hv117, hv122, h127, h132, hv92]
    change Ideal.div _ (_ + _ + _ + _ + _ + v137 (ix2 d n) + v142 (ix2 d n) + _) = _
    rw [hv137, hv142, word_60, word_neg60, clamp_exp (hw _ (by decide)), named_scale]
    simp only [← EReal.coe_add]
    have e : Real.exp (U 0) + Real.exp (U 1) + Real.exp (U 2) + Real.exp (U 3) + Real.exp (U 4) + Real.exp (U 5)
        + Real.exp (U 6) + Real.exp (U 7) = ∑ l, Real.exp (uOf U l) := by simp only [Fin.sum_univ_eight]; rfl
    rw [e, div_real _ (hS _)]
  have hv157 : v157 (ix2 d n) = ((-T : ℝ) : EReal) := by
    change (k0_pay34 (F := Ideal)) (ix2 d n) = _
    pointwise [k0_pay34]
    exact word_negT
  have q156 : k0_pay33 v89 v90 v91 v92 v112 v117 v122 v124 v125 (ix2 d n) = ((2 * T * qB / ∑ l, Real.exp (uOf U l) : ℝ) : EReal) := hv156
  have hv160 : v160 (ix2 d n) = ((knot (uOf U) 1 : ℝ) : EReal) := by
    change (k0_pay35 v89 v90 v91 v92 v112 v117 v122 v124 v125) (ix2 d n) = _
    pointwise [k0_pay35]
    rw [q156, hv112, named_first, ← EReal.coe_mul, ← EReal.coe_add, ← knot_one]; rfl
  have hv163 : v163 (ix2 d n) = ((width (uOf U) 1 : ℝ) : EReal) := by
    change (k0_pay36 v89 v90 v91 v92 v112 v117 v122 v124 v125) (ix2 d n) = _
    pointwise [k0_pay36]
    rw [q156, hv117, named_least, ← EReal.coe_mul, ← EReal.coe_add]; exact congrArg _ (width_inner (uOf U) 1 (by decide) (by decide))
  have hv166 : v166 (ix2 d n) = ((width (uOf U) 2 : ℝ) : EReal) := by
    change (k0_pay37 v89 v90 v91 v92 v112 v117 v122 v124 v125) (ix2 d n) = _
    pointwise [k0_pay37]
    rw [q156, hv122, named_least, ← EReal.coe_mul, ← EReal.coe_add]; exact congrArg _ (width_inner (uOf U) 2 (by decide) (by decide))
  have hv169 : v169 (ix2 d n) = ((width (uOf U) 3 : ℝ) : EReal) := by
    change (k0_pay38 v89 v90 v91 v92 v112 v117 v122 v124 v125) (ix2 d n) = _
    pointwise [k0_pay38]
    rw [q156, h127, named_least, ← EReal.coe_mul, ← EReal.coe_add]; exact congrArg _ (width_inner (uOf U) 3 (by decide) (by decide))
  have hv172 : v172 (ix2 d n) = ((width (uOf U) 4 : ℝ) : EReal) := by
    change (k0_pay40 v170 cst_59) (ix2 d n) = _
    pointwise [k0_pay40]
    change k0_pay39 v89 v90 v91 v92 v112 v117 v122 v124 v125 (ix2 d n) + Named.named κ "least" 0x3CE25A74#32 = _
    pointwise [k0_pay39]
    rw [q156, h132, named_least, ← EReal.coe_mul, ← EReal.coe_add]; exact congrArg _ (width_inner (uOf U) 4 (by decide) (by decide))
  have hv175 : v175 (ix2 d n) = ((width (uOf U) 5 : ℝ) : EReal) := by
    change (k0_pay41 v137 v156) (ix2 d n) = _
    pointwise [k0_pay41]
    rw [hv156, hv137, named_least, ← EReal.coe_mul, ← EReal.coe_add]; exact congrArg _ (width_inner (uOf U) 5 (by decide) (by decide))
  have hv178 : v178 (ix2 d n) = ((width (uOf U) 6 : ℝ) : EReal) := by
    change (k0_pay42 v142 v156) (ix2 d n) = _
    pointwise [k0_pay42]
    rw [hv156, hv142, named_least, ← EReal.coe_mul, ← EReal.coe_add]; exact congrArg _ (width_inner (uOf U) 6 (by decide) (by decide))
  have hv179 : v179 (ix2 d n) = ((knot (uOf U) 2 : ℝ) : EReal) := by
    change (k0_pay43 v160 v163) (ix2 d n) = _
    pointwise [k0_pay43]
    change v160 (ix2 d n) + v163 (ix2 d n) = _
    rw [hv160, hv163, ← EReal.coe_add, knot_succ]
  have hv180 : v180 (ix2 d n) = ((knot (uOf U) 3 : ℝ) : EReal) := by
    change (k0_pay44 v160 v163 v166) (ix2 d n) = _
    pointwise [k0_pay44]
    change v179 (ix2 d n) + v166 (ix2 d n) = _
    rw [hv179, hv166, ← EReal.coe_add, knot_succ]
  have hv181 : v181 (ix2 d n) = ((knot (uOf U) 4 : ℝ) : EReal) := by
    change (k0_pay45 v160 v163 v166 v169) (ix2 d n) = _
    pointwise [k0_pay45]
    change v180 (ix2 d n) + v169 (ix2 d n) = _
    rw [hv180, hv169, ← EReal.coe_add, knot_succ]
  have hv182 : v182 (ix2 d n) = ((knot (uOf U) 5 : ℝ) : EReal) := by
    change (k0_pay46 v160 v163 v166 v169 v170 cst_59) (ix2 d n) = _
    pointwise [k0_pay46]
    change v181 (ix2 d n) + v172 (ix2 d n) = _
    rw [hv181, hv172, ← EReal.coe_add, knot_succ]
  have hv183 : v183 (ix2 d n) = ((knot (uOf U) 6 : ℝ) : EReal) := by
    change (k0_pay47 v137 v156 v160 v163 v166 v169 v170 cst_59) (ix2 d n) = _
    pointwise [k0_pay47]
    change v182 (ix2 d n) + v175 (ix2 d n) = _
    rw [hv182, hv175, ← EReal.coe_add, knot_succ]
  have hv184 : v184 (ix2 d n) = ((knot (uOf U) 7 : ℝ) : EReal) := by
    change (k0_pay48 v137 v142 v156 v160 v163 v166 v169 v170 cst_59) (ix2 d n) = _
    pointwise [k0_pay48]
    change v183 (ix2 d n) + v178 (ix2 d n) = _
    rw [hv183, hv178, ← EReal.coe_add, knot_succ]
  have hv186 : v186 (ix2 d n) = ((width (uOf U) 0 : ℝ) : EReal) := by
    change (k0_pay49 v160) (ix2 d n) = _
    pointwise [k0_pay49]
    rw [hv160, word_T, ← EReal.coe_add, width_zero]
  have hv188 : v188 (ix2 d n) = ((width (uOf U) 7 : ℝ) : EReal) := by
    change (k0_pay50 v137 v142 v156 v160 v163 v166 v169 v170 cst_59) (ix2 d n) = _
    pointwise [k0_pay50]
    change _ - v184 (ix2 d n) = _
    rw [hv184, word_T, ← EReal.coe_sub, width_seven]
  have hv193 : v193 (ix2 d n) = ((Real.exp (U 8) : ℝ) : EReal) := by
    change (k0_pay51 v93) (ix2 d n) = _
    pointwise [k0_pay51]
    rw [hv93, word_60, word_neg60, clamp_exp (hw _ (by decide))]
  have hv198 : v198 (ix2 d n) = ((Real.exp (U 9) : ℝ) : EReal) := by
    change (k0_pay52 v94) (ix2 d n) = _
    pointwise [k0_pay52]
    rw [hv94, word_60, word_neg60, clamp_exp (hw _ (by decide))]
  have hv203 : v203 (ix2 d n) = ((Real.exp (U 10) : ℝ) : EReal) := by
    change (k0_pay53 v95) (ix2 d n) = _
    pointwise [k0_pay53]
    rw [hv95, word_60, word_neg60, clamp_exp (hw _ (by decide))]
  have hv208 : v208 (ix2 d n) = ((Real.exp (U 11) : ℝ) : EReal) := by
    change (k0_pay54 v96) (ix2 d n) = _
    pointwise [k0_pay54]
    rw [hv96, word_60, word_neg60, clamp_exp (hw _ (by decide))]
  have hv213 : v213 (ix2 d n) = ((Real.exp (U 12) : ℝ) : EReal) := by
    change (k0_pay55 v97) (ix2 d n) = _
    pointwise [k0_pay55]
    rw [hv97, word_60, word_neg60, clamp_exp (hw _ (by decide))]
  have hv214 : v214 (ix2 d n) = ((-60 : ℝ) : EReal) := by
    change (k0_pay56 (F := Ideal)) (ix2 d n) = _
    pointwise [k0_pay56]
    exact word_neg60
  have h218 : k0_pay57 v98 cst_75 v214 (ix2 d n) = ((Real.exp (U 13) : ℝ) : EReal) := by
    pointwise [k0_pay57]
    change Ideal.exp (min _ (Ideal.ofBits .f32 0x42700000#32)) = _
    rw [hv98, hv214, word_60, clamp_exp (hw _ (by decide))]
  have h223 : k0_pay58 v99 (ix2 d n) = ((Real.exp (U 14) : ℝ) : EReal) := by
    pointwise [k0_pay58]
    rw [hv99, word_60, word_neg60, clamp_exp (hw _ (by decide))]
  have q237 : k0_pay59 v98 v99 v100 v193 v198 v203 v208 v213 cst_75 v214 (ix2 d n) = ((2 * T * qB / ∑ l, Real.exp (hOf U l) : ℝ) : EReal) := by
    pointwise [k0_pay59]
    rw [hv193, hv198, hv203, hv208, hv213, h218, h223, hv100, word_60, word_neg60, clamp_exp (hw _ (by decide)), named_scale]
    simp only [← EReal.coe_add]
    have e : Real.exp (U 8) + Real.exp (U 9) + Real.exp (U 10) + Real.exp (U 11) + Real.exp (U 12) + Real.exp (U 13)
        + Real.exp (U 14) + Real.exp (U 15) = ∑ l, Real.exp (hOf U l) := by simp only [Fin.sum_univ_eight]; rfl
    rw [e, div_real _ (hS _)]
  have hv238 : v238 (ix2 d n) = ((-T : ℝ) : EReal) := by
    change (k0_pay60 (F := Ideal)) (ix2 d n) = _
    pointwise [k0_pay60]
    exact word_negT
  have hv241 : v241 (ix2 d n) = ((knot (hOf U) 1 : ℝ) : EReal) := by
    change (k0_pay61 v98 v99 v100 v193 v198 v203 v208 v213 cst_75 v214) (ix2 d n) = _
    pointwise [k0_pay61]
    rw [q237, hv193, named_first, ← EReal.coe_mul, ← EReal.coe_add, ← knot_one]; rfl
  have hv244 : v244 (ix2 d n) = ((width (hOf U) 1 : ℝ) : EReal) := by
    change (k0_pay62 v98 v99 v100 v193 v198 v203 v208 v213 cst_75 v214) (ix2 d n) = _
    pointwise [k0_pay62]
    rw [q237, hv198, named_least, ← EReal.coe_mul, ← EReal.coe_add]; exact congrArg _ (width_inner (hOf U) 1 (by decide) (by decide))
  have hv247 : v247 (ix2 d n) = ((width (hOf U) 2 : ℝ) : EReal) := by
    change (k0_pay63 v98 v99 v100 v193 v198 v203 v208 v213 cst_75 v214) (ix2 d n) = _
    pointwise [k0_pay63]
    rw [q237, hv203, named_least, ← EReal.coe_mul, ← EReal.coe_add]; exact congrArg _ (width_inner (hOf U) 2 (by decide) (by decide))
  have hv250 : v250 (ix2 d n) = ((width (hOf U) 3 : ℝ) : EReal) := by
    change (k0_pay64 v98 v99 v100 v193 v198 v203 v208 v213 cst_75 v214) (ix2 d n) = _
    pointwise [k0_pay64]
    rw [q237, hv208, named_least, ← EReal.coe_mul, ← EReal.coe_add]; exact congrArg _ (width_inner (hOf U) 3 (by decide) (by decide))
  have hv253 : v253 (ix2 d n) = ((width (hOf U) 4 : ℝ) : EReal) := by
    change (k0_pay65 v98 v99 v100 v193 v198 v203 v208 v213 cst_75 v214) (ix2 d n) = _
    pointwise [k0_pay65]
    rw [q237, hv213, named_least, ← EReal.coe_mul, ← EReal.coe_add]; exact congrArg _ (width_inner (hOf U) 4 (by decide) (by decide))
  have hv256 : v256 (ix2 d n) = ((width (hOf U) 5 : ℝ) : EReal) := by
    change (k0_pay66 v98 v99 v100 v193 v198 v203 v208 v213 cst_75 v214) (ix2 d n) = _
    pointwise [k0_pay66]
    rw [q237, h218, named_least, ← EReal.coe_mul, ← EReal.coe_add]; exact congrArg _ (width_inner (hOf U) 5 (by decide) (by decide))
  have hv259 : v259 (ix2 d n) = ((width (hOf U) 6 : ℝ) : EReal) := by
    change (k0_pay67 v98 v99 v100 v193 v198 v203 v208 v213 cst_75 v214) (ix2 d n) = _
    pointwise [k0_pay67]
    rw [q237, h223, named_least, ← EReal.coe_mul, ← EReal.coe_add]; exact congrArg _ (width_inner (hOf U) 6 (by decide) (by decide))
  have hv260 : v260 (ix2 d n) = ((knot (hOf U) 2 : ℝ) : EReal) := by
    change (k0_pay68 v98 v99 v100 v193 v198 v203 v208 v213 cst_75 v214) (ix2 d n) = _
    pointwise [k0_pay68]
    change v241 (ix2 d n) + v244 (ix2 d n) = _
    rw [hv241, hv244, ← EReal.coe_add, knot_succ]
  have hv261 : v261 (ix2 d n) = ((knot (hOf U) 3 : ℝ) : EReal) := by
    change (k0_pay69 v98 v99 v100 v193 v198 v203 v208 v213 cst_75 v214) (ix2 d n) = _
    pointwise [k0_pay69]
    change v260 (ix2 d n) + v247 (ix2 d n) = _
    rw [hv260, hv247, ← EReal.coe_add, knot_succ]
  have p70 : k0_pay70 v250 v261 (ix2 d n) = ((knot (hOf U) 4 : ℝ) : EReal) := by
    pointwise [k0_pay70]
    rw [hv261, hv250, ← EReal.coe_add, knot_succ]
  have p71 : k0_pay71 v250 v253 v261 (ix2 d n) = ((knot (hOf U) 5 : ℝ) : EReal) := by
    pointwise [k0_pay71]
    rw [p70, hv253, ← EReal.coe_add, knot_succ]
  have p72 : k0_pay72 v250 v253 v256 v261 (ix2 d n) = ((knot (hOf U) 6 : ℝ) : EReal) := by
    pointwise [k0_pay72]
    rw [p71, hv256, ← EReal.coe_add, knot_succ]
  have p73 : k0_pay73 v250 v253 v256 v259 v261 (ix2 d n) = ((knot (hOf U) 7 : ℝ) : EReal) := by
    pointwise [k0_pay73]
    rw [p72, hv259, ← EReal.coe_add, knot_succ]
  set b := bin (knot (uOf U)) (clip x) with hb
  have hv283 : v283 (ix2 d n) = ((knot (uOf U) b : ℝ) : EReal) := by
    change (k0_pay81 v83 v157 v160 v179 v180 v181 v182 v183 v184) (ix2 d n) = _
    pointwise [k0_pay81, k0_pay74, k0_pay75, k0_pay76, k0_pay77, k0_pay78, k0_pay79, k0_pay80]
    rw [hv83, hv184, hv183, hv182, hv181, hv180, hv179, hv160, hv157]
    exact chain_real (knot (uOf U)) (fun i => if i = 0 then -T else knot (uOf U) i) (clip x) |>.trans (by rw [← hb]; unfold knot; split_ifs <;> rfl)
  have hv290 : v290 (ix2 d n) = ((width (uOf U) b : ℝ) : EReal) := by
    change (k0_pay82 v83 v160 v163 v166 v169 v172 v175 v178 v179 v180 v181 v182 v183 v184 v186 v188) (ix2 d n) = _
    pointwise [k0_pay82, k0_pay74, k0_pay75, k0_pay76, k0_pay77, k0_pay78, k0_pay79, k0_pay80]
    rw [hv83, hv184, hv183, hv182, hv181, hv180, hv179, hv160, hv188, hv178, hv175, hv172, hv169, hv166, hv163, hv186]
    exact chain_real (knot (uOf U)) (width (uOf U)) (clip x)
  have hv297 : v297 (ix2 d n) = ((knot (hOf U) b : ℝ) : EReal) := by
    change (k0_pay83 v83 v160 v179 v180 v181 v182 v183 v184 v238 v241 v250 v253 v256 v259 v260 v261) (ix2 d n) = _
    pointwise [k0_pay83, k0_pay74, k0_pay75, k0_pay76, k0_pay77, k0_pay78, k0_pay79, k0_pay80]
    rw [hv83, hv184, hv183, hv182, hv181, hv180, hv179, hv160, p73, p72, p71, p70, hv261, hv260, hv241, hv238]
    exact chain_real (knot (uOf U)) (fun i => if i = 0 then -T else knot (hOf U) i) (clip x) |>.trans (by rw [← hb]; unfold knot; split_ifs <;> rfl)
  have hv304 : v304 (ix2 d n) = ((width (hOf U) b : ℝ) : EReal) := by
    change (k0_pay84 v83 v160 v179 v180 v181 v182 v183 v184 v241 v244 v247 v250 v253 v256 v259 v261) (ix2 d n) = _
    pointwise [k0_pay84, k0_pay74, k0_pay75, k0_pay76, k0_pay77, k0_pay78, k0_pay79, k0_pay80]
    rw [hv83, hv184, hv183, hv182, hv181, hv180, hv179, hv160, p73, hv259, hv256, hv253, hv250, hv247, hv244, hv241, word_T, ← EReal.coe_sub, width_seven, ← EReal.coe_add, width_zero]
    exact chain_real (knot (uOf U)) (width (hOf U)) (clip x)
  have hv312 : v312 (ix2 d n) = ((padded cB (vOf U) b : ℝ) : EReal) := by
    change (k0_pay85 v83 v101 v102 v103 v104 v105 v106 v107 v160 v179 v180 v181 v182 v183 v184) (ix2 d n) = _
    pointwise [k0_pay85, k0_pay74, k0_pay75, k0_pay76, k0_pay77, k0_pay78, k0_pay79, k0_pay80]
    rw [hv83, hv184, hv183, hv182, hv181, hv180, hv179, hv160, hv107, hv106, hv105, hv104, hv103, hv102, hv101, word_c]
    exact chain_real (knot (uOf U)) (padded cB (vOf U)) (clip x)
  have hv313 : v313 (ix2 d n) = ((cB : ℝ) : EReal) := by
    change (k0_pay86 (F := Ideal)) (ix2 d n) = _
    pointwise [k0_pay86]
    exact word_c
  have q352 : v352 (ix2 d n) = ((slope cB (vOf U) (b + 1) : ℝ) : EReal) := by
    change k0_pay89 v106 v107 (k0_pay78 v83 v182) (k0_pay79 v83 v183) (k0_pay80 v83 v184) v313
      (k0_pay87 v83 v101 v102 v103 v104 v105 v160 v179 v180 v181) (ix2 d n) = _
    pointwise [k0_pay89, k0_pay87, k0_pay74, k0_pay75, k0_pay76, k0_pay77, k0_pay78, k0_pay79, k0_pay80]
    rw [hv83, hv184, hv183, hv182, hv181, hv180, hv179, hv160, hv107, hv106, hv105, hv104, hv103, hv102, hv101, hv313, word_m]
    have e : (if ((knot (uOf U) 7 : ℝ) : EReal) ≤ (clip x : ℝ) then ((cB : ℝ) : EReal)
        else if ((knot (uOf U) 6 : ℝ) : EReal) ≤ (clip x : ℝ) then ((U 22 : ℝ) : EReal)
        else if ((knot (uOf U) 5 : ℝ) : EReal) ≤ (clip x : ℝ) then ((U 21 : ℝ) : EReal)
        else if ((knot (uOf U) 4 : ℝ) : EReal) ≤ (clip x : ℝ) then ((U 20 : ℝ) : EReal)
        else if ((knot (uOf U) 3 : ℝ) : EReal) ≤ (clip x : ℝ) then ((U 19 : ℝ) : EReal)
        else if ((knot (uOf U) 2 : ℝ) : EReal) ≤ (clip x : ℝ) then ((U 18 : ℝ) : EReal)
        else if ((knot (uOf U) 1 : ℝ) : EReal) ≤ (clip x : ℝ) then ((U 17 : ℝ) : EReal)
        else ((U 16 : ℝ) : EReal)) = ((padded cB (vOf U) (b + 1) : ℝ) : EReal) :=
      chain_real (knot (uOf U)) (fun i => padded cB (vOf U) (i + 1)) (clip x)
    rw [e, if_neg (by simp), softplus_real, ← EReal.coe_add]
    rfl
  have hv336 : v336 (ix2 d n) = ((slope cB (vOf U) b : ℝ) : EReal) := by
    change (k0_pay88 v312) (ix2 d n) = _
    pointwise [k0_pay88]
    rw [hv312, if_neg (by simp), softplus_real, word_m, ← EReal.coe_add]; rfl
  set s := binOf cB (uOf U) (hOf U) (vOf U) x with hs
  have ok : s.Ok (clip x) := binOf_ok _ _ _ _ _
  have r290 : v290 (ix2 d n) = (s.wide : EReal) := hv290
  have r304 : v304 (ix2 d n) = (s.high : EReal) := hv304
  have r283 : v283 (ix2 d n) = (s.left : EReal) := hv283
  have r297 : v297 (ix2 d n) = (s.low : EReal) := hv297
  have r336 : v336 (ix2 d n) = (s.a : EReal) := hv336
  have r352 : v352 (ix2 d n) = (s.b : EReal) := q352
  have hwide := ok.wide.ne'
  have r354 : k0_pay90 v290 (ix2 d n) = ((1 / s.wide : ℝ) : EReal) := by
    pointwise [k0_pay90]
    rw [r290, ← EReal.coe_one, div_real _ hwide]
  have hv355 : v355 (ix2 d n) = ((s.mean : ℝ) : EReal) := by
    change (k0_pay91 v290 v304) (ix2 d n) = _
    pointwise [k0_pay91]
    rw [r354, r304, ← EReal.coe_mul, mul_one_div]; rfl
  have hv357 : v357 (ix2 d n) = ((s.frac (clip x) : ℝ) : EReal) := by
    change (k0_pay92 v83 v283 v290) (ix2 d n) = _
    pointwise [k0_pay92]
    rw [r354, hv83, r283, ← EReal.coe_sub, ← EReal.coe_mul, mul_one_div]; rfl
  have hv360 : v360 (ix2 d n) = ((s.frac (clip x) * (1 - s.frac (clip x)) : ℝ) : EReal) := by
    change (k0_pay93 v83 v283 v290) (ix2 d n) = _
    pointwise [k0_pay93]
    change v357 (ix2 d n) * (1 - v357 (ix2 d n)) = _
    rw [hv357, ← EReal.coe_one, ← EReal.coe_sub, ← EReal.coe_mul]
  have hv361 : v361 (ix2 d n) = ((s.frac (clip x) * s.frac (clip x) : ℝ) : EReal) := by
    change (k0_pay94 v83 v283 v290) (ix2 d n) = _
    pointwise [k0_pay94]
    change v357 (ix2 d n) * v357 (ix2 d n) = _
    rw [hv357, ← EReal.coe_mul]
  have hv367 : v367 (ix2 d n) = ((den s.mean s.a s.b (s.frac (clip x)) : ℝ) : EReal) := by
    change (k0_pay95 v83 v106 v107 v274 v275 v276 v283 v290 v304 v312 v313 v317) (ix2 d n) = _
    pointwise [k0_pay95]
    change v355 (ix2 d n) + (v336 (ix2 d n) + v352 (ix2 d n) - Ideal.ofBits .f32 0x40000000#32 * v355 (ix2 d n)) * v360 (ix2 d n) = _
    rw [hv355, r336, r352, hv360, word_2]
    simp only [← EReal.coe_add, ← EReal.coe_mul, ← EReal.coe_sub]
    rfl
  have hden := den_pos ok.mean ok.a ok.b ok.frac0 ok.frac1
  have hnum := num_pos ok.mean ok.a ok.b ok.frac0 ok.frac1
  have r369 : k0_pay101 v367 cst_102 (ix2 d n) = ((1 / den s.mean s.a s.b (s.frac (clip x)) : ℝ) : EReal) := by
    pointwise [k0_pay101]
    change Ideal.div (Ideal.ofBits .f32 0x3F800000#32) _ = _
    rw [hv367, word_1, div_real _ hden.ne']
  have hvalid : FloatOps.sitofp (F := Ideal) .f32 (BitVec.setWidth 32 (IntOp.cmpi CmpIPredicate.slt (BitVec.ofNat 32 d.val) 45#32)) = (1 : EReal) :=
    valid_lt d hd
  have haug : k0_pay98 v0 (ix2 d n) = (0 : EReal) := by
    rw [aug_read, if_neg (by omega), if_neg (by omega)]
  constructor
  · change k0_pay102 v0 z v84 v297 v304 v336 v355 v360 v361 v367 cst_102 (ix2 d n) = _
    pointwise [k0_pay102, k0_pay97]
    rw [h84, r297, r304, hv355, hv361, r336, hv360, r369, hvalid, haug, hz, mul_one, add_zero]
    simp only [← EReal.coe_add, ← EReal.coe_mul, ite_coe]
    congr 1
    unfold next
    split_ifs with hin
    · rw [← hs, Bin.val, rise, mul_assoc s.mean]; ring
    · rfl
  · change k0_pay103 ld v84 v336 v352 v355 v357 v360 v361 v367 cst_102 (ix2 d n) = _
    pointwise [k0_pay103, k0_pay97]
    rw [h84, r352, hv361, hv355, hv357, r336, hv360, r369, hvalid, mul_one, word_2, ← EReal.coe_one]
    simp only [← EReal.coe_add, ← EReal.coe_mul, ← EReal.coe_sub]
    congr 1
    unfold logSlope
    split_ifs with hin
    · have e := log_slope ok.mean ok.a ok.b ok.frac0 ok.frac1
      rw [← hs, Bin.lad, ← e, ← log_real (mul_pos (mul_pos (mul_pos (mul_pos ok.mean ok.mean) hnum)
        (one_div_pos.2 hden)) (one_div_pos.2 hden))]
      congr 2
      unfold num
      ring
    · exact EReal.coe_zero.symm

end

end Cert.Flow

end
-- ==== Proof.Trip.lean ====
/-
  One trip of the kernel's loop, as the plain `spline` of the network's outputs. The run of the trip names every value
  on the way; each lemma below gives one of these names the expression it has in `spline`.
-/
module

public import Idealize.ShloMosaic.Lib.Pipeline.ValueKit
public import proofs.«01_k».proof.Proof.Gen.KernelIdeal.Value
public import proofs.«01_k».proof.Proof.KernelLane

@[expose] public section

set_option maxRecDepth 16384

noncomputable section

namespace Cert.Flow

open Idealize.ShloMosaic Idealize.ShloMosaic.TcCoe Idealize.SL.Sem
open Cert.KernelIdeal Cert.KernelIdeal.Gen

/-- What trip `k` reads from the weights of the first layer. -/
def load1 (arg3 : Memref sig .tc .vmem S6x256x48 .bf16) (X : BufTy.Contents (Elt Ideal) arg3.view.ty)
    (k : Fin k0_t1_loop.trips) : Vec Ideal S1x256x48 .bf16 :=
  View.readAt (Elt Ideal) arg3.view (Rect.unit (s := S6x256x48) (k0_off1 k) S1x256x48.size (k0_off1_inb k)).toLoadRect X

/-- What trip `k` reads from the weights of the first hidden layer. -/
def load2 (arg4 : Memref sig .tc .vmem S6x2x256x256 .bf16) (X : BufTy.Contents (Elt Ideal) arg4.view.ty)
    (k : Fin k0_t1_loop.trips) : Vec Ideal S1x1x256x256 .bf16 :=
  View.readAt (Elt Ideal) arg4.view (Rect.unit (s := S6x2x256x256) (k0_off2 k) S1x1x256x256.size (k0_off2_inb k)).toLoadRect X

/-- What trip `k` reads from the bias of the first hidden layer. -/
def load3 (arg5 : Memref sig .tc .vmem S6x2x256x1 .bf16) (X : BufTy.Contents (Elt Ideal) arg5.view.ty)
    (k : Fin k0_t1_loop.trips) : Vec Ideal S1x1x256x1 .bf16 :=
  View.readAt (Elt Ideal) arg5.view (Rect.unit (s := S6x2x256x1) (k0_off3 k) S1x1x256x1.size (k0_off3_inb k)).toLoadRect X

/-- What trip `k` reads from the weights of the second hidden layer. -/
def load4 (arg4 : Memref sig .tc .vmem S6x2x256x256 .bf16) (X : BufTy.Contents (Elt Ideal) arg4.view.ty)
    (k : Fin k0_t1_loop.trips) : Vec Ideal S1x1x256x256 .bf16 :=
  View.readAt (Elt Ideal) arg4.view (Rect.unit (s := S6x2x256x256) (k0_off4 k) S1x1x256x256.size (k0_off4_inb k)).toLoadRect X

/-- What trip `k` reads from the bias of the second hidden layer. -/
def load5 (arg5 : Memref sig .tc .vmem S6x2x256x1 .bf16) (X : BufTy.Contents (Elt Ideal) arg5.view.ty)
    (k : Fin k0_t1_loop.trips) : Vec Ideal S1x1x256x1 .bf16 :=
  View.readAt (Elt Ideal) arg5.view (Rect.unit (s := S6x2x256x1) (k0_off5 k) S1x1x256x1.size (k0_off5_inb k)).toLoadRect X

/-- What trip `k` reads from the weights of the last layer. -/
def load6 (arg6 : Memref sig .tc .vmem S6x1104x256 .bf16) (X : BufTy.Contents (Elt Ideal) arg6.view.ty)
    (k : Fin k0_t1_loop.trips) : Vec Ideal S1x1104x256 .bf16 :=
  View.readAt (Elt Ideal) arg6.view (Rect.unit (s := S6x1104x256) (k0_off6 k) S1x1104x256.size (k0_off6_inb k)).toLoadRect X

/-- What trip `k` reads from the bias of the last layer. -/
def load7 (arg7 : Memref sig .tc .vmem S6x1104x1 .f32) (X : BufTy.Contents (Elt Ideal) arg7.view.ty)
    (k : Fin k0_t1_loop.trips) : Vec Ideal S1x1104x1 .f32 :=
  View.readAt (Elt Ideal) arg7.view (Rect.unit (s := S6x1104x1) (k0_off7 k) S1x1104x1.size (k0_off7_inb k)).toLoadRect X

variable (arg3 : Memref sig .tc .vmem S6x256x48 .bf16) (arg4 : Memref sig .tc .vmem S6x2x256x256 .bf16)
  (arg5 : Memref sig .tc .vmem S6x2x256x1 .bf16) (arg6 : Memref sig .tc .vmem S6x1104x256 .bf16)
  (arg7 : Memref sig .tc .vmem S6x1104x1 .f32)
  (X_arg3 : BufTy.Contents (Elt Ideal) arg3.view.ty) (X_arg4 : BufTy.Contents (Elt Ideal) arg4.view.ty)
  (X_arg5 : BufTy.Contents (Elt Ideal) arg5.view.ty) (X_arg6 : BufTy.Contents (Elt Ideal) arg6.view.ty)
  (X_arg7 : BufTy.Contents (Elt Ideal) arg7.view.ty) (k : Fin k0_t1_loop.trips)
  (acc : FVec Ideal S48x1024 .f32 × FVec Ideal S48x1024 .f32)

/-- The last layer's product before its bias. -/
theorem trip_v74 : (trip_k0_t1.sl.v74 (F := Ideal) arg3 arg4 arg5 arg6 X_arg3 X_arg4 X_arg5 X_arg6 k acc) =
    k0_pay1 (F := Ideal) acc.1 (load1 arg3 X_arg3 k) (load2 arg4 X_arg4 k) (load3 arg5 X_arg5 k)
      (load4 arg4 X_arg4 k) (load5 arg5 X_arg5 k) (load6 arg6 X_arg6 k) := (rfl)

/-- A trip's value `v83`, by the values it is computed from. -/
theorem trip_v83 :
    (trip_k0_t1.sl.v83 (F := Ideal) acc) =
      k0_pay3 (F := Ideal) acc.1 := (rfl)

/-- A trip's value `v84`, by the values it is computed from. -/
theorem trip_v84 :
    (trip_k0_t1.sl.v84 (F := Ideal) acc) =
      k0_pay4 (F := Ideal) acc.1 := (rfl)

/-- A trip's value `v89`, by the values it is computed from. -/
theorem trip_v89 :
    (trip_k0_t1.sl.v89 (F := Ideal) arg3 arg4 arg5 arg6 arg7 X_arg3 X_arg4 X_arg5 X_arg6 X_arg7 k acc) =
      k0_pay5 (F := Ideal) (trip_k0_t1.sl.v74 (F := Ideal) arg3 arg4 arg5 arg6 X_arg3 X_arg4 X_arg5 X_arg6 k acc) (load7 arg7 X_arg7 k) := (rfl)

/-- A trip's value `v90`, by the values it is computed from. -/
theorem trip_v90 :
    (trip_k0_t1.sl.v90 (F := Ideal) arg3 arg4 arg5 arg6 arg7 X_arg3 X_arg4 X_arg5 X_arg6 X_arg7 k acc) =
      k0_pay6 (F := Ideal) (trip_k0_t1.sl.v74 (F := Ideal) arg3 arg4 arg5 arg6 X_arg3 X_arg4 X_arg5 X_arg6 k acc) (load7 arg7 X_arg7 k) := (rfl)

/-- A trip's value `v91`, by the values it is computed from. -/
theorem trip_v91 :
    (trip_k0_t1.sl.v91 (F := Ideal) arg3 arg4 arg5 arg6 arg7 X_arg3 X_arg4 X_arg5 X_arg6 X_arg7 k acc) =
      k0_pay7 (F := Ideal) (trip_k0_t1.sl.v74 (F := Ideal) arg3 arg4 arg5 arg6 X_arg3 X_arg4 X_arg5 X_arg6 k acc) (load7 arg7 X_arg7 k) := (rfl)

/-- A trip's value `v92`, by the values it is computed from. -/
theorem trip_v92 :
    (trip_k0_t1.sl.v92 (F := Ideal) arg3 arg4 arg5 arg6 arg7 X_arg3 X_arg4 X_arg5 X_arg6 X_arg7 k acc) =
      k0_pay8 (F := Ideal) (trip_k0_t1.sl.v74 (F := Ideal) arg3 arg4 arg5 arg6 X_arg3 X_arg4 X_arg5 X_arg6 k acc) (load7 arg7 X_arg7 k) := (rfl)

/-- A trip's value `v93`, by the values it is computed from. -/
theorem trip_v93 :
    (trip_k0_t1.sl.v93 (F := Ideal) arg3 arg4 arg5 arg6 arg7 X_arg3 X_arg4 X_arg5 X_arg6 X_arg7 k acc) =
      k0_pay9 (F := Ideal) (trip_k0_t1.sl.v74 (F := Ideal) arg3 arg4 arg5 arg6 X_arg3 X_arg4 X_arg5 X_arg6 k acc) (load7 arg7 X_arg7 k) := (rfl)

/-- A trip's value `v94`, by the values it is computed from. -/
theorem trip_v94 :
    (trip_k0_t1.sl.v94 (F := Ideal) arg3 arg4 arg5 arg6 arg7 X_arg3 X_arg4 X_arg5 X_arg6 X_arg7 k acc) =
      k0_pay10 (F := Ideal) (trip_k0_t1.sl.v74 (F := Ideal) arg3 arg4 arg5 arg6 X_arg3 X_arg4 X_arg5 X_arg6 k acc) (load7 arg7 X_arg7 k) := (rfl)

/-- A trip's value `v95`, by the values it is computed from. -/
theorem trip_v95 :
    (trip_k0_t1.sl.v95 (F := Ideal) arg3 arg4 arg5 arg6 arg7 X_arg3 X_arg4 X_arg5 X_arg6 X_arg7 k acc) =
      k0_pay11 (F := Ideal) (trip_k0_t1.sl.v74 (F := Ideal) arg3 arg4 arg5 arg6 X_arg3 X_arg4 X_arg5 X_arg6 k acc) (load7 arg7 X_arg7 k) := (rfl)

/-- A trip's value `v96`, by the values it is computed from. -/
theorem trip_v96 :
    (trip_k0_t1.sl.v96 (F := Ideal) arg3 arg4 arg5 arg6 arg7 X_arg3 X_arg4 X_arg5 X_arg6 X_arg7 k acc) =
      k0_pay12 (F := Ideal) (trip_k0_t1.sl.v74 (F := Ideal) arg3 arg4 arg5 arg6 X_arg3 X_arg4 X_arg5 X_arg6 k acc) (load7 arg7 X_arg7 k) := (rfl)

/-- A trip's value `v97`, by the values it is computed from. -/
theorem trip_v97 :
    (trip_k0_t1.sl.v97 (F := Ideal) arg3 arg4 arg5 arg6 arg7 X_arg3 X_arg4 X_arg5 X_arg6 X_arg7 k acc) =
      k0_pay13 (F := Ideal) (trip_k0_t1.sl.v74 (F := Ideal) arg3 arg4 arg5 arg6 X_arg3 X_arg4 X_arg5 X_arg6 k acc) (load7 arg7 X_arg7 k) := (rfl)

/-- A trip's value `v98`, by the values it is computed from. -/
theorem trip_v98 :
    (trip_k0_t1.sl.v98 (F := Ideal) arg3 arg4 arg5 arg6 arg7 X_arg3 X_arg4 X_arg5 X_arg6 X_arg7 k acc) =
      k0_pay14 (F := Ideal) (trip_k0_t1.sl.v74 (F := Ideal) arg3 arg4 arg5 arg6 X_arg3 X_arg4 X_arg5 X_arg6 k acc) (load7 arg7 X_arg7 k) := (rfl)

/-- A trip's value `v99`, by the values it is computed from. -/
theorem trip_v99 :
    (trip_k0_t1.sl.v99 (F := Ideal) arg3 arg4 arg5 arg6 arg7 X_arg3 X_arg4 X_arg5 X_arg6 X_arg7 k acc) =
      k0_pay15 (F := Ideal) (trip_k0_t1.sl.v74 (F := Ideal) arg3 arg4 arg5 arg6 X_arg3 X_arg4 X_arg5 X_arg6 k acc) (load7 arg7 X_arg7 k) := (rfl)

/-- A trip's value `v100`, by the values it is computed from. -/
theorem trip_v100 :
    (trip_k0_t1.sl.v100 (F := Ideal) arg3 arg4 arg5 arg6 arg7 X_arg3 X_arg4 X_arg5 X_arg6 X_arg7 k acc) =
      k0_pay16 (F := Ideal) (trip_k0_t1.sl.v74 (F := Ideal) arg3 arg4 arg5 arg6 X_arg3 X_arg4 X_arg5 X_arg6 k acc) (load7 arg7 X_arg7 k) := (rfl)

/-- A trip's value `v101`, by the values it is computed from. -/
theorem trip_v101 :
    (trip_k0_t1.sl.v101 (F := Ideal) arg3 arg4 arg5 arg6 arg7 X_arg3 X_arg4 X_arg5 X_arg6 X_arg7 k acc) =
      k0_pay17 (F := Ideal) (trip_k0_t1.sl.v74 (F := Ideal) arg3 arg4 arg5 arg6 X_arg3 X_arg4 X_arg5 X_arg6 k acc) (load7 arg7 X_arg7 k) := (rfl)

/-- A trip's value `v102`, by the values it is computed from. -/
theorem trip_v102 :
    (trip_k0_t1.sl.v102 (F := Ideal) arg3 arg4 arg5 arg6 arg7 X_arg3 X_arg4 X_arg5 X_arg6 X_arg7 k acc) =
      k0_pay18 (F := Ideal) (trip_k0_t1.sl.v74 (F := Ideal) arg3 arg4 arg5 arg6 X_arg3 X_arg4 X_arg5 X_arg6 k acc) (load7 arg7 X_arg7 k) := (rfl)

/-- A trip's value `v103`, by the values it is computed from. -/
theorem trip_v103 :
    (trip_k0_t1.sl.v103 (F := Ideal) arg3 arg4 arg5 arg6 arg7 X_arg3 X_arg4 X_arg5 X_arg6 X_arg7 k acc) =
      k0_pay19 (F := Ideal) (trip_k0_t1.sl.v74 (F := Ideal) arg3 arg4 arg5 arg6 X_arg3 X_arg4 X_arg5 X_arg6 k acc) (load7 arg7 X_arg7 k) := (rfl)

/-- A trip's value `v104`, by the values it is computed from. -/
theorem trip_v104 :
    (trip_k0_t1.sl.v104 (F := Ideal) arg3 arg4 arg5 arg6 arg7 X_arg3 X_arg4 X_arg5 X_arg6 X_arg7 k acc) =
      k0_pay20 (F := Ideal) (trip_k0_t1.sl.v74 (F := Ideal) arg3 arg4 arg5 arg6 X_arg3 X_arg4 X_arg5 X_arg6 k acc) (load7 arg7 X_arg7 k) := (rfl)

/-- A trip's value `v105`, by the values it is computed from. -/
theorem trip_v105 :
    (trip_k0_t1.sl.v105 (F := Ideal) arg3 arg4 arg5 arg6 arg7 X_arg3 X_arg4 X_arg5 X_arg6 X_arg7 k acc) =
      k0_pay21 (F := Ideal) (trip_k0_t1.sl.v74 (F := Ideal) arg3 arg4 arg5 arg6 X_arg3 X_arg4 X_arg5 X_arg6 k acc) (load7 arg7 X_arg7 k) := (rfl)

/-- A trip's value `v106`, by the values it is computed from. -/
theorem trip_v106 :
    (trip_k0_t1.sl.v106 (F := Ideal) arg3 arg4 arg5 arg6 arg7 X_arg3 X_arg4 X_arg5 X_arg6 X_arg7 k acc) =
      k0_pay22 (F := Ideal) (trip_k0_t1.sl.v74 (F := Ideal) arg3 arg4 arg5 arg6 X_arg3 X_arg4 X_arg5 X_arg6 k acc) (load7 arg7 X_arg7 k) := (rfl)

/-- A trip's value `v107`, by the values it is computed from. -/
theorem trip_v107 :
    (trip_k0_t1.sl.v107 (F := Ideal) arg3 arg4 arg5 arg6 arg7 X_arg3 X_arg4 X_arg5 X_arg6 X_arg7 k acc) =
      k0_pay23 (F := Ideal) (trip_k0_t1.sl.v74 (F := Ideal) arg3 arg4 arg5 arg6 X_arg3 X_arg4 X_arg5 X_arg6 k acc) (load7 arg7 X_arg7 k) := (rfl)

/-- A trip's value `v112`, by the values it is computed from. -/
theorem trip_v112 :
    (trip_k0_t1.sl.v112 (F := Ideal) arg3 arg4 arg5 arg6 arg7 X_arg3 X_arg4 X_arg5 X_arg6 X_arg7 k acc) =
      k0_pay24 (F := Ideal) (trip_k0_t1.sl.v74 (F := Ideal) arg3 arg4 arg5 arg6 X_arg3 X_arg4 X_arg5 X_arg6 k acc) (load7 arg7 X_arg7 k) := (rfl)

/-- A trip's value `v117`, by the values it is computed from. -/
theorem trip_v117 :
    (trip_k0_t1.sl.v117 (F := Ideal) arg3 arg4 arg5 arg6 arg7 X_arg3 X_arg4 X_arg5 X_arg6 X_arg7 k acc) =
      k0_pay25 (F := Ideal) (trip_k0_t1.sl.v74 (F := Ideal) arg3 arg4 arg5 arg6 X_arg3 X_arg4 X_arg5 X_arg6 k acc) (load7 arg7 X_arg7 k) := (rfl)

/-- A trip's value `v122`, by the values it is computed from. -/
theorem trip_v122 :
    (trip_k0_t1.sl.v122 (F := Ideal) arg3 arg4 arg5 arg6 arg7 X_arg3 X_arg4 X_arg5 X_arg6 X_arg7 k acc) =
      k0_pay26 (F := Ideal) (trip_k0_t1.sl.v74 (F := Ideal) arg3 arg4 arg5 arg6 X_arg3 X_arg4 X_arg5 X_arg6 k acc) (load7 arg7 X_arg7 k) := (rfl)

/-- A trip's value `v124`, by the values it is computed from. -/
theorem trip_v124 :
    (trip_k0_t1.sl.v124 (F := Ideal) arg3 arg4 arg5 arg6 arg7 X_arg3 X_arg4 X_arg5 X_arg6 X_arg7 k acc) =
      k0_pay27 (F := Ideal) (trip_k0_t1.sl.v74 (F := Ideal) arg3 arg4 arg5 arg6 X_arg3 X_arg4 X_arg5 X_arg6 k acc) (load7 arg7 X_arg7 k) := (rfl)

/-- A trip's value `v137`, by the values it is computed from. -/
theorem trip_v137 :
    (trip_k0_t1.sl.r (F := Ideal) arg3 arg4 arg5 arg6 arg7 X_arg3 X_arg4 X_arg5 X_arg6 X_arg7 k acc) =
      k0_pay31 (F := Ideal) (trip_k0_t1.sl.v90 (F := Ideal) arg3 arg4 arg5 arg6 arg7 X_arg3 X_arg4 X_arg5 X_arg6 X_arg7 k acc) := (rfl)

/-- A trip's value `v142`, by the values it is computed from. -/
theorem trip_v142 :
    (trip_k0_t1.sl.r_1 (F := Ideal) arg3 arg4 arg5 arg6 arg7 X_arg3 X_arg4 X_arg5 X_arg6 X_arg7 k acc) =
      k0_pay32 (F := Ideal) (trip_k0_t1.sl.v91 (F := Ideal) arg3 arg4 arg5 arg6 arg7 X_arg3 X_arg4 X_arg5 X_arg6 X_arg7 k acc) := (rfl)

/-- A trip's value `v156`, by the values it is computed from. -/
theorem trip_v156 :
    (trip_k0_t1.sl.r_2 (F := Ideal) arg3 arg4 arg5 arg6 arg7 X_arg3 X_arg4 X_arg5 X_arg6 X_arg7 k acc) =
      k0_pay33 (F := Ideal) (trip_k0_t1.sl.v89 (F := Ideal) arg3 arg4 arg5 arg6 arg7 X_arg3 X_arg4 X_arg5 X_arg6 X_arg7 k acc) (trip_k0_t1.sl.v90 (F := Ideal) arg3 arg4 arg5 arg6 arg7 X_arg3 X_arg4 X_arg5 X_arg6 X_arg7 k acc) (trip_k0_t1.sl.v91 (F := Ideal) arg3 arg4 arg5 arg6 arg7 X_arg3 X_arg4 X_arg5 X_arg6 X_arg7 k acc) (trip_k0_t1.sl.v92 (F := Ideal) arg3 arg4 arg5 arg6 arg7 X_arg3 X_arg4 X_arg5 X_arg6 X_arg7 k acc) (trip_k0_t1.sl.v112 (F := Ideal) arg3 arg4 arg5 arg6 arg7 X_arg3 X_arg4 X_arg5 X_arg6 X_arg7 k acc) (trip_k0_t1.sl.v117 (F := Ideal) arg3 arg4 arg5 arg6 arg7 X_arg3 X_arg4 X_arg5 X_arg6 X_arg7 k acc) (trip_k0_t1.sl.v122 (F := Ideal) arg3 arg4 arg5 arg6 arg7 X_arg3 X_arg4 X_arg5 X_arg6 X_arg7 k acc) (trip_k0_t1.sl.v124 (F := Ideal) arg3 arg4 arg5 arg6 arg7 X_arg3 X_arg4 X_arg5 X_arg6 X_arg7 k acc) (k0_pay28 (F := Ideal)) := (rfl)

/-- A trip's value `v160`, by the values it is computed from. -/
theorem trip_v160 :
    (trip_k0_t1.sl.r_3 (F := Ideal) arg3 arg4 arg5 arg6 arg7 X_arg3 X_arg4 X_arg5 X_arg6 X_arg7 k acc) =
      k0_pay35 (F := Ideal) (trip_k0_t1.sl.v89 (F := Ideal) arg3 arg4 arg5 arg6 arg7 X_arg3 X_arg4 X_arg5 X_arg6 X_arg7 k acc) (trip_k0_t1.sl.v90 (F := Ideal) arg3 arg4 arg5 arg6 arg7 X_arg3 X_arg4 X_arg5 X_arg6 X_arg7 k acc) (trip_k0_t1.sl.v91 (F := Ideal) arg3 arg4 arg5 arg6 arg7 X_arg3 X_arg4 X_arg5 X_arg6 X_arg7 k acc) (trip_k0_t1.sl.v92 (F := Ideal) arg3 arg4 arg5 arg6 arg7 X_arg3 X_arg4 X_arg5 X_arg6 X_arg7 k acc) (trip_k0_t1.sl.v112 (F := Ideal) arg3 arg4 arg5 arg6 arg7 X_arg3 X_arg4 X_arg5 X_arg6 X_arg7 k acc) (trip_k0_t1.sl.v117 (F := Ideal) arg3 arg4 arg5 arg6 arg7 X_arg3 X_arg4 X_arg5 X_arg6 X_arg7 k acc) (trip_k0_t1.sl.v122 (F := Ideal) arg3 arg4 arg5 arg6 arg7 X_arg3 X_arg4 X_arg5 X_arg6 X_arg7 k acc) (trip_k0_t1.sl.v124 (F := Ideal) arg3 arg4 arg5 arg6 arg7 X_arg3 X_arg4 X_arg5 X_arg6 X_arg7 k acc) (k0_pay28 (F := Ideal)) := (rfl)

/-- A trip's value `v163`, by the values it is computed from. -/
theorem trip_v163 :
    (trip_k0_t1.sl.r_4 (F := Ideal) arg3 arg4 arg5 arg6 arg7 X_arg3 X_arg4 X_arg5 X_arg6 X_arg7 k acc) =
      k0_pay36 (F := Ideal) (trip_k0_t1.sl.v89 (F := Ideal) arg3 arg4 arg5 arg6 arg7 X_arg3 X_arg4 X_arg5 X_arg6 X_arg7 k acc) (trip_k0_t1.sl.v90 (F := Ideal) arg3 arg4 arg5 arg6 arg7 X_arg3 X_arg4 X_arg5 X_arg6 X_arg7 k acc) (trip_k0_t1.sl.v91 (F := Ideal) arg3 arg4 arg5 arg6 arg7 X_arg3 X_arg4 X_arg5 X_arg6 X_arg7 k acc) (trip_k0_t1.sl.v92 (F := Ideal) arg3 arg4 arg5 arg6 arg7 X_arg3 X_arg4 X_arg5 X_arg6 X_arg7 k acc) (trip_k0_t1.sl.v112 (F := Ideal) arg3 arg4 arg5 arg6 arg7 X_arg3 X_arg4 X_arg5 X_arg6 X_arg7 k acc) (trip_k0_t1.sl.v117 (F := Ideal) arg3 arg4 arg5 arg6 arg7 X_arg3 X_arg4 X_arg5 X_arg6 X_arg7 k acc) (trip_k0_t1.sl.v122 (F := Ideal) arg3 arg4 arg5 arg6 arg7 X_arg3 X_arg4 X_arg5 X_arg6 X_arg7 k acc) (trip_k0_t1.sl.v124 (F := Ideal) arg3 arg4 arg5 arg6 arg7 X_arg3 X_arg4 X_arg5 X_arg6 X_arg7 k acc) (k0_pay28 (F := Ideal)) := (rfl)

/-- A trip's value `v166`, by the values it is computed from. -/
theorem trip_v166 :
    (trip_k0_t1.sl.r_5 (F := Ideal) arg3 arg4 arg5 arg6 arg7 X_arg3 X_arg4 X_arg5 X_arg6 X_arg7 k acc) =
      k0_pay37 (F := Ideal) (trip_k0_t1.sl.v89 (F := Ideal) arg3 arg4 arg5 arg6 arg7 X_arg3 X_arg4 X_arg5 X_arg6 X_arg7 k acc) (trip_k0_t1.sl.v90 (F := Ideal) arg3 arg4 arg5 arg6 arg7 X_arg3 X_arg4 X_arg5 X_arg6 X_arg7 k acc) (trip_k0_t1.sl.v91 (F := Ideal) arg3 arg4 arg5 arg6 arg7 X_arg3 X_arg4 X_arg5 X_arg6 X_arg7 k acc) (trip_k0_t1.sl.v92 (F := Ideal) arg3 arg4 arg5 arg6 arg7 X_arg3 X_arg4 X_arg5 X_arg6 X_arg7 k acc) (trip_k0_t1.sl.v112 (F := Ideal) arg3 arg4 arg5 arg6 arg7 X_arg3 X_arg4 X_arg5 X_arg6 X_arg7 k acc) (trip_k0_t1.sl.v117 (F := Ideal) arg3 arg4 arg5 arg6 arg7 X_arg3 X_arg4 X_arg5 X_arg6 X_arg7 k acc) (trip_k0_t1.sl.v122 (F := Ideal) arg3 arg4 arg5 arg6 arg7 X_arg3 X_arg4 X_arg5 X_arg6 X_arg7 k acc) (trip_k0_t1.sl.v124 (F := Ideal) arg3 arg4 arg5 arg6 arg7 X_arg3 X_arg4 X_arg5 X_arg6 X_arg7 k acc) (k0_pay28 (F := Ideal)) := (rfl)

/-- A trip's value `v169`, by the values it is computed from. -/
theorem trip_v169 :
    (trip_k0_t1.sl.r_6 (F := Ideal) arg3 arg4 arg5 arg6 arg7 X_arg3 X_arg4 X_arg5 X_arg6 X_arg7 k acc) =
      k0_pay38 (F := Ideal) (trip_k0_t1.sl.v89 (F := Ideal) arg3 arg4 arg5 arg6 arg7 X_arg3 X_arg4 X_arg5 X_arg6 X_arg7 k acc) (trip_k0_t1.sl.v90 (F := Ideal) arg3 arg4 arg5 arg6 arg7 X_arg3 X_arg4 X_arg5 X_arg6 X_arg7 k acc) (trip_k0_t1.sl.v91 (F := Ideal) arg3 arg4 arg5 arg6 arg7 X_arg3 X_arg4 X_arg5 X_arg6 X_arg7 k acc) (trip_k0_t1.sl.v92 (F := Ideal) arg3 arg4 arg5 arg6 arg7 X_arg3 X_arg4 X_arg5 X_arg6 X_arg7 k acc) (trip_k0_t1.sl.v112 (F := Ideal) arg3 arg4 arg5 arg6 arg7 X_arg3 X_arg4 X_arg5 X_arg6 X_arg7 k acc) (trip_k0_t1.sl.v117 (F := Ideal) arg3 arg4 arg5 arg6 arg7 X_arg3 X_arg4 X_arg5 X_arg6 X_arg7 k acc) (trip_k0_t1.sl.v122 (F := Ideal) arg3 arg4 arg5 arg6 arg7 X_arg3 X_arg4 X_arg5 X_arg6 X_arg7 k acc) (trip_k0_t1.sl.v124 (F := Ideal) arg3 arg4 arg5 arg6 arg7 X_arg3 X_arg4 X_arg5 X_arg6 X_arg7 k acc) (k0_pay28 (F := Ideal)) := (rfl)

/-- A trip's value `v170`, by the values it is computed from. -/
theorem trip_v170 :
    (trip_k0_t1.sl.r_7 (F := Ideal) arg3 arg4 arg5 arg6 arg7 X_arg3 X_arg4 X_arg5 X_arg6 X_arg7 k acc) =
      k0_pay39 (F := Ideal) (trip_k0_t1.sl.v89 (F := Ideal) arg3 arg4 arg5 arg6 arg7 X_arg3 X_arg4 X_arg5 X_arg6 X_arg7 k acc) (trip_k0_t1.sl.v90 (F := Ideal) arg3 arg4 arg5 arg6 arg7 X_arg3 X_arg4 X_arg5 X_arg6 X_arg7 k acc) (trip_k0_t1.sl.v91 (F := Ideal) arg3 arg4 arg5 arg6 arg7 X_arg3 X_arg4 X_arg5 X_arg6 X_arg7 k acc) (trip_k0_t1.sl.v92 (F := Ideal) arg3 arg4 arg5 arg6 arg7 X_arg3 X_arg4 X_arg5 X_arg6 X_arg7 k acc) (trip_k0_t1.sl.v112 (F := Ideal) arg3 arg4 arg5 arg6 arg7 X_arg3 X_arg4 X_arg5 X_arg6 X_arg7 k acc) (trip_k0_t1.sl.v117 (F := Ideal) arg3 arg4 arg5 arg6 arg7 X_arg3 X_arg4 X_arg5 X_arg6 X_arg7 k acc) (trip_k0_t1.sl.v122 (F := Ideal) arg3 arg4 arg5 arg6 arg7 X_arg3 X_arg4 X_arg5 X_arg6 X_arg7 k acc) (trip_k0_t1.sl.v124 (F := Ideal) arg3 arg4 arg5 arg6 arg7 X_arg3 X_arg4 X_arg5 X_arg6 X_arg7 k acc) (k0_pay28 (F := Ideal)) := (rfl)

/-- A trip's value `cst_59`, by the values it is computed from. -/
theorem trip_cst_59 :
    (trip_k0_t1.sl.cst_59 (F := Ideal)) =
      (Named.named κ "least" 0x3CE25A74#32 : Ideal .f32) := (rfl)

/-- A trip's value `v172`, by the values it is computed from. -/
theorem trip_v172 :
    (trip_k0_t1.sl.r_8 (F := Ideal) arg3 arg4 arg5 arg6 arg7 X_arg3 X_arg4 X_arg5 X_arg6 X_arg7 k acc) =
      k0_pay40 (F := Ideal) (trip_k0_t1.sl.r_7 (F := Ideal) arg3 arg4 arg5 arg6 arg7 X_arg3 X_arg4 X_arg5 X_arg6 X_arg7 k acc) (trip_k0_t1.sl.cst_59 (F := Ideal)) := (rfl)

/-- A trip's value `v175`, by the values it is computed from. -/
theorem trip_v175 :
    (trip_k0_t1.sl.r_9 (F := Ideal) arg3 arg4 arg5 arg6 arg7 X_arg3 X_arg4 X_arg5 X_arg6 X_arg7 k acc) =
      k0_pay41 (F := Ideal) (trip_k0_t1.sl.r (F := Ideal) arg3 arg4 arg5 arg6 arg7 X_arg3 X_arg4 X_arg5 X_arg6 X_arg7 k acc) (trip_k0_t1.sl.r_2 (F := Ideal) arg3 arg4 arg5 arg6 arg7 X_arg3 X_arg4 X_arg5 X_arg6 X_arg7 k acc) := (rfl)

/-- A trip's value `v178`, by the values it is computed from. -/
theorem trip_v178 :
    (trip_k0_t1.sl.r_10 (F := Ideal) arg3 arg4 arg5 arg6 arg7 X_arg3 X_arg4 X_arg5 X_arg6 X_arg7 k acc) =
      k0_pay42 (F := Ideal) (trip_k0_t1.sl.r_1 (F := Ideal) arg3 arg4 arg5 arg6 arg7 X_arg3 X_arg4 X_arg5 X_arg6 X_arg7 k acc) (trip_k0_t1.sl.r_2 (F := Ideal) arg3 arg4 arg5 arg6 arg7 X_arg3 X_arg4 X_arg5 X_arg6 X_arg7 k acc) := (rfl)

/-- A trip's value `v179`, by the values it is computed from. -/
theorem trip_v179 :
    (trip_k0_t1.sl.r_11 (F := Ideal) arg3 arg4 arg5 arg6 arg7 X_arg3 X_arg4 X_arg5 X_arg6 X_arg7 k acc) =
      k0_pay43 (F := Ideal) (trip_k0_t1.sl.r_3 (F := Ideal) arg3 arg4 arg5 arg6 arg7 X_arg3 X_arg4 X_arg5 X_arg6 X_arg7 k acc) (trip_k0_t1.sl.r_4 (F := Ideal) arg3 arg4 arg5 arg6 arg7 X_arg3 X_arg4 X_arg5 X_arg6 X_arg7 k acc) := (rfl)

/-- A trip's value `v180`, by the values it is computed from. -/
theorem trip_v180 :
    (trip_k0_t1.sl.r_12 (F := Ideal) arg3 arg4 arg5 arg6 arg7 X_arg3 X_arg4 X_arg5 X_arg6 X_arg7 k acc) =
      k0_pay44 (F := Ideal) (trip_k0_t1.sl.r_3 (F := Ideal) arg3 arg4 arg5 arg6 arg7 X_arg3 X_arg4 X_arg5 X_arg6 X_arg7 k acc) (trip_k0_t1.sl.r_4 (F := Ideal) arg3 arg4 arg5 arg6 arg7 X_arg3 X_arg4 X_arg5 X_arg6 X_arg7 k acc) (trip_k0_t1.sl.r_5 (F := Ideal) arg3 arg4 arg5 arg6 arg7 X_arg3 X_arg4 X_arg5 X_arg6 X_arg7 k acc) := (rfl)

/-- A trip's value `v181`, by the values it is computed from. -/
theorem trip_v181 :
    (trip_k0_t1.sl.r_13 (F := Ideal) arg3 arg4 arg5 arg6 arg7 X_arg3 X_arg4 X_arg5 X_arg6 X_arg7 k acc) =
      k0_pay45 (F := Ideal) (trip_k0_t1.sl.r_3 (F := Ideal) arg3 arg4 arg5 arg6 arg7 X_arg3 X_arg4 X_arg5 X_arg6 X_arg7 k acc) (trip_k0_t1.sl.r_4 (F := Ideal) arg3 arg4 arg5 arg6 arg7 X_arg3 X_arg4 X_arg5 X_arg6 X_arg7 k acc) (trip_k0_t1.sl.r_5 (F := Ideal) arg3 arg4 arg5 arg6 arg7 X_arg3 X_arg4 X_arg5 X_arg6 X_arg7 k acc) (trip_k0_t1.sl.r_6 (F := Ideal) arg3 arg4 arg5 arg6 arg7 X_arg3 X_arg4 X_arg5 X_arg6 X_arg7 k acc) := (rfl)

/-- A trip's value `v182`, by the values it is computed from. -/
theorem trip_v182 :
    (trip_k0_t1.sl.r_14 (F := Ideal) arg3 arg4 arg5 arg6 arg7 X_arg3 X_arg4 X_arg5 X_arg6 X_arg7 k acc) =
      k0_pay46 (F := Ideal) (trip_k0_t1.sl.r_3 (F := Ideal) arg3 arg4 arg5 arg6 arg7 X_arg3 X_arg4 X_arg5 X_arg6 X_arg7 k acc) (trip_k0_t1.sl.r_4 (F := Ideal) arg3 arg4 arg5 arg6 arg7 X_arg3 X_arg4 X_arg5 X_arg6 X_arg7 k acc) (trip_k0_t1.sl.r_5 (F := Ideal) arg3 arg4 arg5 arg6 arg7 X_arg3 X_arg4 X_arg5 X_arg6 X_arg7 k acc) (trip_k0_t1.sl.r_6 (F := Ideal) arg3 arg4 arg5 arg6 arg7 X_arg3 X_arg4 X_arg5 X_arg6 X_arg7 k acc) (trip_k0_t1.sl.r_7 (F := Ideal) arg3 arg4 arg5 arg6 arg7 X_arg3 X_arg4 X_arg5 X_arg6 X_arg7 k acc) (trip_k0_t1.sl.cst_59 (F := Ideal)) := (rfl)

/-- A trip's value `v183`, by the values it is computed from. -/
theorem trip_v183 :
    (trip_k0_t1.sl.r_15 (F := Ideal) arg3 arg4 arg5 arg6 arg7 X_arg3 X_arg4 X_arg5 X_arg6 X_arg7 k acc) =
      k0_pay47 (F := Ideal) (trip_k0_t1.sl.r (F := Ideal) arg3 arg4 arg5 arg6 arg7 X_arg3 X_arg4 X_arg5 X_arg6 X_arg7 k acc) (trip_k0_t1.sl.r_2 (F := Ideal) arg3 arg4 arg5 arg6 arg7 X_arg3 X_arg4 X_arg5 X_arg6 X_arg7 k acc) (trip_k0_t1.sl.r_3 (F := Ideal) arg3 arg4 arg5 arg6 arg7 X_arg3 X_arg4 X_arg5 X_arg6 X_arg7 k acc) (trip_k0_t1.sl.r_4 (F := Ideal) arg3 arg4 arg5 arg6 arg7 X_arg3 X_arg4 X_arg5 X_arg6 X_arg7 k acc) (trip_k0_t1.sl.r_5 (F := Ideal) arg3 arg4 arg5 arg6 arg7 X_arg3 X_arg4 X_arg5 X_arg6 X_arg7 k acc) (trip_k0_t1.sl.r_6 (F := Ideal) arg3 arg4 arg5 arg6 arg7 X_arg3 X_arg4 X_arg5 X_arg6 X_arg7 k acc) (trip_k0_t1.sl.r_7 (F := Ideal) arg3 arg4 arg5 arg6 arg7 X_arg3 X_arg4 X_arg5 X_arg6 X_arg7 k acc) (trip_k0_t1.sl.cst_59 (F := Ideal)) := (rfl)

/-- A trip's value `v184`, by the values it is computed from. -/
theorem trip_v184 :
    (trip_k0_t1.sl.r_16 (F := Ideal) arg3 arg4 arg5 arg6 arg7 X_arg3 X_arg4 X_arg5 X_arg6 X_arg7 k acc) =
      k0_pay48 (F := Ideal) (trip_k0_t1.sl.r (F := Ideal) arg3 arg4 arg5 arg6 arg7 X_arg3 X_arg4 X_arg5 X_arg6 X_arg7 k acc) (trip_k0_t1.sl.r_1 (F := Ideal) arg3 arg4 arg5 arg6 arg7 X_arg3 X_arg4 X_arg5 X_arg6 X_arg7 k acc) (trip_k0_t1.sl.r_2 (F := Ideal) arg3 arg4 arg5 arg6 arg7 X_arg3 X_arg4 X_arg5 X_arg6 X_arg7 k acc) (trip_k0_t1.sl.r_3 (F := Ideal) arg3 arg4 arg5 arg6 arg7 X_arg3 X_arg4 X_arg5 X_arg6 X_arg7 k acc) (trip_k0_t1.sl.r_4 (F := Ideal) arg3 arg4 arg5 arg6 arg7 X_arg3 X_arg4 X_arg5 X_arg6 X_arg7 k acc) (trip_k0_t1.sl.r_5 (F := Ideal) arg3 arg4 arg5 arg6 arg7 X_arg3 X_arg4 X_arg5 X_arg6 X_arg7 k acc) (trip_k0_t1.sl.r_6 (F := Ideal) arg3 arg4 arg5 arg6 arg7 X_arg3 X_arg4 X_arg5 X_arg6 X_arg7 k acc) (trip_k0_t1.sl.r_7 (F := Ideal) arg3 arg4 arg5 arg6 arg7 X_arg3 X_arg4 X_arg5 X_arg6 X_arg7 k acc) (trip_k0_t1.sl.cst_59 (F := Ideal)) := (rfl)

/-- A trip's value `v186`, by the values it is computed from. -/
theorem trip_v186 :
    (trip_k0_t1.sl.r_17 (F := Ideal) arg3 arg4 arg5 arg6 arg7 X_arg3 X_arg4 X_arg5 X_arg6 X_arg7 k acc) =
      k0_pay49 (F := Ideal) (trip_k0_t1.sl.r_3 (F := Ideal) arg3 arg4 arg5 arg6 arg7 X_arg3 X_arg4 X_arg5 X_arg6 X_arg7 k acc) := (rfl)

/-- A trip's value `v188`, by the values it is computed from. -/
theorem trip_v188 :
    (trip_k0_t1.sl.r_18 (F := Ideal) arg3 arg4 arg5 arg6 arg7 X_arg3 X_arg4 X_arg5 X_arg6 X_arg7 k acc) =
      k0_pay50 (F := Ideal) (trip_k0_t1.sl.r (F := Ideal) arg3 arg4 arg5 arg6 arg7 X_arg3 X_arg4 X_arg5 X_arg6 X_arg7 k acc) (trip_k0_t1.sl.r_1 (F := Ideal) arg3 arg4 arg5 arg6 arg7 X_arg3 X_arg4 X_arg5 X_arg6 X_arg7 k acc) (trip_k0_t1.sl.r_2 (F := Ideal) arg3 arg4 arg5 arg6 arg7 X_arg3 X_arg4 X_arg5 X_arg6 X_arg7 k acc) (trip_k0_t1.sl.r_3 (F := Ideal) arg3 arg4 arg5 arg6 arg7 X_arg3 X_arg4 X_arg5 X_arg6 X_arg7 k acc) (trip_k0_t1.sl.r_4 (F := Ideal) arg3 arg4 arg5 arg6 arg7 X_arg3 X_arg4 X_arg5 X_arg6 X_arg7 k acc) (trip_k0_t1.sl.r_5 (F := Ideal) arg3 arg4 arg5 arg6 arg7 X_arg3 X_arg4 X_arg5 X_arg6 X_arg7 k acc) (trip_k0_t1.sl.r_6 (F := Ideal) arg3 arg4 arg5 arg6 arg7 X_arg3 X_arg4 X_arg5 X_arg6 X_arg7 k acc) (trip_k0_t1.sl.r_7 (F := Ideal) arg3 arg4 arg5 arg6 arg7 X_arg3 X_arg4 X_arg5 X_arg6 X_arg7 k acc) (trip_k0_t1.sl.cst_59 (F := Ideal)) := (rfl)

/-- A trip's value `v193`, by the values it is computed from. -/
theorem trip_v193 :
    (trip_k0_t1.sl.r_19 (F := Ideal) arg3 arg4 arg5 arg6 arg7 X_arg3 X_arg4 X_arg5 X_arg6 X_arg7 k acc) =
      k0_pay51 (F := Ideal) (trip_k0_t1.sl.v93 (F := Ideal) arg3 arg4 arg5 arg6 arg7 X_arg3 X_arg4 X_arg5 X_arg6 X_arg7 k acc) := (rfl)

/-- A trip's value `v198`, by the values it is computed from. -/
theorem trip_v198 :
    (trip_k0_t1.sl.r_20 (F := Ideal) arg3 arg4 arg5 arg6 arg7 X_arg3 X_arg4 X_arg5 X_arg6 X_arg7 k acc) =
      k0_pay52 (F := Ideal) (trip_k0_t1.sl.v94 (F := Ideal) arg3 arg4 arg5 arg6 arg7 X_arg3 X_arg4 X_arg5 X_arg6 X_arg7 k acc) := (rfl)

/-- A trip's value `v203`, by the values it is computed from. -/
theorem trip_v203 :
    (trip_k0_t1.sl.r_21 (F := Ideal) arg3 arg4 arg5 arg6 arg7 X_arg3 X_arg4 X_arg5 X_arg6 X_arg7 k acc) =
      k0_pay53 (F := Ideal) (trip_k0_t1.sl.v95 (F := Ideal) arg3 arg4 arg5 arg6 arg7 X_arg3 X_arg4 X_arg5 X_arg6 X_arg7 k acc) := (rfl)

/-- A trip's value `v208`, by the values it is computed from. -/
theorem trip_v208 :
    (trip_k0_t1.sl.r_22 (F := Ideal) arg3 arg4 arg5 arg6 arg7 X_arg3 X_arg4 X_arg5 X_arg6 X_arg7 k acc) =
      k0_pay54 (F := Ideal) (trip_k0_t1.sl.v96 (F := Ideal) arg3 arg4 arg5 arg6 arg7 X_arg3 X_arg4 X_arg5 X_arg6 X_arg7 k acc) := (rfl)

/-- A trip's value `v213`, by the values it is computed from. -/
theorem trip_v213 :
    (trip_k0_t1.sl.r_23 (F := Ideal) arg3 arg4 arg5 arg6 arg7 X_arg3 X_arg4 X_arg5 X_arg6 X_arg7 k acc) =
      k0_pay55 (F := Ideal) (trip_k0_t1.sl.v97 (F := Ideal) arg3 arg4 arg5 arg6 arg7 X_arg3 X_arg4 X_arg5 X_arg6 X_arg7 k acc) := (rfl)

/-- A trip's value `v241`, by the values it is computed from. -/
theorem trip_v241 :
    (trip_k0_t1.sl.r_24 (F := Ideal) arg3 arg4 arg5 arg6 arg7 X_arg3 X_arg4 X_arg5 X_arg6 X_arg7 k acc) =
      k0_pay61 (F := Ideal) (trip_k0_t1.sl.v98 (F := Ideal) arg3 arg4 arg5 arg6 arg7 X_arg3 X_arg4 X_arg5 X_arg6 X_arg7 k acc) (trip_k0_t1.sl.v99 (F := Ideal) arg3 arg4 arg5 arg6 arg7 X_arg3 X_arg4 X_arg5 X_arg6 X_arg7 k acc) (trip_k0_t1.sl.v100 (F := Ideal) arg3 arg4 arg5 arg6 arg7 X_arg3 X_arg4 X_arg5 X_arg6 X_arg7 k acc) (trip_k0_t1.sl.r_19 (F := Ideal) arg3 arg4 arg5 arg6 arg7 X_arg3 X_arg4 X_arg5 X_arg6 X_arg7 k acc) (trip_k0_t1.sl.r_20 (F := Ideal) arg3 arg4 arg5 arg6 arg7 X_arg3 X_arg4 X_arg5 X_arg6 X_arg7 k acc) (trip_k0_t1.sl.r_21 (F := Ideal) arg3 arg4 arg5 arg6 arg7 X_arg3 X_arg4 X_arg5 X_arg6 X_arg7 k acc) (trip_k0_t1.sl.r_22 (F := Ideal) arg3 arg4 arg5 arg6 arg7 X_arg3 X_arg4 X_arg5 X_arg6 X_arg7 k acc) (trip_k0_t1.sl.r_23 (F := Ideal) arg3 arg4 arg5 arg6 arg7 X_arg3 X_arg4 X_arg5 X_arg6 X_arg7 k acc) (Scalar.ofBits .f32 0x42700000#32) (k0_pay56 (F := Ideal)) := (rfl)

/-- A trip's value `v244`, by the values it is computed from. -/
theorem trip_v244 :
    (trip_k0_t1.sl.r_25 (F := Ideal) arg3 arg4 arg5 arg6 arg7 X_arg3 X_arg4 X_arg5 X_arg6 X_arg7 k acc) =
      k0_pay62 (F := Ideal) (trip_k0_t1.sl.v98 (F := Ideal) arg3 arg4 arg5 arg6 arg7 X_arg3 X_arg4 X_arg5 X_arg6 X_arg7 k acc) (trip_k0_t1.sl.v99 (F := Ideal) arg3 arg4 arg5 arg6 arg7 X_arg3 X_arg4 X_arg5 X_arg6 X_arg7 k acc) (trip_k0_t1.sl.v100 (F := Ideal) arg3 arg4 arg5 arg6 arg7 X_arg3 X_arg4 X_arg5 X_arg6 X_arg7 k acc) (trip_k0_t1.sl.r_19 (F := Ideal) arg3 arg4 arg5 arg6 arg7 X_arg3 X_arg4 X_arg5 X_arg6 X_arg7 k acc) (trip_k0_t1.sl.r_20 (F := Ideal) arg3 arg4 arg5 arg6 arg7 X_arg3 X_arg4 X_arg5 X_arg6 X_arg7 k acc) (trip_k0_t1.sl.r_21 (F := Ideal) arg3 arg4 arg5 arg6 arg7 X_arg3 X_arg4 X_arg5 X_arg6 X_arg7 k acc) (trip_k0_t1.sl.r_22 (F := Ideal) arg3 arg4 arg5 arg6 arg7 X_arg3 X_arg4 X_arg5 X_arg6 X_arg7 k acc) (trip_k0_t1.sl.r_23 (F := Ideal) arg3 arg4 arg5 arg6 arg7 X_arg3 X_arg4 X_arg5 X_arg6 X_arg7 k acc) (Scalar.ofBits .f32 0x42700000#32) (k0_pay56 (F := Ideal)) := (rfl)

/-- A trip's value `v247`, by the values it is computed from. -/
theorem trip_v247 :
    (trip_k0_t1.sl.r_26 (F := Ideal) arg3 arg4 arg5 arg6 arg7 X_arg3 X_arg4 X_arg5 X_arg6 X_arg7 k acc) =
      k0_pay63 (F := Ideal) (trip_k0_t1.sl.v98 (F := Ideal) arg3 arg4 arg5 arg6 arg7 X_arg3 X_arg4 X_arg5 X_arg6 X_arg7 k acc) (trip_k0_t1.sl.v99 (F := Ideal) arg3 arg4 arg5 arg6 arg7 X_arg3 X_arg4 X_arg5 X_arg6 X_arg7 k acc) (trip_k0_t1.sl.v100 (F := Ideal) arg3 arg4 arg5 arg6 arg7 X_arg3 X_arg4 X_arg5 X_arg6 X_arg7 k acc) (trip_k0_t1.sl.r_19 (F := Ideal) arg3 arg4 arg5 arg6 arg7 X_arg3 X_arg4 X_arg5 X_arg6 X_arg7 k acc) (trip_k0_t1.sl.r_20 (F := Ideal) arg3 arg4 arg5 arg6 arg7 X_arg3 X_arg4 X_arg5 X_arg6 X_arg7 k acc) (trip_k0_t1.sl.r_21 (F := Ideal) arg3 arg4 arg5 arg6 arg7 X_arg3 X_arg4 X_arg5 X_arg6 X_arg7 k acc) (trip_k0_t1.sl.r_22 (F := Ideal) arg3 arg4 arg5 arg6 arg7 X_arg3 X_arg4 X_arg5 X_arg6 X_arg7 k acc) (trip_k0_t1.sl.r_23 (F := Ideal) arg3 arg4 arg5 arg6 arg7 X_arg3 X_arg4 X_arg5 X_arg6 X_arg7 k acc) (Scalar.ofBits .f32 0x42700000#32) (k0_pay56 (F := Ideal)) := (rfl)

/-- A trip's value `v250`, by the values it is computed from. -/
theorem trip_v250 :
    (trip_k0_t1.sl.r_27 (F := Ideal) arg3 arg4 arg5 arg6 arg7 X_arg3 X_arg4 X_arg5 X_arg6 X_arg7 k acc) =
      k0_pay64 (F := Ideal) (trip_k0_t1.sl.v98 (F := Ideal) arg3 arg4 arg5 arg6 arg7 X_arg3 X_arg4 X_arg5 X_arg6 X_arg7 k acc) (trip_k0_t1.sl.v99 (F := Ideal) arg3 arg4 arg5 arg6 arg7 X_arg3 X_arg4 X_arg5 X_arg6 X_arg7 k acc) (trip_k0_t1.sl.v100 (F := Ideal) arg3 arg4 arg5 arg6 arg7 X_arg3 X_arg4 X_arg5 X_arg6 X_arg7 k acc) (trip_k0_t1.sl.r_19 (F := Ideal) arg3 arg4 arg5 arg6 arg7 X_arg3 X_arg4 X_arg5 X_arg6 X_arg7 k acc) (trip_k0_t1.sl.r_20 (F := Ideal) arg3 arg4 arg5 arg6 arg7 X_arg3 X_arg4 X_arg5 X_arg6 X_arg7 k acc) (trip_k0_t1.sl.r_21 (F := Ideal) arg3 arg4 arg5 arg6 arg7 X_arg3 X_arg4 X_arg5 X_arg6 X_arg7 k acc) (trip_k0_t1.sl.r_22 (F := Ideal) arg3 arg4 arg5 arg6 arg7 X_arg3 X_arg4 X_arg5 X_arg6 X_arg7 k acc) (trip_k0_t1.sl.r_23 (F := Ideal) arg3 arg4 arg5 arg6 arg7 X_arg3 X_arg4 X_arg5 X_arg6 X_arg7 k acc) (Scalar.ofBits .f32 0x42700000#32) (k0_pay56 (F := Ideal)) := (rfl)

/-- A trip's value `v253`, by the values it is computed from. -/
theorem trip_v253 :
    (trip_k0_t1.sl.r_28 (F := Ideal) arg3 arg4 arg5 arg6 arg7 X_arg3 X_arg4 X_arg5 X_arg6 X_arg7 k acc) =
      k0_pay65 (F := Ideal) (trip_k0_t1.sl.v98 (F := Ideal) arg3 arg4 arg5 arg6 arg7 X_arg3 X_arg4 X_arg5 X_arg6 X_arg7 k acc) (trip_k0_t1.sl.v99 (F := Ideal) arg3 arg4 arg5 arg6 arg7 X_arg3 X_arg4 X_arg5 X_arg6 X_arg7 k acc) (trip_k0_t1.sl.v100 (F := Ideal) arg3 arg4 arg5 arg6 arg7 X_arg3 X_arg4 X_arg5 X_arg6 X_arg7 k acc) (trip_k0_t1.sl.r_19 (F := Ideal) arg3 arg4 arg5 arg6 arg7 X_arg3 X_arg4 X_arg5 X_arg6 X_arg7 k acc) (trip_k0_t1.sl.r_20 (F := Ideal) arg3 arg4 arg5 arg6 arg7 X_arg3 X_arg4 X_arg5 X_arg6 X_arg7 k acc) (trip_k0_t1.sl.r_21 (F := Ideal) arg3 arg4 arg5 arg6 arg7 X_arg3 X_arg4 X_arg5 X_arg6 X_arg7 k acc) (trip_k0_t1.sl.r_22 (F := Ideal) arg3 arg4 arg5 arg6 arg7 X_arg3 X_arg4 X_arg5 X_arg6 X_arg7 k acc) (trip_k0_t1.sl.r_23 (F := Ideal) arg3 arg4 arg5 arg6 arg7 X_arg3 X_arg4 X_arg5 X_arg6 X_arg7 k acc) (Scalar.ofBits .f32 0x42700000#32) (k0_pay56 (F := Ideal)) := (rfl)

/-- A trip's value `v256`, by the values it is computed from. -/
theorem trip_v256 :
    (trip_k0_t1.sl.r_29 (F := Ideal) arg3 arg4 arg5 arg6 arg7 X_arg3 X_arg4 X_arg5 X_arg6 X_arg7 k acc) =
      k0_pay66 (F := Ideal) (trip_k0_t1.sl.v98 (F := Ideal) arg3 arg4 arg5 arg6 arg7 X_arg3 X_arg4 X_arg5 X_arg6 X_arg7 k acc) (trip_k0_t1.sl.v99 (F := Ideal) arg3 arg4 arg5 arg6 arg7 X_arg3 X_arg4 X_arg5 X_arg6 X_arg7 k acc) (trip_k0_t1.sl.v100 (F := Ideal) arg3 arg4 arg5 arg6 arg7 X_arg3 X_arg4 X_arg5 X_arg6 X_arg7 k acc) (trip_k0_t1.sl.r_19 (F := Ideal) arg3 arg4 arg5 arg6 arg7 X_arg3 X_arg4 X_arg5 X_arg6 X_arg7 k acc) (trip_k0_t1.sl.r_20 (F := Ideal) arg3 arg4 arg5 arg6 arg7 X_arg3 X_arg4 X_arg5 X_arg6 X_arg7 k acc) (trip_k0_t1.sl.r_21 (F := Ideal) arg3 arg4 arg5 arg6 arg7 X_arg3 X_arg4 X_arg5 X_arg6 X_arg7 k acc) (trip_k0_t1.sl.r_22 (F := Ideal) arg3 arg4 arg5 arg6 arg7 X_arg3 X_arg4 X_arg5 X_arg6 X_arg7 k acc) (trip_k0_t1.sl.r_23 (F := Ideal) arg3 arg4 arg5 arg6 arg7 X_arg3 X_arg4 X_arg5 X_arg6 X_arg7 k acc) (Scalar.ofBits .f32 0x42700000#32) (k0_pay56 (F := Ideal)) := (rfl)

/-- A trip's value `v259`, by the values it is computed from. -/
theorem trip_v259 :
    (trip_k0_t1.sl.r_30 (F := Ideal) arg3 arg4 arg5 arg6 arg7 X_arg3 X_arg4 X_arg5 X_arg6 X_arg7 k acc) =
      k0_pay67 (F := Ideal) (trip_k0_t1.sl.v98 (F := Ideal) arg3 arg4 arg5 arg6 arg7 X_arg3 X_arg4 X_arg5 X_arg6 X_arg7 k acc) (trip_k0_t1.sl.v99 (F := Ideal) arg3 arg4 arg5 arg6 arg7 X_arg3 X_arg4 X_arg5 X_arg6 X_arg7 k acc) (trip_k0_t1.sl.v100 (F := Ideal) arg3 arg4 arg5 arg6 arg7 X_arg3 X_arg4 X_arg5 X_arg6 X_arg7 k acc) (trip_k0_t1.sl.r_19 (F := Ideal) arg3 arg4 arg5 arg6 arg7 X_arg3 X_arg4 X_arg5 X_arg6 X_arg7 k acc) (trip_k0_t1.sl.r_20 (F := Ideal) arg3 arg4 arg5 arg6 arg7 X_arg3 X_arg4 X_arg5 X_arg6 X_arg7 k acc) (trip_k0_t1.sl.r_21 (F := Ideal) arg3 arg4 arg5 arg6 arg7 X_arg3 X_arg4 X_arg5 X_arg6 X_arg7 k acc) (trip_k0_t1.sl.r_22 (F := Ideal) arg3 arg4 arg5 arg6 arg7 X_arg3 X_arg4 X_arg5 X_arg6 X_arg7 k acc) (trip_k0_t1.sl.r_23 (F := Ideal) arg3 arg4 arg5 arg6 arg7 X_arg3 X_arg4 X_arg5 X_arg6 X_arg7 k acc) (Scalar.ofBits .f32 0x42700000#32) (k0_pay56 (F := Ideal)) := (rfl)

/-- A trip's value `v260`, by the values it is computed from. -/
theorem trip_v260 :
    (trip_k0_t1.sl.r_31 (F := Ideal) arg3 arg4 arg5 arg6 arg7 X_arg3 X_arg4 X_arg5 X_arg6 X_arg7 k acc) =
      k0_pay68 (F := Ideal) (trip_k0_t1.sl.v98 (F := Ideal) arg3 arg4 arg5 arg6 arg7 X_arg3 X_arg4 X_arg5 X_arg6 X_arg7 k acc) (trip_k0_t1.sl.v99 (F := Ideal) arg3 arg4 arg5 arg6 arg7 X_arg3 X_arg4 X_arg5 X_arg6 X_arg7 k acc) (trip_k0_t1.sl.v100 (F := Ideal) arg3 arg4 arg5 arg6 arg7 X_arg3 X_arg4 X_arg5 X_arg6 X_arg7 k acc) (trip_k0_t1.sl.r_19 (F := Ideal) arg3 arg4 arg5 arg6 arg7 X_arg3 X_arg4 X_arg5 X_arg6 X_arg7 k acc) (trip_k0_t1.sl.r_20 (F := Ideal) arg3 arg4 arg5 arg6 arg7 X_arg3 X_arg4 X_arg5 X_arg6 X_arg7 k acc) (trip_k0_t1.sl.r_21 (F := Ideal) arg3 arg4 arg5 arg6 arg7 X_arg3 X_arg4 X_arg5 X_arg6 X_arg7 k acc) (trip_k0_t1.sl.r_22 (F := Ideal) arg3 arg4 arg5 arg6 arg7 X_arg3 X_arg4 X_arg5 X_arg6 X_arg7 k acc) (trip_k0_t1.sl.r_23 (F := Ideal) arg3 arg4 arg5 arg6 arg7 X_arg3 X_arg4 X_arg5 X_arg6 X_arg7 k acc) (Scalar.ofBits .f32 0x42700000#32) (k0_pay56 (F := Ideal)) := (rfl)

/-- A trip's value `v261`, by the values it is computed from. -/
theorem trip_v261 :
    (trip_k0_t1.sl.r_32 (F := Ideal) arg3 arg4 arg5 arg6 arg7 X_arg3 X_arg4 X_arg5 X_arg6 X_arg7 k acc) =
      k0_pay69 (F := Ideal) (trip_k0_t1.sl.v98 (F := Ideal) arg3 arg4 arg5 arg6 arg7 X_arg3 X_arg4 X_arg5 X_arg6 X_arg7 k acc) (trip_k0_t1.sl.v99 (F := Ideal) arg3 arg4 arg5 arg6 arg7 X_arg3 X_arg4 X_arg5 X_arg6 X_arg7 k acc) (trip_k0_t1.sl.v100 (F := Ideal) arg3 arg4 arg5 arg6 arg7 X_arg3 X_arg4 X_arg5 X_arg6 X_arg7 k acc) (trip_k0_t1.sl.r_19 (F := Ideal) arg3 arg4 arg5 arg6 arg7 X_arg3 X_arg4 X_arg5 X_arg6 X_arg7 k acc) (trip_k0_t1.sl.r_20 (F := Ideal) arg3 arg4 arg5 arg6 arg7 X_arg3 X_arg4 X_arg5 X_arg6 X_arg7 k acc) (trip_k0_t1.sl.r_21 (F := Ideal) arg3 arg4 arg5 arg6 arg7 X_arg3 X_arg4 X_arg5 X_arg6 X_arg7 k acc) (trip_k0_t1.sl.r_22 (F := Ideal) arg3 arg4 arg5 arg6 arg7 X_arg3 X_arg4 X_arg5 X_arg6 X_arg7 k acc) (trip_k0_t1.sl.r_23 (F := Ideal) arg3 arg4 arg5 arg6 arg7 X_arg3 X_arg4 X_arg5 X_arg6 X_arg7 k acc) (Scalar.ofBits .f32 0x42700000#32) (k0_pay56 (F := Ideal)) := (rfl)

/-- A trip's value `v274`, by the values it is computed from. -/
theorem trip_v274 :
    (trip_k0_t1.sl.v274 (F := Ideal) arg3 arg4 arg5 arg6 arg7 X_arg3 X_arg4 X_arg5 X_arg6 X_arg7 k acc) =
      k0_pay78 (F := Ideal) (trip_k0_t1.sl.v83 (F := Ideal) acc) (trip_k0_t1.sl.r_14 (F := Ideal) arg3 arg4 arg5 arg6 arg7 X_arg3 X_arg4 X_arg5 X_arg6 X_arg7 k acc) := (rfl)

/-- A trip's value `v275`, by the values it is computed from. -/
theorem trip_v275 :
    (trip_k0_t1.sl.v275 (F := Ideal) arg3 arg4 arg5 arg6 arg7 X_arg3 X_arg4 X_arg5 X_arg6 X_arg7 k acc) =
      k0_pay79 (F := Ideal) (trip_k0_t1.sl.v83 (F := Ideal) acc) (trip_k0_t1.sl.r_15 (F := Ideal) arg3 arg4 arg5 arg6 arg7 X_arg3 X_arg4 X_arg5 X_arg6 X_arg7 k acc) := (rfl)

/-- A trip's value `v276`, by the values it is computed from. -/
theorem trip_v276 :
    (trip_k0_t1.sl.v276 (F := Ideal) arg3 arg4 arg5 arg6 arg7 X_arg3 X_arg4 X_arg5 X_arg6 X_arg7 k acc) =
      k0_pay80 (F := Ideal) (trip_k0_t1.sl.v83 (F := Ideal) acc) (trip_k0_t1.sl.r_16 (F := Ideal) arg3 arg4 arg5 arg6 arg7 X_arg3 X_arg4 X_arg5 X_arg6 X_arg7 k acc) := (rfl)

/-- A trip's value `v283`, by the values it is computed from. -/
theorem trip_v283 :
    (trip_k0_t1.sl.v283 (F := Ideal) arg3 arg4 arg5 arg6 arg7 X_arg3 X_arg4 X_arg5 X_arg6 X_arg7 k acc) =
      k0_pay81 (F := Ideal) (trip_k0_t1.sl.v83 (F := Ideal) acc) (k0_pay34 (F := Ideal)) (trip_k0_t1.sl.r_3 (F := Ideal) arg3 arg4 arg5 arg6 arg7 X_arg3 X_arg4 X_arg5 X_arg6 X_arg7 k acc) (trip_k0_t1.sl.r_11 (F := Ideal) arg3 arg4 arg5 arg6 arg7 X_arg3 X_arg4 X_arg5 X_arg6 X_arg7 k acc) (trip_k0_t1.sl.r_12 (F := Ideal) arg3 arg4 arg5 arg6 arg7 X_arg3 X_arg4 X_arg5 X_arg6 X_arg7 k acc) (trip_k0_t1.sl.r_13 (F := Ideal) arg3 arg4 arg5 arg6 arg7 X_arg3 X_arg4 X_arg5 X_arg6 X_arg7 k acc) (trip_k0_t1.sl.r_14 (F := Ideal) arg3 arg4 arg5 arg6 arg7 X_arg3 X_arg4 X_arg5 X_arg6 X_arg7 k acc) (trip_k0_t1.sl.r_15 (F := Ideal) arg3 arg4 arg5 arg6 arg7 X_arg3 X_arg4 X_arg5 X_arg6 X_arg7 k acc) (trip_k0_t1.sl.r_16 (F := Ideal) arg3 arg4 arg5 arg6 arg7 X_arg3 X_arg4 X_arg5 X_arg6 X_arg7 k acc) := (rfl)

/-- A trip's value `v290`, by the values it is computed from. -/
theorem trip_v290 :
    (trip_k0_t1.sl.v290 (F := Ideal) arg3 arg4 arg5 arg6 arg7 X_arg3 X_arg4 X_arg5 X_arg6 X_arg7 k acc) =
      k0_pay82 (F := Ideal) (trip_k0_t1.sl.v83 (F := Ideal) acc) (trip_k0_t1.sl.r_3 (F := Ideal) arg3 arg4 arg5 arg6 arg7 X_arg3 X_arg4 X_arg5 X_arg6 X_arg7 k acc) (trip_k0_t1.sl.r_4 (F := Ideal) arg3 arg4 arg5 arg6 arg7 X_arg3 X_arg4 X_arg5 X_arg6 X_arg7 k acc) (trip_k0_t1.sl.r_5 (F := Ideal) arg3 arg4 arg5 arg6 arg7 X_arg3 X_arg4 X_arg5 X_arg6 X_arg7 k acc) (trip_k0_t1.sl.r_6 (F := Ideal) arg3 arg4 arg5 arg6 arg7 X_arg3 X_arg4 X_arg5 X_arg6 X_arg7 k acc) (trip_k0_t1.sl.r_8 (F := Ideal) arg3 arg4 arg5 arg6 arg7 X_arg3 X_arg4 X_arg5 X_arg6 X_arg7 k acc) (trip_k0_t1.sl.r_9 (F := Ideal) arg3 arg4 arg5 arg6 arg7 X_arg3 X_arg4 X_arg5 X_arg6 X_arg7 k acc) (trip_k0_t1.sl.r_10 (F := Ideal) arg3 arg4 arg5 arg6 arg7 X_arg3 X_arg4 X_arg5 X_arg6 X_arg7 k acc) (trip_k0_t1.sl.r_11 (F := Ideal) arg3 arg4 arg5 arg6 arg7 X_arg3 X_arg4 X_arg5 X_arg6 X_arg7 k acc) (trip_k0_t1.sl.r_12 (F := Ideal) arg3 arg4 arg5 arg6 arg7 X_arg3 X_arg4 X_arg5 X_arg6 X_arg7 k acc) (trip_k0_t1.sl.r_13 (F := Ideal) arg3 arg4 arg5 arg6 arg7 X_arg3 X_arg4 X_arg5 X_arg6 X_arg7 k acc) (trip_k0_t1.sl.r_14 (F := Ideal) arg3 arg4 arg5 arg6 arg7 X_arg3 X_arg4 X_arg5 X_arg6 X_arg7 k acc) (trip_k0_t1.sl.r_15 (F := Ideal) arg3 arg4 arg5 arg6 arg7 X_arg3 X_arg4 X_arg5 X_arg6 X_arg7 k acc) (trip_k0_t1.sl.r_16 (F := Ideal) arg3 arg4 arg5 arg6 arg7 X_arg3 X_arg4 X_arg5 X_arg6 X_arg7 k acc) (trip_k0_t1.sl.r_17 (F := Ideal) arg3 arg4 arg5 arg6 arg7 X_arg3 X_arg4 X_arg5 X_arg6 X_arg7 k acc) (trip_k0_t1.sl.r_18 (F := Ideal) arg3 arg4 arg5 arg6 arg7 X_arg3 X_arg4 X_arg5 X_arg6 X_arg7 k acc) := (rfl)

/-- A trip's value `v297`, by the values it is computed from. -/
theorem trip_v297 :
    (trip_k0_t1.sl.v297 (F := Ideal) arg3 arg4 arg5 arg6 arg7 X_arg3 X_arg4 X_arg5 X_arg6 X_arg7 k acc) =
      k0_pay83 (F := Ideal) (trip_k0_t1.sl.v83 (F := Ideal) acc) (trip_k0_t1.sl.r_3 (F := Ideal) arg3 arg4 arg5 arg6 arg7 X_arg3 X_arg4 X_arg5 X_arg6 X_arg7 k acc) (trip_k0_t1.sl.r_11 (F := Ideal) arg3 arg4 arg5 arg6 arg7 X_arg3 X_arg4 X_arg5 X_arg6 X_arg7 k acc) (trip_k0_t1.sl.r_12 (F := Ideal) arg3 arg4 arg5 arg6 arg7 X_arg3 X_arg4 X_arg5 X_arg6 X_arg7 k acc) (trip_k0_t1.sl.r_13 (F := Ideal) arg3 arg4 arg5 arg6 arg7 X_arg3 X_arg4 X_arg5 X_arg6 X_arg7 k acc) (trip_k0_t1.sl.r_14 (F := Ideal) arg3 arg4 arg5 arg6 arg7 X_arg3 X_arg4 X_arg5 X_arg6 X_arg7 k acc) (trip_k0_t1.sl.r_15 (F := Ideal) arg3 arg4 arg5 arg6 arg7 X_arg3 X_arg4 X_arg5 X_arg6 X_arg7 k acc) (trip_k0_t1.sl.r_16 (F := Ideal) arg3 arg4 arg5 arg6 arg7 X_arg3 X_arg4 X_arg5 X_arg6 X_arg7 k acc) (k0_pay60 (F := Ideal)) (trip_k0_t1.sl.r_24 (F := Ideal) arg3 arg4 arg5 arg6 arg7 X_arg3 X_arg4 X_arg5 X_arg6 X_arg7 k acc) (trip_k0_t1.sl.r_27 (F := Ideal) arg3 arg4 arg5 arg6 arg7 X_arg3 X_arg4 X_arg5 X_arg6 X_arg7 k acc) (trip_k0_t1.sl.r_28 (F := Ideal) arg3 arg4 arg5 arg6 arg7 X_arg3 X_arg4 X_arg5 X_arg6 X_arg7 k acc) (trip_k0_t1.sl.r_29 (F := Ideal) arg3 arg4 arg5 arg6 arg7 X_arg3 X_arg4 X_arg5 X_arg6 X_arg7 k acc) (trip_k0_t1.sl.r_30 (F := Ideal) arg3 arg4 arg5 arg6 arg7 X_arg3 X_arg4 X_arg5 X_arg6 X_arg7 k acc) (trip_k0_t1.sl.r_31 (F := Ideal) arg3 arg4 arg5 arg6 arg7 X_arg3 X_arg4 X_arg5 X_arg6 X_arg7 k acc) (trip_k0_t1.sl.r_32 (F := Ideal) arg3 arg4 arg5 arg6 arg7 X_arg3 X_arg4 X_arg5 X_arg6 X_arg7 k acc) := (rfl)

/-- A trip's value `v304`, by the values it is computed from. -/
theorem trip_v304 :
    (trip_k0_t1.sl.v304 (F := Ideal) arg3 arg4 arg5 arg6 arg7 X_arg3 X_arg4 X_arg5 X_arg6 X_arg7 k acc) =
      k0_pay84 (F := Ideal) (trip_k0_t1.sl.v83 (F := Ideal) acc) (trip_k0_t1.sl.r_3 (F := Ideal) arg3 arg4 arg5 arg6 arg7 X_arg3 X_arg4 X_arg5 X_arg6 X_arg7 k acc) (trip_k0_t1.sl.r_11 (F := Ideal) arg3 arg4 arg5 arg6 arg7 X_arg3 X_arg4 X_arg5 X_arg6 X_arg7 k acc) (trip_k0_t1.sl.r_12 (F := Ideal) arg3 arg4 arg5 arg6 arg7 X_arg3 X_arg4 X_arg5 X_arg6 X_arg7 k acc) (trip_k0_t1.sl.r_13 (F := Ideal) arg3 arg4 arg5 arg6 arg7 X_arg3 X_arg4 X_arg5 X_arg6 X_arg7 k acc) (trip_k0_t1.sl.r_14 (F := Ideal) arg3 arg4 arg5 arg6 arg7 X_arg3 X_arg4 X_arg5 X_arg6 X_arg7 k acc) (trip_k0_t1.sl.r_15 (F := Ideal) arg3 arg4 arg5 arg6 arg7 X_arg3 X_arg4 X_arg5 X_arg6 X_arg7 k acc) (trip_k0_t1.sl.r_16 (F := Ideal) arg3 arg4 arg5 arg6 arg7 X_arg3 X_arg4 X_arg5 X_arg6 X_arg7 k acc) (trip_k0_t1.sl.r_24 (F := Ideal) arg3 arg4 arg5 arg6 arg7 X_arg3 X_arg4 X_arg5 X_arg6 X_arg7 k acc) (trip_k0_t1.sl.r_25 (F := Ideal) arg3 arg4 arg5 arg6 arg7 X_arg3 X_arg4 X_arg5 X_arg6 X_arg7 k acc) (trip_k0_t1.sl.r_26 (F := Ideal) arg3 arg4 arg5 arg6 arg7 X_arg3 X_arg4 X_arg5 X_arg6 X_arg7 k acc) (trip_k0_t1.sl.r_27 (F := Ideal) arg3 arg4 arg5 arg6 arg7 X_arg3 X_arg4 X_arg5 X_arg6 X_arg7 k acc) (trip_k0_t1.sl.r_28 (F := Ideal) arg3 arg4 arg5 arg6 arg7 X_arg3 X_arg4 X_arg5 X_arg6 X_arg7 k acc) (trip_k0_t1.sl.r_29 (F := Ideal) arg3 arg4 arg5 arg6 arg7 X_arg3 X_arg4 X_arg5 X_arg6 X_arg7 k acc) (trip_k0_t1.sl.r_30 (F := Ideal) arg3 arg4 arg5 arg6 arg7 X_arg3 X_arg4 X_arg5 X_arg6 X_arg7 k acc) (trip_k0_t1.sl.r_32 (F := Ideal) arg3 arg4 arg5 arg6 arg7 X_arg3 X_arg4 X_arg5 X_arg6 X_arg7 k acc) := (rfl)

/-- A trip's value `v312`, by the values it is computed from. -/
theorem trip_v312 :
    (trip_k0_t1.sl.v312 (F := Ideal) arg3 arg4 arg5 arg6 arg7 X_arg3 X_arg4 X_arg5 X_arg6 X_arg7 k acc) =
      k0_pay85 (F := Ideal) (trip_k0_t1.sl.v83 (F := Ideal) acc) (trip_k0_t1.sl.v101 (F := Ideal) arg3 arg4 arg5 arg6 arg7 X_arg3 X_arg4 X_arg5 X_arg6 X_arg7 k acc) (trip_k0_t1.sl.v102 (F := Ideal) arg3 arg4 arg5 arg6 arg7 X_arg3 X_arg4 X_arg5 X_arg6 X_arg7 k acc) (trip_k0_t1.sl.v103 (F := Ideal) arg3 arg4 arg5 arg6 arg7 X_arg3 X_arg4 X_arg5 X_arg6 X_arg7 k acc) (trip_k0_t1.sl.v104 (F := Ideal) arg3 arg4 arg5 arg6 arg7 X_arg3 X_arg4 X_arg5 X_arg6 X_arg7 k acc) (trip_k0_t1.sl.v105 (F := Ideal) arg3 arg4 arg5 arg6 arg7 X_arg3 X_arg4 X_arg5 X_arg6 X_arg7 k acc) (trip_k0_t1.sl.v106 (F := Ideal) arg3 arg4 arg5 arg6 arg7 X_arg3 X_arg4 X_arg5 X_arg6 X_arg7 k acc) (trip_k0_t1.sl.v107 (F := Ideal) arg3 arg4 arg5 arg6 arg7 X_arg3 X_arg4 X_arg5 X_arg6 X_arg7 k acc) (trip_k0_t1.sl.r_3 (F := Ideal) arg3 arg4 arg5 arg6 arg7 X_arg3 X_arg4 X_arg5 X_arg6 X_arg7 k acc) (trip_k0_t1.sl.r_11 (F := Ideal) arg3 arg4 arg5 arg6 arg7 X_arg3 X_arg4 X_arg5 X_arg6 X_arg7 k acc) (trip_k0_t1.sl.r_12 (F := Ideal) arg3 arg4 arg5 arg6 arg7 X_arg3 X_arg4 X_arg5 X_arg6 X_arg7 k acc) (trip_k0_t1.sl.r_13 (F := Ideal) arg3 arg4 arg5 arg6 arg7 X_arg3 X_arg4 X_arg5 X_arg6 X_arg7 k acc) (trip_k0_t1.sl.r_14 (F := Ideal) arg3 arg4 arg5 arg6 arg7 X_arg3 X_arg4 X_arg5 X_arg6 X_arg7 k acc) (trip_k0_t1.sl.r_15 (F := Ideal) arg3 arg4 arg5 arg6 arg7 X_arg3 X_arg4 X_arg5 X_arg6 X_arg7 k acc) (trip_k0_t1.sl.r_16 (F := Ideal) arg3 arg4 arg5 arg6 arg7 X_arg3 X_arg4 X_arg5 X_arg6 X_arg7 k acc) := (rfl)

/-- A trip's value `v317`, by the values it is computed from. -/
theorem trip_v317 :
    (trip_k0_t1.sl.v317 (F := Ideal) arg3 arg4 arg5 arg6 arg7 X_arg3 X_arg4 X_arg5 X_arg6 X_arg7 k acc) =
      k0_pay87 (F := Ideal) (trip_k0_t1.sl.v83 (F := Ideal) acc) (trip_k0_t1.sl.v101 (F := Ideal) arg3 arg4 arg5 arg6 arg7 X_arg3 X_arg4 X_arg5 X_arg6 X_arg7 k acc) (trip_k0_t1.sl.v102 (F := Ideal) arg3 arg4 arg5 arg6 arg7 X_arg3 X_arg4 X_arg5 X_arg6 X_arg7 k acc) (trip_k0_t1.sl.v103 (F := Ideal) arg3 arg4 arg5 arg6 arg7 X_arg3 X_arg4 X_arg5 X_arg6 X_arg7 k acc) (trip_k0_t1.sl.v104 (F := Ideal) arg3 arg4 arg5 arg6 arg7 X_arg3 X_arg4 X_arg5 X_arg6 X_arg7 k acc) (trip_k0_t1.sl.v105 (F := Ideal) arg3 arg4 arg5 arg6 arg7 X_arg3 X_arg4 X_arg5 X_arg6 X_arg7 k acc) (trip_k0_t1.sl.r_3 (F := Ideal) arg3 arg4 arg5 arg6 arg7 X_arg3 X_arg4 X_arg5 X_arg6 X_arg7 k acc) (trip_k0_t1.sl.r_11 (F := Ideal) arg3 arg4 arg5 arg6 arg7 X_arg3 X_arg4 X_arg5 X_arg6 X_arg7 k acc) (trip_k0_t1.sl.r_12 (F := Ideal) arg3 arg4 arg5 arg6 arg7 X_arg3 X_arg4 X_arg5 X_arg6 X_arg7 k acc) (trip_k0_t1.sl.r_13 (F := Ideal) arg3 arg4 arg5 arg6 arg7 X_arg3 X_arg4 X_arg5 X_arg6 X_arg7 k acc) := (rfl)

/-- A trip's value `v336`, by the values it is computed from. -/
theorem trip_v336 :
    (trip_k0_t1.sl.v336 (F := Ideal) arg3 arg4 arg5 arg6 arg7 X_arg3 X_arg4 X_arg5 X_arg6 X_arg7 k acc) =
      k0_pay88 (F := Ideal) (trip_k0_t1.sl.v312 (F := Ideal) arg3 arg4 arg5 arg6 arg7 X_arg3 X_arg4 X_arg5 X_arg6 X_arg7 k acc) := (rfl)

/-- A trip's value `v352`, by the values it is computed from. -/
theorem trip_v352 :
    (trip_k0_t1.sl.v352 (F := Ideal) arg3 arg4 arg5 arg6 arg7 X_arg3 X_arg4 X_arg5 X_arg6 X_arg7 k acc) =
      k0_pay89 (F := Ideal) (trip_k0_t1.sl.v106 (F := Ideal) arg3 arg4 arg5 arg6 arg7 X_arg3 X_arg4 X_arg5 X_arg6 X_arg7 k acc) (trip_k0_t1.sl.v107 (F := Ideal) arg3 arg4 arg5 arg6 arg7 X_arg3 X_arg4 X_arg5 X_arg6 X_arg7 k acc) (trip_k0_t1.sl.v274 (F := Ideal) arg3 arg4 arg5 arg6 arg7 X_arg3 X_arg4 X_arg5 X_arg6 X_arg7 k acc) (trip_k0_t1.sl.v275 (F := Ideal) arg3 arg4 arg5 arg6 arg7 X_arg3 X_arg4 X_arg5 X_arg6 X_arg7 k acc) (trip_k0_t1.sl.v276 (F := Ideal) arg3 arg4 arg5 arg6 arg7 X_arg3 X_arg4 X_arg5 X_arg6 X_arg7 k acc) (k0_pay86 (F := Ideal)) (trip_k0_t1.sl.v317 (F := Ideal) arg3 arg4 arg5 arg6 arg7 X_arg3 X_arg4 X_arg5 X_arg6 X_arg7 k acc) := (rfl)

/-- A trip's value `v355`, by the values it is computed from. -/
theorem trip_v355 :
    (trip_k0_t1.sl.v355 (F := Ideal) arg3 arg4 arg5 arg6 arg7 X_arg3 X_arg4 X_arg5 X_arg6 X_arg7 k acc) =
      k0_pay91 (F := Ideal) (trip_k0_t1.sl.v290 (F := Ideal) arg3 arg4 arg5 arg6 arg7 X_arg3 X_arg4 X_arg5 X_arg6 X_arg7 k acc) (trip_k0_t1.sl.v304 (F := Ideal) arg3 arg4 arg5 arg6 arg7 X_arg3 X_arg4 X_arg5 X_arg6 X_arg7 k acc) := (rfl)

/-- A trip's value `v357`, by the values it is computed from. -/
theorem trip_v357 :
    (trip_k0_t1.sl.v357 (F := Ideal) arg3 arg4 arg5 arg6 arg7 X_arg3 X_arg4 X_arg5 X_arg6 X_arg7 k acc) =
      k0_pay92 (F := Ideal) (trip_k0_t1.sl.v83 (F := Ideal) acc) (trip_k0_t1.sl.v283 (F := Ideal) arg3 arg4 arg5 arg6 arg7 X_arg3 X_arg4 X_arg5 X_arg6 X_arg7 k acc) (trip_k0_t1.sl.v290 (F := Ideal) arg3 arg4 arg5 arg6 arg7 X_arg3 X_arg4 X_arg5 X_arg6 X_arg7 k acc) := (rfl)

/-- A trip's value `v360`, by the values it is computed from. -/
theorem trip_v360 :
    (trip_k0_t1.sl.v360 (F := Ideal) arg3 arg4 arg5 arg6 arg7 X_arg3 X_arg4 X_arg5 X_arg6 X_arg7 k acc) =
      k0_pay93 (F := Ideal) (trip_k0_t1.sl.v83 (F := Ideal) acc) (trip_k0_t1.sl.v283 (F := Ideal) arg3 arg4 arg5 arg6 arg7 X_arg3 X_arg4 X_arg5 X_arg6 X_arg7 k acc) (trip_k0_t1.sl.v290 (F := Ideal) arg3 arg4 arg5 arg6 arg7 X_arg3 X_arg4 X_arg5 X_arg6 X_arg7 k acc) := (rfl)

/-- A trip's value `v361`, by the values it is computed from. -/
theorem trip_v361 :
    (trip_k0_t1.sl.v361 (F := Ideal) arg3 arg4 arg5 arg6 arg7 X_arg3 X_arg4 X_arg5 X_arg6 X_arg7 k acc) =
      k0_pay94 (F := Ideal) (trip_k0_t1.sl.v83 (F := Ideal) acc) (trip_k0_t1.sl.v283 (F := Ideal) arg3 arg4 arg5 arg6 arg7 X_arg3 X_arg4 X_arg5 X_arg6 X_arg7 k acc) (trip_k0_t1.sl.v290 (F := Ideal) arg3 arg4 arg5 arg6 arg7 X_arg3 X_arg4 X_arg5 X_arg6 X_arg7 k acc) := (rfl)

/-- A trip's value `v367`, by the values it is computed from. -/
theorem trip_v367 :
    (trip_k0_t1.sl.v367 (F := Ideal) arg3 arg4 arg5 arg6 arg7 X_arg3 X_arg4 X_arg5 X_arg6 X_arg7 k acc) =
      k0_pay95 (F := Ideal) (trip_k0_t1.sl.v83 (F := Ideal) acc) (trip_k0_t1.sl.v106 (F := Ideal) arg3 arg4 arg5 arg6 arg7 X_arg3 X_arg4 X_arg5 X_arg6 X_arg7 k acc) (trip_k0_t1.sl.v107 (F := Ideal) arg3 arg4 arg5 arg6 arg7 X_arg3 X_arg4 X_arg5 X_arg6 X_arg7 k acc) (trip_k0_t1.sl.v274 (F := Ideal) arg3 arg4 arg5 arg6 arg7 X_arg3 X_arg4 X_arg5 X_arg6 X_arg7 k acc) (trip_k0_t1.sl.v275 (F := Ideal) arg3 arg4 arg5 arg6 arg7 X_arg3 X_arg4 X_arg5 X_arg6 X_arg7 k acc) (trip_k0_t1.sl.v276 (F := Ideal) arg3 arg4 arg5 arg6 arg7 X_arg3 X_arg4 X_arg5 X_arg6 X_arg7 k acc) (trip_k0_t1.sl.v283 (F := Ideal) arg3 arg4 arg5 arg6 arg7 X_arg3 X_arg4 X_arg5 X_arg6 X_arg7 k acc) (trip_k0_t1.sl.v290 (F := Ideal) arg3 arg4 arg5 arg6 arg7 X_arg3 X_arg4 X_arg5 X_arg6 X_arg7 k acc) (trip_k0_t1.sl.v304 (F := Ideal) arg3 arg4 arg5 arg6 arg7 X_arg3 X_arg4 X_arg5 X_arg6 X_arg7 k acc) (trip_k0_t1.sl.v312 (F := Ideal) arg3 arg4 arg5 arg6 arg7 X_arg3 X_arg4 X_arg5 X_arg6 X_arg7 k acc) (k0_pay86 (F := Ideal)) (trip_k0_t1.sl.v317 (F := Ideal) arg3 arg4 arg5 arg6 arg7 X_arg3 X_arg4 X_arg5 X_arg6 X_arg7 k acc) := (rfl)

/-- A trip's value `cst_102`, by the values it is computed from. -/
theorem trip_cst_102 :
    (trip_k0_t1.sl.cst_99 (F := Ideal)) =
      (Scalar.ofBits .f32 0x3F800000#32 : Ideal .f32) := (rfl)

/-- One trip of the kernel's loop is `spline` at the trip's own net output. -/
theorem trip_spline (𝒱 : Variants) (c : Dev nD) (bd : Option 𝒱.V) (i : grid0.Coords) (arg1 : Memref sig .tc .vmem S48x1024 .f32) (harg1 : arg1.IsWhole) (arg2 : Memref sig .tc .vmem S1x1024 .f32) (harg2 : arg2.IsWhole) (harg3 : arg3.IsWhole) (harg4 : arg4.IsWhole) (harg5 : arg5.IsWhole) (harg6 : arg6.IsWhole) (harg7 : arg7.IsWhole) (arg8 : Memref sig .tc .vmem S1x1024 .f32) (harg8 : arg8.IsWhole) (v0 : Vec Ideal S1x1024 .f32) :
    tripR_k0_t1 (F := Ideal) 𝒱 c bd i arg1 harg1 arg2 harg2 arg3 harg3 arg4 harg4 arg5 harg5 arg6 harg6 arg7 harg7 arg8 harg8 v0 X_arg3 X_arg4 X_arg5 X_arg6 X_arg7 k acc =
      spline v0 acc.1 acc.2
        (k0_pay1 (F := Ideal) acc.1 (load1 arg3 X_arg3 k) (load2 arg4 X_arg4 k) (load3 arg5 X_arg5 k)
          (load4 arg4 X_arg4 k) (load5 arg5 X_arg5 k) (load6 arg6 X_arg6 k)) (load7 arg7 X_arg7 k) := by
  rw [← trip_v74]
  unfold tripR_k0_t1 trip_k0_t1
  delta spline
  extract_lets -merge q v83 v84 v89 v90 v91 v92 v93 v94 v95 v96 v97 v98 v99 v100 v101 v102 v103 v104 v105 v106 v107 v112 v117 v122 v124 v125 v137 v142 v156 v157 v160 v163 v166 v169 v170 cst_59 v172 v175 v178 v179 v180 v181 v182 v183 v184 v186 v188 v193 v198 v203 v208 v213 cst_75 v214 v238 v241 v244 v247 v250 v253 v256 v259 v260 v261 v274 v275 v276 v283 v290 v297 v304 v312 v313 v317 v336 v352 v355 v357 v360 v361 v367 cst_102
  have h_v83 : (trip_k0_t1.sl.v83 (F := Ideal) acc) = v83 := by
    rw [trip_v83]
  have h_v84 : (trip_k0_t1.sl.v84 (F := Ideal) acc) = v84 := by
    rw [trip_v84]
  have h_v89 : (trip_k0_t1.sl.v89 (F := Ideal) arg3 arg4 arg5 arg6 arg7 X_arg3 X_arg4 X_arg5 X_arg6 X_arg7 k acc) = v89 := by
    rw [trip_v89]
  have h_v90 : (trip_k0_t1.sl.v90 (F := Ideal) arg3 arg4 arg5 arg6 arg7 X_arg3 X_arg4 X_arg5 X_arg6 X_arg7 k acc) = v90 := by
    rw [trip_v90]
  have h_v91 : (trip_k0_t1.sl.v91 (F := Ideal) arg3 arg4 arg5 arg6 arg7 X_arg3 X_arg4 X_arg5 X_arg6 X_arg7 k acc) = v91 := by
    rw [trip_v91]
  have h_v92 : (trip_k0_t1.sl.v92 (F := Ideal) arg3 arg4 arg5 arg6 arg7 X_arg3 X_arg4 X_arg5 X_arg6 X_arg7 k acc) = v92 := by
    rw [trip_v92]
  have h_v93 : (trip_k0_t1.sl.v93 (F := Ideal) arg3 arg4 arg5 arg6 arg7 X_arg3 X_arg4 X_arg5 X_arg6 X_arg7 k acc) = v93 := by
    rw [trip_v93]
  have h_v94 : (trip_k0_t1.sl.v94 (F := Ideal) arg3 arg4 arg5 arg6 arg7 X_arg3 X_arg4 X_arg5 X_arg6 X_arg7 k acc) = v94 := by
    rw [trip_v94]
  have h_v95 : (trip_k0_t1.sl.v95 (F := Ideal) arg3 arg4 arg5 arg6 arg7 X_arg3 X_arg4 X_arg5 X_arg6 X_arg7 k acc) = v95 := by
    rw [trip_v95]
  have h_v96 : (trip_k0_t1.sl.v96 (F := Ideal) arg3 arg4 arg5 arg6 arg7 X_arg3 X_arg4 X_arg5 X_arg6 X_arg7 k acc) = v96 := by
    rw [trip_v96]
  have h_v97 : (trip_k0_t1.sl.v97 (F := Ideal) arg3 arg4 arg5 arg6 arg7 X_arg3 X_arg4 X_arg5 X_arg6 X_arg7 k acc) = v97 := by
    rw [trip_v97]
  have h_v98 : (trip_k0_t1.sl.v98 (F := Ideal) arg3 arg4 arg5 arg6 arg7 X_arg3 X_arg4 X_arg5 X_arg6 X_arg7 k acc) = v98 := by
    rw [trip_v98]
  have h_v99 : (trip_k0_t1.sl.v99 (F := Ideal) arg3 arg4 arg5 arg6 arg7 X_arg3 X_arg4 X_arg5 X_arg6 X_arg7 k acc) = v99 := by
    rw [trip_v99]
  have h_v100 : (trip_k0_t1.sl.v100 (F := Ideal) arg3 arg4 arg5 arg6 arg7 X_arg3 X_arg4 X_arg5 X_arg6 X_arg7 k acc) = v100 := by
    rw [trip_v100]
  have h_v101 : (trip_k0_t1.sl.v101 (F := Ideal) arg3 arg4 arg5 arg6 arg7 X_arg3 X_arg4 X_arg5 X_arg6 X_arg7 k acc) = v101 := by
    rw [trip_v101]
  have h_v102 : (trip_k0_t1.sl.v102 (F := Ideal) arg3 arg4 arg5 arg6 arg7 X_arg3 X_arg4 X_arg5 X_arg6 X_arg7 k acc) = v102 := by
    rw [trip_v102]
  have h_v103 : (trip_k0_t1.sl.v103 (F := Ideal) arg3 arg4 arg5 arg6 arg7 X_arg3 X_arg4 X_arg5 X_arg6 X_arg7 k acc) = v103 := by
    rw [trip_v103]
  have h_v104 : (trip_k0_t1.sl.v104 (F := Ideal) arg3 arg4 arg5 arg6 arg7 X_arg3 X_arg4 X_arg5 X_arg6 X_arg7 k acc) = v104 := by
    rw [trip_v104]
  have h_v105 : (trip_k0_t1.sl.v105 (F := Ideal) arg3 arg4 arg5 arg6 arg7 X_arg3 X_arg4 X_arg5 X_arg6 X_arg7 k acc) = v105 := by
    rw [trip_v105]
  have h_v106 : (trip_k0_t1.sl.v106 (F := Ideal) arg3 arg4 arg5 arg6 arg7 X_arg3 X_arg4 X_arg5 X_arg6 X_arg7 k acc) = v106 := by
    rw [trip_v106]
  have h_v107 : (trip_k0_t1.sl.v107 (F := Ideal) arg3 arg4 arg5 arg6 arg7 X_arg3 X_arg4 X_arg5 X_arg6 X_arg7 k acc) = v107 := by
    rw [trip_v107]
  have h_v112 : (trip_k0_t1.sl.v112 (F := Ideal) arg3 arg4 arg5 arg6 arg7 X_arg3 X_arg4 X_arg5 X_arg6 X_arg7 k acc) = v112 := by
    rw [trip_v112]
  have h_v117 : (trip_k0_t1.sl.v117 (F := Ideal) arg3 arg4 arg5 arg6 arg7 X_arg3 X_arg4 X_arg5 X_arg6 X_arg7 k acc) = v117 := by
    rw [trip_v117]
  have h_v122 : (trip_k0_t1.sl.v122 (F := Ideal) arg3 arg4 arg5 arg6 arg7 X_arg3 X_arg4 X_arg5 X_arg6 X_arg7 k acc) = v122 := by
    rw [trip_v122]
  have h_v124 : (trip_k0_t1.sl.v124 (F := Ideal) arg3 arg4 arg5 arg6 arg7 X_arg3 X_arg4 X_arg5 X_arg6 X_arg7 k acc) = v124 := by
    rw [trip_v124]
  have h_v137 : (trip_k0_t1.sl.r (F := Ideal) arg3 arg4 arg5 arg6 arg7 X_arg3 X_arg4 X_arg5 X_arg6 X_arg7 k acc) = v137 := by
    rw [trip_v137, h_v90]
  have h_v142 : (trip_k0_t1.sl.r_1 (F := Ideal) arg3 arg4 arg5 arg6 arg7 X_arg3 X_arg4 X_arg5 X_arg6 X_arg7 k acc) = v142 := by
    rw [trip_v142, h_v91]
  have h_v156 : (trip_k0_t1.sl.r_2 (F := Ideal) arg3 arg4 arg5 arg6 arg7 X_arg3 X_arg4 X_arg5 X_arg6 X_arg7 k acc) = v156 := by
    rw [trip_v156, h_v89, h_v90, h_v91, h_v92, h_v112, h_v117, h_v122, h_v124]
  have h_v160 : (trip_k0_t1.sl.r_3 (F := Ideal) arg3 arg4 arg5 arg6 arg7 X_arg3 X_arg4 X_arg5 X_arg6 X_arg7 k acc) = v160 := by
    rw [trip_v160, h_v89, h_v90, h_v91, h_v92, h_v112, h_v117, h_v122, h_v124]
  have h_v163 : (trip_k0_t1.sl.r_4 (F := Ideal) arg3 arg4 arg5 arg6 arg7 X_arg3 X_arg4 X_arg5 X_arg6 X_arg7 k acc) = v163 := by
    rw [trip_v163, h_v89, h_v90, h_v91, h_v92, h_v112, h_v117, h_v122, h_v124]
  have h_v166 : (trip_k0_t1.sl.r_5 (F := Ideal) arg3 arg4 arg5 arg6 arg7 X_arg3 X_arg4 X_arg5 X_arg6 X_arg7 k acc) = v166 := by
    rw [trip_v166, h_v89, h_v90, h_v91, h_v92, h_v112, h_v117, h_v122, h_v124]
  have h_v169 : (trip_k0_t1.sl.r_6 (F := Ideal) arg3 arg4 arg5 arg6 arg7 X_arg3 X_arg4 X_arg5 X_arg6 X_arg7 k acc) = v169 := by
    rw [trip_v169, h_v89, h_v90, h_v91, h_v92, h_v112, h_v117, h_v122, h_v124]
  have h_v170 : (trip_k0_t1.sl.r_7 (F := Ideal) arg3 arg4 arg5 arg6 arg7 X_arg3 X_arg4 X_arg5 X_arg6 X_arg7 k acc) = v170 := by
    rw [trip_v170, h_v89, h_v90, h_v91, h_v92, h_v112, h_v117, h_v122, h_v124]
  have h_cst_59 : (trip_k0_t1.sl.cst_59 (F := Ideal)) = cst_59 := rfl
  have h_v172 : (trip_k0_t1.sl.r_8 (F := Ideal) arg3 arg4 arg5 arg6 arg7 X_arg3 X_arg4 X_arg5 X_arg6 X_arg7 k acc) = v172 := by
    rw [trip_v172, h_v170, h_cst_59]
  have h_v175 : (trip_k0_t1.sl.r_9 (F := Ideal) arg3 arg4 arg5 arg6 arg7 X_arg3 X_arg4 X_arg5 X_arg6 X_arg7 k acc) = v175 := by
    rw [trip_v175, h_v137, h_v156]
  have h_v178 : (trip_k0_t1.sl.r_10 (F := Ideal) arg3 arg4 arg5 arg6 arg7 X_arg3 X_arg4 X_arg5 X_arg6 X_arg7 k acc) = v178 := by
    rw [trip_v178, h_v142, h_v156]
  have h_v179 : (trip_k0_t1.sl.r_11 (F := Ideal) arg3 arg4 arg5 arg6 arg7 X_arg3 X_arg4 X_arg5 X_arg6 X_arg7 k acc) = v179 := by
    rw [trip_v179, h_v160, h_v163]
  have h_v180 : (trip_k0_t1.sl.r_12 (F := Ideal) arg3 arg4 arg5 arg6 arg7 X_arg3 X_arg4 X_arg5 X_arg6 X_arg7 k acc) = v180 := by
    rw [trip_v180, h_v160, h_v163, h_v166]
  have h_v181 : (trip_k0_t1.sl.r_13 (F := Ideal) arg3 arg4 arg5 arg6 arg7 X_arg3 X_arg4 X_arg5 X_arg6 X_arg7 k acc) = v181 := by
    rw [trip_v181, h_v160, h_v163, h_v166, h_v169]
  have h_v182 : (trip_k0_t1.sl.r_14 (F := Ideal) arg3 arg4 arg5 arg6 arg7 X_arg3 X_arg4 X_arg5 X_arg6 X_arg7 k acc) = v182 := by
    rw [trip_v182, h_v160, h_v163, h_v166, h_v169, h_v170, h_cst_59]
  have h_v183 : (trip_k0_t1.sl.r_15 (F := Ideal) arg3 arg4 arg5 arg6 arg7 X_arg3 X_arg4 X_arg5 X_arg6 X_arg7 k acc) = v183 := by
    rw [trip_v183, h_v137, h_v156, h_v160, h_v163, h_v166, h_v169, h_v170, h_cst_59]
  have h_v184 : (trip_k0_t1.sl.r_16 (F := Ideal) arg3 arg4 arg5 arg6 arg7 X_arg3 X_arg4 X_arg5 X_arg6 X_arg7 k acc) = v184 := by
    rw [trip_v184, h_v137, h_v142, h_v156, h_v160, h_v163, h_v166, h_v169, h_v170, h_cst_59]
  have h_v186 : (trip_k0_t1.sl.r_17 (F := Ideal) arg3 arg4 arg5 arg6 arg7 X_arg3 X_arg4 X_arg5 X_arg6 X_arg7 k acc) = v186 := by
    rw [trip_v186, h_v160]
  have h_v188 : (trip_k0_t1.sl.r_18 (F := Ideal) arg3 arg4 arg5 arg6 arg7 X_arg3 X_arg4 X_arg5 X_arg6 X_arg7 k acc) = v188 := by
    rw [trip_v188, h_v137, h_v142, h_v156, h_v160, h_v163, h_v166, h_v169, h_v170, h_cst_59]
  have h_v193 : (trip_k0_t1.sl.r_19 (F := Ideal) arg3 arg4 arg5 arg6 arg7 X_arg3 X_arg4 X_arg5 X_arg6 X_arg7 k acc) = v193 := by
    rw [trip_v193, h_v93]
  have h_v198 : (trip_k0_t1.sl.r_20 (F := Ideal) arg3 arg4 arg5 arg6 arg7 X_arg3 X_arg4 X_arg5 X_arg6 X_arg7 k acc) = v198 := by
    rw [trip_v198, h_v94]
  have h_v203 : (trip_k0_t1.sl.r_21 (F := Ideal) arg3 arg4 arg5 arg6 arg7 X_arg3 X_arg4 X_arg5 X_arg6 X_arg7 k acc) = v203 := by
    rw [trip_v203, h_v95]
  have h_v208 : (trip_k0_t1.sl.r_22 (F := Ideal) arg3 arg4 arg5 arg6 arg7 X_arg3 X_arg4 X_arg5 X_arg6 X_arg7 k acc) = v208 := by
    rw [trip_v208, h_v96]
  have h_v213 : (trip_k0_t1.sl.r_23 (F := Ideal) arg3 arg4 arg5 arg6 arg7 X_arg3 X_arg4 X_arg5 X_arg6 X_arg7 k acc) = v213 := by
    rw [trip_v213, h_v97]
  have h_v241 : (trip_k0_t1.sl.r_24 (F := Ideal) arg3 arg4 arg5 arg6 arg7 X_arg3 X_arg4 X_arg5 X_arg6 X_arg7 k acc) = v241 := by
    rw [trip_v241, h_v98, h_v99, h_v100, h_v193, h_v198, h_v203, h_v208, h_v213]
  have h_v244 : (trip_k0_t1.sl.r_25 (F := Ideal) arg3 arg4 arg5 arg6 arg7 X_arg3 X_arg4 X_arg5 X_arg6 X_arg7 k acc) = v244 := by
    rw [trip_v244, h_v98, h_v99, h_v100, h_v193, h_v198, h_v203, h_v208, h_v213]
  have h_v247 : (trip_k0_t1.sl.r_26 (F := Ideal) arg3 arg4 arg5 arg6 arg7 X_arg3 X_arg4 X_arg5 X_arg6 X_arg7 k acc) = v247 := by
    rw [trip_v247, h_v98, h_v99, h_v100, h_v193, h_v198, h_v203, h_v208, h_v213]
  have h_v250 : (trip_k0_t1.sl.r_27 (F := Ideal) arg3 arg4 arg5 arg6 arg7 X_arg3 X_arg4 X_arg5 X_arg6 X_arg7 k acc) = v250 := by
    rw [trip_v250, h_v98, h_v99, h_v100, h_v193, h_v198, h_v203, h_v208, h_v213]
  have h_v253 : (trip_k0_t1.sl.r_28 (F := Ideal) arg3 arg4 arg5 arg6 arg7 X_arg3 X_arg4 X_arg5 X_arg6 X_arg7 k acc) = v253 := by
    rw [trip_v253, h_v98, h_v99, h_v100, h_v193, h_v198, h_v203, h_v208, h_v213]
  have h_v256 : (trip_k0_t1.sl.r_29 (F := Ideal) arg3 arg4 arg5 arg6 arg7 X_arg3 X_arg4 X_arg5 X_arg6 X_arg7 k acc) = v256 := by
    rw [trip_v256, h_v98, h_v99, h_v100, h_v193, h_v198, h_v203, h_v208, h_v213]
  have h_v259 : (trip_k0_t1.sl.r_30 (F := Ideal) arg3 arg4 arg5 arg6 arg7 X_arg3 X_arg4 X_arg5 X_arg6 X_arg7 k acc) = v259 := by
    rw [trip_v259, h_v98, h_v99, h_v100, h_v193, h_v198, h_v203, h_v208, h_v213]
  have h_v260 : (trip_k0_t1.sl.r_31 (F := Ideal) arg3 arg4 arg5 arg6 arg7 X_arg3 X_arg4 X_arg5 X_arg6 X_arg7 k acc) = v260 := by
    rw [trip_v260, h_v98, h_v99, h_v100, h_v193, h_v198, h_v203, h_v208, h_v213]
  have h_v261 : (trip_k0_t1.sl.r_32 (F := Ideal) arg3 arg4 arg5 arg6 arg7 X_arg3 X_arg4 X_arg5 X_arg6 X_arg7 k acc) = v261 := by
    rw [trip_v261, h_v98, h_v99, h_v100, h_v193, h_v198, h_v203, h_v208, h_v213]
  have h_v274 : (trip_k0_t1.sl.v274 (F := Ideal) arg3 arg4 arg5 arg6 arg7 X_arg3 X_arg4 X_arg5 X_arg6 X_arg7 k acc) = v274 := by
    rw [trip_v274, h_v83, h_v182]
  have h_v275 : (trip_k0_t1.sl.v275 (F := Ideal) arg3 arg4 arg5 arg6 arg7 X_arg3 X_arg4 X_arg5 X_arg6 X_arg7 k acc) = v275 := by
    rw [trip_v275, h_v83, h_v183]
  have h_v276 : (trip_k0_t1.sl.v276 (F := Ideal) arg3 arg4 arg5 arg6 arg7 X_arg3 X_arg4 X_arg5 X_arg6 X_arg7 k acc) = v276 := by
    rw [trip_v276, h_v83, h_v184]
  have h_v283 : (trip_k0_t1.sl.v283 (F := Ideal) arg3 arg4 arg5 arg6 arg7 X_arg3 X_arg4 X_arg5 X_arg6 X_arg7 k acc) = v283 := by
    rw [trip_v283, h_v83, h_v160, h_v179, h_v180, h_v181, h_v182, h_v183, h_v184]
  have h_v290 : (trip_k0_t1.sl.v290 (F := Ideal) arg3 arg4 arg5 arg6 arg7 X_arg3 X_arg4 X_arg5 X_arg6 X_arg7 k acc) = v290 := by
    rw [trip_v290, h_v83, h_v160, h_v163, h_v166, h_v169, h_v172, h_v175, h_v178, h_v179, h_v180, h_v181, h_v182, h_v183, h_v184, h_v186, h_v188]
  have h_v297 : (trip_k0_t1.sl.v297 (F := Ideal) arg3 arg4 arg5 arg6 arg7 X_arg3 X_arg4 X_arg5 X_arg6 X_arg7 k acc) = v297 := by
    rw [trip_v297, h_v83, h_v160, h_v179, h_v180, h_v181, h_v182, h_v183, h_v184, h_v241, h_v250, h_v253, h_v256, h_v259, h_v260, h_v261]
  have h_v304 : (trip_k0_t1.sl.v304 (F := Ideal) arg3 arg4 arg5 arg6 arg7 X_arg3 X_arg4 X_arg5 X_arg6 X_arg7 k acc) = v304 := by
    rw [trip_v304, h_v83, h_v160, h_v179, h_v180, h_v181, h_v182, h_v183, h_v184, h_v241, h_v244, h_v247, h_v250, h_v253, h_v256, h_v259, h_v261]
  have h_v312 : (trip_k0_t1.sl.v312 (F := Ideal) arg3 arg4 arg5 arg6 arg7 X_arg3 X_arg4 X_arg5 X_arg6 X_arg7 k acc) = v312 := by
    rw [trip_v312, h_v83, h_v101, h_v102, h_v103, h_v104, h_v105, h_v106, h_v107, h_v160, h_v179, h_v180, h_v181, h_v182, h_v183, h_v184]
  have h_v317 : (trip_k0_t1.sl.v317 (F := Ideal) arg3 arg4 arg5 arg6 arg7 X_arg3 X_arg4 X_arg5 X_arg6 X_arg7 k acc) = v317 := by
    rw [trip_v317, h_v83, h_v101, h_v102, h_v103, h_v104, h_v105, h_v160, h_v179, h_v180, h_v181]
  have h_v336 : (trip_k0_t1.sl.v336 (F := Ideal) arg3 arg4 arg5 arg6 arg7 X_arg3 X_arg4 X_arg5 X_arg6 X_arg7 k acc) = v336 := by
    rw [trip_v336, h_v312]
  have h_v352 : (trip_k0_t1.sl.v352 (F := Ideal) arg3 arg4 arg5 arg6 arg7 X_arg3 X_arg4 X_arg5 X_arg6 X_arg7 k acc) = v352 := by
    rw [trip_v352, h_v106, h_v107, h_v274, h_v275, h_v276, h_v317]
  have h_v355 : (trip_k0_t1.sl.v355 (F := Ideal) arg3 arg4 arg5 arg6 arg7 X_arg3 X_arg4 X_arg5 X_arg6 X_arg7 k acc) = v355 := by
    rw [trip_v355, h_v290, h_v304]
  have h_v357 : (trip_k0_t1.sl.v357 (F := Ideal) arg3 arg4 arg5 arg6 arg7 X_arg3 X_arg4 X_arg5 X_arg6 X_arg7 k acc) = v357 := by
    rw [trip_v357, h_v83, h_v283, h_v290]
  have h_v360 : (trip_k0_t1.sl.v360 (F := Ideal) arg3 arg4 arg5 arg6 arg7 X_arg3 X_arg4 X_arg5 X_arg6 X_arg7 k acc) = v360 := by
    rw [trip_v360, h_v83, h_v283, h_v290]
  have h_v361 : (trip_k0_t1.sl.v361 (F := Ideal) arg3 arg4 arg5 arg6 arg7 X_arg3 X_arg4 X_arg5 X_arg6 X_arg7 k acc) = v361 := by
    rw [trip_v361, h_v83, h_v283, h_v290]
  have h_v367 : (trip_k0_t1.sl.v367 (F := Ideal) arg3 arg4 arg5 arg6 arg7 X_arg3 X_arg4 X_arg5 X_arg6 X_arg7 k acc) = v367 := by
    rw [trip_v367, h_v83, h_v106, h_v107, h_v274, h_v275, h_v276, h_v283, h_v290, h_v304, h_v312, h_v317]
  have h_cst_102 : (trip_k0_t1.sl.cst_99 (F := Ideal)) = cst_102 := rfl
  dsimp only
  rw [h_v84, h_v297, h_v304, h_v336, h_v355, h_v360, h_v361, h_v367, h_v352, h_v357, h_cst_102]

end Cert.Flow

end
-- ==== Proof.RefWords.lean ====
/-
  What one step of the reference's loop reads for a coordinate, and the small word computations in it: comparing
  indices, picking one of eight by its number, counting the knots reached.
-/
module

public import proofs.«01_k».proof.Proof.Gen.ReferenceIdeal.Step
public import proofs.«01_k».proof.Proof.KernelLane

@[expose] public section

set_option maxRecDepth 16384

noncomputable section

namespace Cert.Flow

open Idealize.ShloMosaic Idealize.ShloMosaic.TcCoe Idealize.SL.Sem
open Cert.ReferenceIdeal Cert.ReferenceIdeal.Step

/-- The outputs as the spline takes them: the sixteen logits divided by sixteen. -/
def scaled (P : Fin 23 → ℝ) (m : Fin 23) : ℝ := if m.val < 16 then P m / 16 else P m

/-- What one coordinate reads: its point and its 23 outputs. -/
structure RLane (j : ℕ) (s : State Ideal) (n : Fin 32768) (d : Fin 45) (x : ℝ) (P : Fin 23 → ℝ) : Prop where
  point : s.main_v1_11 (ix2 n d) = (x : EReal)
  outs : ∀ m, b313 j s (ix3 n d m) = (P m : EReal)

/-- The width logits are a sixteenth of their outputs. -/
theorem uOf_scaled (P : Fin 23 → ℝ) (k : Fin 8) : uOf (scaled P) k = P ⟨k.val, by omega⟩ / 16 := by
  unfold uOf scaled; exact if_pos (by show k.val < 16; omega)

/-- The height logits are a sixteenth of their outputs. -/
theorem hOf_scaled (P : Fin 23 → ℝ) (k : Fin 8) : hOf (scaled P) k = P ⟨8 + k.val, by omega⟩ / 16 := by
  unfold hOf scaled; exact if_pos (by show 8 + k.val < 16; omega)

/-- The slope logits are their outputs. -/
theorem vOf_scaled (P : Fin 23 → ℝ) (k : Fin 7) : vOf (scaled P) k = P ⟨16 + k.val, by omega⟩ := by
  unfold vOf scaled; exact if_neg (by show ¬ 16 + k.val < 16; omega)

/-- The word that a maximum starts from. -/
theorem word_bot : Ideal.ofBits .f32 0xFF800000#32 = (⊥ : EReal) := by
  simp [Ideal.ofBits, Ideal.ieee]

/-- The greatest of eight real numbers is one of them. -/
theorem fold_max (f : Fin 8 → ℝ) : ∃ c : ℝ, Finset.univ.fold max (⊥ : EReal) (fun k => (f k : EReal)) = (c : EReal) := by
  obtain ⟨i, -, h⟩ := Finset.exists_mem_eq_sup (Finset.univ : Finset (Fin 8)) Finset.univ_nonempty (fun k => (f k : EReal))
  exact ⟨f i, h⟩

/-- A select on a word that says `p`. -/
theorem select_iff {c : BitVec 1} {p : Prop} [Decidable p] (h : c = 1#1 ↔ p) (a b : EReal) :
    Scalar.select c a b = if p then a else b := by
  unfold Scalar.select; exact if_congr h rfl rfl

/-- Comparing two small numbers as words. -/
theorem slt_word (k : Fin 9) (l : Fin 8) (a b : EReal) :
    Scalar.select (IntOp.cmpi CmpIPredicate.slt (BitVec.ofNat 32 l.val) (BitVec.ofNat 32 k.val)) a b
      = if l.val < k.val then a else b := by
  have e : (IntOp.cmpi CmpIPredicate.slt (BitVec.ofNat 32 l.val) (BitVec.ofNat 32 k.val) = 1#1) ↔ l.val < k.val :=
    (by decide +kernel : ∀ (k : Fin 9) (l : Fin 8),
      (IntOp.cmpi CmpIPredicate.slt (BitVec.ofNat 32 l.val) (BitVec.ofNat 32 k.val) = 1#1) ↔ l.val < k.val) k l
  exact select_iff e a b

/-- Picking one of eight by its number as a word. -/
theorem pick_word (b : ℕ) (hb : b < 8) (f : Fin 8 → EReal) :
    ∑ k : Fin 8, Scalar.select (IntOp.cmpi CmpIPredicate.eq (BitVec.ofNat 32 k.val) (BitVec.ofNat 32 b)) (f k) 0
      = f ⟨b, hb⟩ := by
  have e : ∀ (b k : Fin 8), (IntOp.cmpi CmpIPredicate.eq (BitVec.ofNat 32 k.val) (BitVec.ofNat 32 b.val) = 1#1) ↔ k = b := by
    decide +kernel
  simp only [fun k => select_iff (e ⟨b, hb⟩ k)]
  rw [Finset.sum_ite_eq' Finset.univ, if_pos (Finset.mem_univ _)]

/-- Counting, as words, the marks of the knots reached, less one, is the bin's number. -/
theorem count_word (b : Fin 8) (p : Bool) (h : p = true → b = 7) :
    IntOp.minsi (7#32) (IntOp.maxsi (0#32) (IntOp.subi
      (Finset.univ.fold IntOp.addi (0#32) fun k : Fin 9 =>
        BitVec.setWidth 32 (BitVec.ofBool (if k.val = 8 then p else decide (k.val ≤ b.val)))) 1#32))
      = BitVec.ofNat 32 b.val :=
  (by decide +kernel : ∀ (b : Fin 8) (p : Bool), (p = true → b = 7) →
    IntOp.minsi (7#32) (IntOp.maxsi (0#32) (IntOp.subi
      (Finset.univ.fold IntOp.addi (0#32) fun k : Fin 9 =>
        BitVec.setWidth 32 (BitVec.ofBool (if k.val = 8 then p else decide (k.val ≤ b.val)))) 1#32))
      = BitVec.ofNat 32 b.val) b p h

/-- A knot is reached exactly when its number is at most the bin's, but for the last one. -/
theorem reached (u : Fin 8 → ℝ) (z : ℝ) (k : Fin 9) :
    decide (((knot u k.val : ℝ) : EReal) ≤ ((clip z : ℝ) : EReal))
      = if k.val = 8 then decide (T ≤ clip z) else decide (k.val ≤ bin (knot u) (clip z)) := by
  have h := count_eq u (clip_mem z).1 (clip_mem z).2
  simp only [EReal.coe_le_coe_iff]
  split_ifs with e
  · rw [e]; simp [knot]
  · rw [decide_eq_decide]
    constructor
    · intro hk
      by_contra hn
      exact absurd (h.2 k.val (not_le.1 hn) (by omega)) (not_lt.2 hk)
    · exact h.1 k.val

/-- At the interval's end the bin is the last one. -/
theorem bin_end (u : Fin 8 → ℝ) (z : ℝ) (h : T ≤ clip z) : bin (knot u) (clip z) = 7 := by
  have k7 : knot u 7 ≤ clip z := le_trans (knot_mem u 7 (by norm_num)).2 h
  unfold bin
  rw [if_pos k7]

/-- Which knot is the first and which the last, as words. -/
theorem ends_word (k : Fin 9) (a b c : EReal) :
    Scalar.select (IntOp.cmpi CmpIPredicate.eq (BitVec.ofNat 32 k.val) 0#32) a
      (Scalar.select (IntOp.cmpi CmpIPredicate.eq (BitVec.ofNat 32 k.val) 8#32) b c)
      = if k.val = 0 then a else if k.val = 8 then b else c := by
  have e0 := (by decide +kernel : ∀ k : Fin 9,
    (IntOp.cmpi CmpIPredicate.eq (BitVec.ofNat 32 k.val) 0#32 = 1#1) ↔ k.val = 0) k
  have e8 := (by decide +kernel : ∀ k : Fin 9,
    (IntOp.cmpi CmpIPredicate.eq (BitVec.ofNat 32 k.val) 8#32 = 1#1) ↔ k.val = 8) k
  rw [select_iff e0, select_iff e8]

/-- A finite sum of real numbers is real. -/
theorem coe_sum {ι : Type} (S : Finset ι) (f : ι → ℝ) : ∑ i ∈ S, (f i : EReal) = ((∑ i ∈ S, f i : ℝ) : EReal) := by
  induction S using Finset.cons_induction with
  | empty => simp
  | cons a S h ih => rw [Finset.sum_cons, Finset.sum_cons, ih, EReal.coe_add]

/-- The knots of a list of logits, from the shares, as the reference lays them. -/
theorem knots_real (u : Fin 8 → ℝ) (k : Fin 9) :
    (if k.val = 0 then ((-T : ℝ) : EReal) else if k.val = 8 then ((T : ℝ) : EReal) else
      ((2 * T : ℝ) : EReal) * ∑ l : Fin 8, (if l.val < k.val then ((mB + qB * share u l : ℝ) : EReal) else 0) - ((T : ℝ) : EReal))
      = ((knot u k.val : ℝ) : EReal) := by
  simp only [← EReal.coe_zero, ite_coe, coe_sum, ← EReal.coe_mul, ← EReal.coe_sub]
  rfl

/-- The shares of a list of logits, each with the least share, as the reference computes them after a shift. -/
theorem share_real (u : Fin 8 → ℝ) (c : ℝ) (k : Fin 8) :
    Ideal.ofBits .f32 0x3A83126F#32 + Ideal.ofBits .f32 0x3F7DF3B6#32 * Ideal.div
      (Ideal.exp ((u k : EReal) - (c : EReal))) (∑ l, Ideal.exp ((u l : EReal) - (c : EReal)))
      = ((mB + qB * share u k : ℝ) : EReal) := by
  rw [word_m, word_q]
  simp only [← EReal.coe_sub, Ideal.exp_coe, coe_sum]
  rw [div_real _ (total_pos fun l => u l - c).ne', share_shift, ← EReal.coe_mul, ← EReal.coe_add]

/-- The greater of two arrays, at a place. -/
theorem greater_read (z y : FVec Ideal S32768x45 .f32) (n : Fin 32768) (d : Fin 45) :
    maximumf z y (ix2 n d) = max (z (ix2 n d)) (y (ix2 n d)) := by
  pointwise []

end Cert.Flow

end
-- ==== Proof.RefNet.lean ====
/-
  The network inside one step of the reference's loop: its weights are the step's slices of the weights given, and
  its outputs are `net` of the point.
-/
module

public import Idealize.ShloMosaic.Lib.Pointwise
public import Idealize.ShloMosaic.Lib.DynamicIndex
public import proofs.«01_k».proof.Proof.Net
public import proofs.«01_k».proof.Proof.RefWords

@[expose] public section

set_option maxRecDepth 16384

noncomputable section

namespace Cert.Flow

open Idealize.ShloMosaic Idealize.ShloMosaic.TcCoe Idealize.SL.Sem
open Cert.ReferenceIdeal Cert.ReferenceIdeal.Step

/-- The weights held by the loop's state. -/
def weightsOf (s : State Ideal) : Weights :=
  ⟨s.main_v1_0, s.main_v1_1, s.main_v1_2, s.main_v1_4, s.main_v1_5, s.main_v1_6, s.main_v1_7, s.main_v1_8⟩

variable {s : State Ideal} {n : Fin 32768} {h i : Fin 256} {d : Fin 45} {r : Fin 1035} {m : Fin 23} {t : Fin 6}

/-- The slice of the first weights starts at the step's block. -/
theorem ref_w0_start : (b46 t.val s (Shape.Idx.first Cert.ReferenceIdeal.Gen.h_S_)).toInt = t.val := by
  fin_cases t <;> rfl

/-- The step's first weights. -/
theorem ref_w0 : b64 t.val s (ix2 h d) = s.main_v1_0 (ix3 t h d) := by
  have hs : S6x256x45.Slices ![t.val, 0, 0] S1x256x45 := by fin_cases t <;> decide
  have e : b63 t.val s = extractStridedSlice S1x256x45 ![t.val, 0, 0] s.main_v1_0 hs :=
    Host.dynamicSlice_eq_extractStridedSlice _ _ _ _ _ hs fun a => by
      fin_cases a
      · exact ref_w0_start
      · rfl
      · rfl
  pointwise [b64]
  rw [e]
  pointwise []

/-- The slice of the first biases starts at the step's block. -/
theorem ref_b0_start : (b74 t.val s (Shape.Idx.first Cert.ReferenceIdeal.Gen.h_S_)).toInt = t.val := by
  fin_cases t <;> rfl

/-- The step's first bias. -/
theorem ref_b0 : b84 t.val s (ix1 h) = s.main_v1_1 (ix2 t h) := by
  have hs : S6x256.Slices ![t.val, 0] S1x256 := by fin_cases t <;> decide
  have e : b83 t.val s = extractStridedSlice S1x256 ![t.val, 0] s.main_v1_1 hs :=
    Host.dynamicSlice_eq_extractStridedSlice _ _ _ _ _ hs fun a => by
      fin_cases a
      · exact ref_b0_start
      · rfl
  pointwise [b84]
  rw [e]
  pointwise []

/-- The slice of the condition's weights starts at the step's block. -/
theorem ref_wc_start : (b93 t.val s (Shape.Idx.first Cert.ReferenceIdeal.Gen.h_S_)).toInt = t.val := by
  fin_cases t <;> rfl

/-- The step's condition's weights. -/
theorem ref_wc : b111 t.val s (ix2 h 0) = s.main_v1_2 (ix3 t h 0) := by
  have hs : S6x256x1.Slices ![t.val, 0, 0] S1x256x1 := by fin_cases t <;> decide
  have e : b110 t.val s = extractStridedSlice S1x256x1 ![t.val, 0, 0] s.main_v1_2 hs :=
    Host.dynamicSlice_eq_extractStridedSlice _ _ _ _ _ hs fun a => by
      fin_cases a
      · exact ref_wc_start
      · rfl
      · rfl
  pointwise [b111]
  rw [e]
  pointwise []

/-- The slice of the condition's biases starts at the step's block. -/
theorem ref_bc_start : (b120 t.val s (Shape.Idx.first Cert.ReferenceIdeal.Gen.h_S_)).toInt = t.val := by
  fin_cases t <;> rfl

/-- The step's condition's bias. -/
theorem ref_bc : b130 t.val s (ix1 h) = s.main_v1_4 (ix2 t h) := by
  have hs : S6x256.Slices ![t.val, 0] S1x256 := by fin_cases t <;> decide
  have e : b129 t.val s = extractStridedSlice S1x256 ![t.val, 0] s.main_v1_4 hs :=
    Host.dynamicSlice_eq_extractStridedSlice _ _ _ _ _ hs fun a => by
      fin_cases a
      · exact ref_bc_start
      · rfl
  pointwise [b130]
  rw [e]
  pointwise []

/-- The slice of the first hidden layer's weights starts at the step's block. -/
theorem ref_wh0_start : (b139 t.val s (Shape.Idx.first Cert.ReferenceIdeal.Gen.h_S_)).toInt = t.val := by
  fin_cases t <;> rfl

/-- The step's weights of the first hidden layer. -/
theorem ref_wh0 : b165 t.val s (ix2 h i) = s.main_v1_5 (ix4 t 0 h i) := by
  have hs : S6x2x256x256.Slices ![t.val, 0, 0, 0] S1x1x256x256 := by fin_cases t <;> decide
  have e : b164 t.val s = extractStridedSlice S1x1x256x256 ![t.val, 0, 0, 0] s.main_v1_5 hs :=
    Host.dynamicSlice_eq_extractStridedSlice _ _ _ _ _ hs fun a => by
      fin_cases a
      · exact ref_wh0_start
      · rfl
      · rfl
      · rfl
  pointwise [b165]
  rw [e]
  pointwise []

/-- The slice of the first hidden layer's biases starts at the step's block. -/
theorem ref_bh0_start : (b175 t.val s (Shape.Idx.first Cert.ReferenceIdeal.Gen.h_S_)).toInt = t.val := by
  fin_cases t <;> rfl

/-- The step's bias of the first hidden layer. -/
theorem ref_bh0 : b193 t.val s (ix1 h) = s.main_v1_6 (ix3 t 0 h) := by
  have hs : S6x2x256.Slices ![t.val, 0, 0] S1x1x256 := by fin_cases t <;> decide
  have e : b192 t.val s = extractStridedSlice S1x1x256 ![t.val, 0, 0] s.main_v1_6 hs :=
    Host.dynamicSlice_eq_extractStridedSlice _ _ _ _ _ hs fun a => by
      fin_cases a
      · exact ref_bh0_start
      · rfl
      · rfl
  pointwise [b193]
  rw [e]
  pointwise []

/-- The slice of the second hidden layer's weights starts at the step's block. -/
theorem ref_wh1_start : (b205 t.val s (Shape.Idx.first Cert.ReferenceIdeal.Gen.h_S_)).toInt = t.val := by
  fin_cases t <;> rfl

/-- The step's weights of the second hidden layer. -/
theorem ref_wh1 : b231 t.val s (ix2 h i) = s.main_v1_5 (ix4 t 1 h i) := by
  have hs : S6x2x256x256.Slices ![t.val, 1, 0, 0] S1x1x256x256 := by fin_cases t <;> decide
  have e : b230 t.val s = extractStridedSlice S1x1x256x256 ![t.val, 1, 0, 0] s.main_v1_5 hs :=
    Host.dynamicSlice_eq_extractStridedSlice _ _ _ _ _ hs fun a => by
      fin_cases a
      · exact ref_wh1_start
      · rfl
      · rfl
      · rfl
  pointwise [b231]
  rw [e]
  pointwise []

/-- The slice of the second hidden layer's biases starts at the step's block. -/
theorem ref_bh1_start : (b241 t.val s (Shape.Idx.first Cert.ReferenceIdeal.Gen.h_S_)).toInt = t.val := by
  fin_cases t <;> rfl

/-- The step's bias of the second hidden layer. -/
theorem ref_bh1 : b259 t.val s (ix1 h) = s.main_v1_6 (ix3 t 1 h) := by
  have hs : S6x2x256.Slices ![t.val, 1, 0] S1x1x256 := by fin_cases t <;> decide
  have e : b258 t.val s = extractStridedSlice S1x1x256 ![t.val, 1, 0] s.main_v1_6 hs :=
    Host.dynamicSlice_eq_extractStridedSlice _ _ _ _ _ hs fun a => by
      fin_cases a
      · exact ref_bh1_start
      · rfl
      · rfl
  pointwise [b259]
  rw [e]
  pointwise []

/-- The slice of the last weights starts at the step's block. -/
theorem ref_wf_start : (b271 t.val s (Shape.Idx.first Cert.ReferenceIdeal.Gen.h_S_)).toInt = t.val := by
  fin_cases t <;> rfl

/-- The step's last weights. -/
theorem ref_wf : b289 t.val s (ix2 r h) = s.main_v1_7 (ix3 t r h) := by
  have hs : S6x1035x256.Slices ![t.val, 0, 0] S1x1035x256 := by fin_cases t <;> decide
  have e : b288 t.val s = extractStridedSlice S1x1035x256 ![t.val, 0, 0] s.main_v1_7 hs :=
    Host.dynamicSlice_eq_extractStridedSlice _ _ _ _ _ hs fun a => by
      fin_cases a
      · exact ref_wf_start
      · rfl
      · rfl
  pointwise [b289]
  rw [e]
  pointwise []

/-- The slice of the last biases starts at the step's block. -/
theorem ref_bf_start : (b299 t.val s (Shape.Idx.first Cert.ReferenceIdeal.Gen.h_S_)).toInt = t.val := by
  fin_cases t <;> rfl

/-- The step's last bias. -/
theorem ref_bf : b309 t.val s (ix1 r) = s.main_v1_8 (ix2 t r) := by
  have hs : S6x1035.Slices ![t.val, 0] S1x1035 := by fin_cases t <;> decide
  have e : b308 t.val s = extractStridedSlice S1x1035 ![t.val, 0] s.main_v1_8 hs :=
    Host.dynamicSlice_eq_extractStridedSlice _ _ _ _ _ hs fun a => by
      fin_cases a
      · exact ref_bf_start
      · rfl
  pointwise [b309]
  rw [e]
  pointwise []

/-- Masking a product is masking its second factor. -/
theorem mul_masked (c : BitVec 1) (a b : EReal) : Scalar.select c (a * b) 0 = a * Scalar.select c b 0 := by
  unfold Scalar.select
  split_ifs
  · rfl
  · exact (mul_zero a).symm

/-- The first layer. -/
theorem ref_layer0 : b133 t.val s (ix2 n h)
    = layer0 (weightsOf s) t (fun d => s.main_v1_11 (ix2 n d)) (s.main_v1_3 (ix2 n 0)) h := by
  pointwise [b133, b132, b131, b114, b113, b112, b87, b86, b85, b68, b67, b66, b65, b12, b11, b10, b9, b8, b7, b6, b5, b4, b3, b2, b1, b0]
  simp only [ref_w0, ref_b0, ref_wc, ref_bc, mul_masked, Fin.sum_univ_one]
  rfl

/-- The first hidden layer. -/
theorem ref_layer1 : b199 t.val s (ix2 n h)
    = layer (weightsOf s) t 0 (fun i => b133 t.val s (ix2 n i)) h := by
  pointwise [b199, b198, b197, b196, b195, b194, b169, b168, b167, b166, b26, b25, b24, b23, b22, b21, b20, b19, b18, b17, b16, b15, b14, b13]
  simp only [ref_wh0, ref_bh0, mul_masked]
  rfl

/-- The second hidden layer. -/
theorem ref_layer2 : b265 t.val s (ix2 n h)
    = layer (weightsOf s) t 1 (fun i => b199 t.val s (ix2 n i)) h := by
  pointwise [b265, b264, b263, b262, b261, b260, b235, b234, b233, b232, b26, b25, b24, b23, b22, b21, b20, b19, b18, b17, b16, b15, b14, b13]
  simp only [ref_wh1, ref_bh1, mul_masked]
  rfl

/-- The last layer. -/
theorem ref_layer3 : b312 t.val s (ix2 n r)
    = layerOut (weightsOf s) t (fun i => b265 t.val s (ix2 n i)) r := by
  pointwise [b312, b311, b310, b293, b292, b291, b290, b40, b39, b38, b37, b36, b35, b34, b33, b32, b31, b30, b29, b28, b27]
  simp only [ref_wf, ref_bf, mul_masked]
  rfl

/-- The outputs of the step's network: output `m` of coordinate `d` is number `d * 23 + m`. -/
theorem ref_net (j : Fin 1035) (hj : j.val = d.val * 23 + m.val) : b313 t.val s (ix3 n d m)
    = net (weightsOf s) t (fun d => s.main_v1_11 (ix2 n d)) (s.main_v1_3 (ix2 n 0)) j := by
  have e : b313 t.val s (ix3 n d m) = b312 t.val s (ix2 n j) := by
    pointwise [b313]
    exact congrArg (fun k => b312 t.val s (ix2 n k)) (Fin.ext hj.symm)
  rw [e, ref_layer3]
  simp only [ref_layer2, ref_layer1, ref_layer0]
  rfl

end Cert.Flow

end
-- ==== Proof.KernelNet.lean ====
/-
  The network inside one trip of the kernel's loop: of the trip's loads, and of a column whose rows 45, 46 and 47 hold
  one, the condition and zero, it computes `net`, with the first sixteen outputs of a coordinate divided by sixteen.
-/
module

public import Idealize.ShloMosaic.Lib.Pointwise
public import proofs.«01_k».proof.Proof.RefNet
public import proofs.«01_k».proof.Proof.KernelLane

@[expose] public section

set_option maxRecDepth 16384

noncomputable section

namespace Cert.Flow

open Idealize.ShloMosaic Idealize.ShloMosaic.TcCoe Idealize.SL.Sem
open Cert.KernelIdeal Cert.KernelIdeal.Gen

/-- Coordinate `d` as a row of the kernel's 48. -/
def up (d : Fin 45) : Fin 48 := ⟨d.val, by omega⟩

/-- The number of output `m` of coordinate `d`. -/
def out (d : Fin 45) (m : Fin 23) : Fin 1035 := ⟨d.val * 23 + m.val, by omega⟩

/-- The factor the kernel puts on output `m`. -/
def factor (m : Fin 23) : ℝ := if m.val < 16 then 1 / 16 else 1

/-- The factor of an output is not negative. -/
theorem factor_nonneg (m : Fin 23) : 0 ≤ factor m := by
  unfold factor
  split_ifs <;> norm_num

/-- What the trip's loads hold: block `t`'s weights, masked, and its biases. -/
structure Loads (w : Weights) (t : Fin 6) (L1 : Vec Ideal S1x256x48 .bf16) (L2 : Vec Ideal S1x1x256x256 .bf16)
    (L3 : Vec Ideal S1x1x256x1 .bf16) (L4 : Vec Ideal S1x1x256x256 .bf16) (L5 : Vec Ideal S1x1x256x1 .bf16)
    (L6 : Vec Ideal S1x1104x256 .bf16) (L7 : Vec Ideal S1x1104x1 .f32) : Prop where
  w0 : ∀ h d, L1 (ix3 0 h (up d)) = Scalar.select (maskIn h d) (w.W0 (ix3 t h d)) 0
  b0 : ∀ h, L1 (ix3 0 h 45) = w.b0 (ix2 t h) + w.bc (ix2 t h)
  wc : ∀ h, L1 (ix3 0 h 46) = w.Wc (ix3 t h 0)
  zero : ∀ h, L1 (ix3 0 h 47) = 0
  w1 : ∀ h i, L2 (ix4 0 0 h i) = Scalar.select (maskHid h i) (w.Wh (ix4 t 0 h i)) 0
  b1 : ∀ h, L3 (ix4 0 0 h 0) = w.bh (ix3 t 0 h)
  w2 : ∀ h i, L4 (ix4 0 0 h i) = Scalar.select (maskHid h i) (w.Wh (ix4 t 1 h i)) 0
  b2 : ∀ h, L5 (ix4 0 0 h 0) = w.bh (ix3 t 1 h)
  wf : ∀ d m i, L6 (ix3 0 (row m (up d)) i)
    = Scalar.select (maskOut (out d m) i) (w.Wf (ix3 t (out d m) i) * ((factor m : ℝ) : EReal)) 0
  bf : ∀ d m, L7 (ix3 0 (row m (up d)) 0) = w.bf (ix2 t (out d m)) * ((factor m : ℝ) : EReal)

/-- What column `n` holds: a point, and below it one, the condition and zero. -/
structure Column (z : FVec Ideal S48x1024 .f32) (n : Fin 1024) (p : Fin 45 → EReal) (c : EReal) : Prop where
  point : ∀ d, z (ix2 (up d) n) = p d
  one : z (ix2 45 n) = 1
  cond : z (ix2 46 n) = c
  zero : z (ix2 47 n) = 0

/-- A sum over the 48 rows, by the coordinates and the three rows below. -/
theorem sum_rows (f : Fin 48 → EReal) : ∑ d, f d = (∑ d, f (up d)) + f 45 + f 46 + f 47 := by
  rw [Fin.sum_univ_castSucc, Fin.sum_univ_castSucc, Fin.sum_univ_castSucc]
  rfl

variable {w : Weights} {t : Fin 6} {L1 : Vec Ideal S1x256x48 .bf16} {L2 : Vec Ideal S1x1x256x256 .bf16}
  {L3 : Vec Ideal S1x1x256x1 .bf16} {L4 : Vec Ideal S1x1x256x256 .bf16} {L5 : Vec Ideal S1x1x256x1 .bf16}
  {L6 : Vec Ideal S1x1104x256 .bf16} {L7 : Vec Ideal S1x1104x1 .f32} {z : FVec Ideal S48x1024 .f32} {n : Fin 1024}
  {p : Fin 45 → EReal} {c : EReal}

/-- The first layer, as the kernel sums it. -/
theorem kernel_layer0 (L : Loads w t L1 L2 L3 L4 L5 L6 L7) (C : Column z n p c) (h : Fin 256) :
    ∑ d : Fin 48, L1 (ix3 0 h d) * z (ix2 d n) = layer0 w t p c h := by
  rw [sum_rows]
  simp only [L.w0, L.b0, L.wc, L.zero, C.point, C.one, C.cond, C.zero, mul_one, mul_zero, add_zero]
  unfold layer0
  have e : ∀ d, Scalar.select (maskIn h d) (w.W0 (ix3 t h d)) 0 * p d
      = p d * Scalar.select (maskIn h d) (w.W0 (ix3 t h d)) 0 := fun d => mul_comm _ _
  simp only [e]
  rw [mul_comm (w.Wc (ix3 t h 0)) c]
  ac_rfl

/-- A hidden layer, as the kernel sums it. -/
theorem kernel_layer (l : Fin 2) (v : Fin 256 → EReal) (h : Fin 256) :
    max ((∑ i, Scalar.select (maskHid h i) (w.Wh (ix4 t l h i)) 0 * v i) + w.bh (ix3 t l h)) 0 = layer w t l v h := by
  have e : ∀ i, Scalar.select (maskHid h i) (w.Wh (ix4 t l h i)) 0 * v i
      = v i * Scalar.select (maskHid h i) (w.Wh (ix4 t l h i)) 0 := fun i => mul_comm _ _
  simp only [e]
  rfl

/-- The last layer, as the kernel sums it. -/
theorem kernel_layerOut (v : Fin 256 → EReal) (r : Fin 1035) (k : ℝ) (hk : 0 ≤ k) :
    (∑ i, Scalar.select (maskOut r i) (w.Wf (ix3 t r i) * (k : EReal)) 0 * v i) + w.bf (ix2 t r) * (k : EReal)
      = layerOut w t v r * (k : EReal) := by
  have e : ∀ i, Scalar.select (maskOut r i) (w.Wf (ix3 t r i) * (k : EReal)) 0 * v i
      = v i * Scalar.select (maskOut r i) (w.Wf (ix3 t r i)) 0 * (k : EReal) := fun i => by
    unfold Scalar.select
    split_ifs
    · rw [mul_comm, mul_assoc]
    · simp
  simp only [e]
  exact factor_out _ _ hk

/-- The network's output in the kernel. -/
theorem kernel_net (L : Loads w t L1 L2 L3 L4 L5 L6 L7) (C : Column z n p c) (d : Fin 45) (m : Fin 23) :
    k0_pay2 (k0_pay1 z L1 L2 L3 L4 L5 L6) L7 (ix2 (row m (up d)) n)
      = net w t p c (out d m) * ((factor m : ℝ) : EReal) := by
  pointwise [k0_pay1, k0_pay2]
  simp only [kernel_layer0 L C, L.w1, L.b1, L.w2, L.b2, L.wf, L.bf, kernel_layer]
  exact kernel_layerOut _ _ _ (factor_nonneg m)

end Cert.Flow

end
-- ==== Proof.Operands.lean ====
/-
  What the kernel's seven operands hold when it is launched, from the program's arguments.
-/
module

public import Idealize.ShloMosaic.Lib.Pipeline.ValueKit
public import Idealize.ShloMosaic.Lib.Claim
public import Idealize.ShloMosaic.Lib.StableHlo.RunRead
public import Idealize.ShloMosaic.Lib.StableHlo.RunLoop
public import proofs.«01_k».proof.Proof.Gen.KernelIdeal.Value
public import proofs.«01_k».proof.Proof.KernelNet

@[expose] public section

set_option maxRecDepth 16384

noncomputable section

namespace Cert.Flow

open Idealize.ShloMosaic Idealize.ShloMosaic.TcCoe Idealize.SL.Sem
open Cert.KernelIdeal Cert.KernelIdeal.Gen

/-- The points, one row each. -/
def pointsAt (M : (ℓ : Loc nD τ sig) → Buf (Elt Ideal) ℓ) (c : Dev nD) : FVec Ideal S32768x45 .f32 :=
  M (c, Proc.tc.devRef main_arg0)

/-- The conditions. -/
def condAt (M : (ℓ : Loc nD τ sig) → Buf (Elt Ideal) ℓ) (c : Dev nD) : FVec Ideal S32768x1 .f32 :=
  M (c, Proc.tc.devRef main_arg1)

/-- The weights among the program's arguments. -/
def weightsAt (M : (ℓ : Loc nD τ sig) → Buf (Elt Ideal) ℓ) (c : Dev nD) : Weights :=
  ⟨M (c, Proc.tc.devRef main_arg2), M (c, Proc.tc.devRef main_arg3), M (c, Proc.tc.devRef main_arg4),
    M (c, Proc.tc.devRef main_arg5), M (c, Proc.tc.devRef main_arg6), M (c, Proc.tc.devRef main_arg7),
    M (c, Proc.tc.devRef main_arg8), M (c, Proc.tc.devRef main_arg9)⟩

variable (M : (ℓ : Loc nD τ sig) → Buf (Elt Ideal) ℓ) (c : Dev nD)

/-- The points, turned: coordinates along rows, with three rows of zeros below. -/
theorem op_points (d : Fin 48) (n : Fin 32768) : (V M c main_v59 : FVec Ideal S48x32768 .f32) (ix2 d n)
    = if h : d.val < 45 then pointsAt M c (ix2 n ⟨d.val, h⟩) else 0 := by
  unfold V
  rw [← StableHlo.afterL_eq_after_flatten]
  simp only [StableHlo.afterL_cons, StableHlo.afterL_nil]
  after_reads_simp
  simp only [StableHlo.TRef.ofBuf, StableHlo.TRef.toBuf, cast_eq, id_eq]
  pointwise []
  have e : (FloatOps.sitofp .f32 0#32 : Ideal .f32) = 0 := by
    show (((0#32).toInt : ℝ) : EReal) = 0
    simp
  rw [e]
  rfl

/-- The conditions, turned. -/
theorem op_cond (n : Fin 32768) : (V M c main_v60 : FVec Ideal S1x32768 .f32) (ix2 0 n)
    = condAt M c (ix2 n 0) := by
  unfold V
  rw [← StableHlo.afterL_eq_after_flatten]
  simp only [StableHlo.afterL_cons, StableHlo.afterL_nil]
  after_reads_simp
  pointwise []
  rfl

/-- The first layer: masked weights, then the two biases summed, the condition's weights, and zero. -/
theorem op_first (t : Fin 6) (h : Fin 256) (d : Fin 48) : (V M c main_v30 : FVec Ideal S6x256x48 .bf16) (ix3 t h d)
    = if e : d.val < 45 then Scalar.select (maskIn h ⟨d.val, e⟩) ((weightsAt M c).W0 (ix3 t h ⟨d.val, e⟩)) 0
      else if d.val = 45 then (weightsAt M c).b0 (ix2 t h) + (weightsAt M c).bc (ix2 t h)
      else if d.val = 46 then (weightsAt M c).Wc (ix3 t h 0) else 0 := by
  unfold V
  rw [← StableHlo.afterL_eq_after_flatten]
  simp only [StableHlo.afterL_cons, StableHlo.afterL_nil]
  after_reads_simp
  set_option backward.isDefEq.respectTransparency false in
    dsimp only [Matrix.cons_val_zero, Matrix.cons_val_one, Matrix.cons_val]
  pointwise []
  after_reads_simp
  set_option backward.isDefEq.respectTransparency false in
    simp only [StableHlo.TRef.ofBuf, StableHlo.TRef.toBuf, cast_eq, id_eq]
  pointwise []
  by_cases e : d.val < 45
  · rw [dif_pos e, dif_pos e]; rfl
  · rw [dif_neg e, dif_neg e]
    by_cases e5 : d.val = 45
    · rw [dif_pos (by omega), if_pos e5]; rfl
    · rw [dif_neg (by omega), if_neg e5]
      by_cases e6 : d.val = 46
      · rw [dif_pos (by omega), if_pos e6]
        have z : (⟨d.val - 45 - 1, by omega⟩ : Fin 1) = 0 := Subsingleton.elim _ _
        rw [z]; rfl
      · rw [dif_neg (by omega), if_neg e6]

/-- The hidden layers' weights, masked. -/
theorem op_hidden (t : Fin 6) (l : Fin 2) (h i : Fin 256) :
    (V M c main_v35 : FVec Ideal S6x2x256x256 .bf16) (ix4 t l h i)
      = Scalar.select (maskHid h i) ((weightsAt M c).Wh (ix4 t l h i)) 0 := by
  unfold V
  rw [← StableHlo.afterL_eq_after_flatten]
  simp only [StableHlo.afterL_cons, StableHlo.afterL_nil]
  after_reads_simp
  simp only [StableHlo.TRef.ofBuf, StableHlo.TRef.toBuf, cast_eq, id_eq]
  pointwise []
  rfl

/-- The hidden layers' biases. -/
theorem op_hidden_bias (t : Fin 6) (l : Fin 2) (h : Fin 256) :
    (V M c main_v37 : FVec Ideal S6x2x256x1 .bf16) (ix4 t l h 0) = (weightsAt M c).bh (ix3 t l h) := by
  unfold V
  rw [← StableHlo.afterL_eq_after_flatten]
  simp only [StableHlo.afterL_cons, StableHlo.afterL_nil]
  after_reads_simp
  pointwise []
  rfl

/-- The factors, as words: a sixteenth for the first sixteen outputs, one for the others. -/
theorem lit0_eq : ∀ m : Fin 23, lit0 (S23x1x1.rowMajor (ix3 m 0 0)) = if m.val < 16 then 0x3D800000#32 else 0x3F800000#32 := by
  decide +kernel

/-- The words of the biases' factors: a sixteenth for the width and height logits, one for the slopes. -/
theorem lit1_eq : ∀ m : Fin 23, lit1 (S23x1.rowMajor (ix2 m 0)) = if m.val < 16 then 0x3D800000#32 else 0x3F800000#32 := by
  decide +kernel

/-- The words read as the factors. -/
theorem factor_word (m : Fin 23) : Ideal.ofBits .f32 (if m.val < 16 then 0x3D800000#32 else 0x3F800000#32)
    = ((factor m : ℝ) : EReal) := by
  unfold factor
  split_ifs
  · simp [Ideal.ofBits, Ideal.ieee, -EReal.coe_mul]; norm_num
  · simp [Ideal.ofBits, Ideal.ieee, -EReal.coe_mul]; norm_num

/-- The factors of the last layer's weights, as real numbers. -/
theorem lit0_real (m : Fin 23) : Ideal.ofBits .f32 (lit0 (S23x1x1.rowMajor (ix3 m 0 0))) = ((factor m : ℝ) : EReal) := by
  rw [lit0_eq, factor_word]

/-- The factors of the last layer's biases, as real numbers. -/
theorem lit1_real (m : Fin 23) : Ideal.ofBits .f32 (lit1 (S23x1.rowMajor (ix2 m 0))) = ((factor m : ℝ) : EReal) := by
  rw [lit1_eq, factor_word]

/-- The last layer's weights, masked and scaled: row `h` is output `h / 48` of coordinate `h % 48`. -/
theorem op_last_row (t : Fin 6) (h : Fin 1104) (d : Fin 45) (m : Fin 23) (i : Fin 256) (e1 : h.val / 48 = m.val)
    (e2 : h.val % 48 = d.val) :
    (V M c main_v49 : FVec Ideal S6x1104x256 .bf16) (ix3 t h i)
      = Scalar.select (maskOut (out d m) i)
          ((weightsAt M c).Wf (ix3 t (out d m) i) * ((factor m : ℝ) : EReal)) 0 := by
  unfold V
  rw [← StableHlo.afterL_eq_after_flatten]
  simp only [StableHlo.afterL_cons, StableHlo.afterL_nil]
  after_reads_simp
  simp only [StableHlo.TRef.ofBuf, StableHlo.TRef.toBuf, cast_eq, id_eq]
  pointwise []
  rw [dif_pos (⟨by omega, by omega⟩)]
  simp only [e1, e2]
  exact congrArg (fun x : EReal => Scalar.select (maskOut (out d m) i) ((weightsAt M c).Wf (ix3 t (out d m) i) * x) 0) (lit0_real m)

/-- The last layer's bias, scaled. -/
theorem op_last_bias_row (t : Fin 6) (h : Fin 1104) (d : Fin 45) (m : Fin 23) (e1 : h.val / 48 = m.val)
    (e2 : h.val % 48 = d.val) :
    (V M c main_v57 : FVec Ideal S6x1104x1 .f32) (ix3 t h 0)
      = (weightsAt M c).bf (ix2 t (out d m)) * ((factor m : ℝ) : EReal) := by
  unfold V
  rw [← StableHlo.afterL_eq_after_flatten]
  simp only [StableHlo.afterL_cons, StableHlo.afterL_nil]
  after_reads_simp
  simp only [StableHlo.TRef.ofBuf, StableHlo.TRef.toBuf, cast_eq, id_eq]
  pointwise []
  rw [dif_pos (⟨by omega, by omega⟩)]
  simp only [e1, e2]
  exact congrArg (fun x : EReal => (weightsAt M c).bf (ix2 t (out d m)) * x) (lit1_real m)

/-- The output of a row. -/
theorem row_div (m : Fin 23) (d : Fin 48) : (row m d).val / 48 = m.val := by
  show (m.val * 48 + d.val) / 48 = m.val
  omega

/-- The coordinate of a row. -/
theorem row_mod (m : Fin 23) (d : Fin 48) : (row m d).val % 48 = d.val := by
  show (m.val * 48 + d.val) % 48 = d.val
  omega

end Cert.Flow

end
-- ==== Proof.KernelLoads.lean ====
/-
  What a trip's loads read: block `k` of each operand. With the operands as the launch finds them, they are the weights of
  block `k`.
-/
module

public import Idealize.ShloMosaic.Lib.Pipeline.ValueKit
public import Idealize.ShloMosaic.Lib.WholeRead
public import proofs.«01_k».proof.Proof.Gen.KernelIdeal.Value
public import proofs.«01_k».proof.Proof.Trip
public import proofs.«01_k».proof.Proof.Operands

@[expose] public section

set_option maxRecDepth 16384

noncomputable section

namespace Cert.Flow

open Idealize.ShloMosaic Idealize.ShloMosaic.TcCoe Idealize.SL.Sem
open Cert.KernelIdeal Cert.KernelIdeal.Gen

variable {k : Fin k0_t1_loop.trips} {t : Fin 6}

/-- Trip `k` reads the first layer's block `k`, at an index. -/
theorem load1_read {a : Memref sig .tc .vmem S6x256x48 .bf16} (h : a.IsWhole) (X : Vec Ideal S6x256x48 .bf16)
    (e : k.val = t.val) (p : Fin 256) (q : Fin 48) : load1 a (h.unread X) k (ix3 0 p q) = X (ix3 t p q) := by
  unfold load1
  rw [h.readAt_unread]
  refine congrArg X (funext fun i => Fin.ext ?_)
  have o := k0_off1_eq k
  fin_cases i
  · show k0_off1 k 0 + 1 * 0 = t.val
    rw [o]; simpa using e
  · show k0_off1 k 1 + 1 * p.val = p.val
    rw [o]; simp
  · show k0_off1 k 2 + 1 * q.val = q.val
    rw [o]; simp

/-- Trip `k` reads the first hidden layer's weights of block `k`, at an index. -/
theorem load2_read {a : Memref sig .tc .vmem S6x2x256x256 .bf16} (h : a.IsWhole) (X : Vec Ideal S6x2x256x256 .bf16)
    (e : k.val = t.val) (p : Fin 256) (q : Fin 256) : load2 a (h.unread X) k (ix4 0 0 p q) = X (ix4 t 0 p q) := by
  unfold load2
  rw [h.readAt_unread]
  refine congrArg X (funext fun i => Fin.ext ?_)
  have o := k0_off2_eq k
  fin_cases i
  · show k0_off2 k 0 + 1 * 0 = t.val
    rw [o]; simpa using e
  · show k0_off2 k 1 + 1 * 0 = 0
    rw [o]; simp
  · show k0_off2 k 2 + 1 * p.val = p.val
    rw [o]; simp
  · show k0_off2 k 3 + 1 * q.val = q.val
    rw [o]; simp

/-- Trip `k` reads the first hidden layer's bias of block `k`, at an index. -/
theorem load3_read {a : Memref sig .tc .vmem S6x2x256x1 .bf16} (h : a.IsWhole) (X : Vec Ideal S6x2x256x1 .bf16)
    (e : k.val = t.val) (p : Fin 256) : load3 a (h.unread X) k (ix4 0 0 p 0) = X (ix4 t 0 p 0) := by
  unfold load3
  rw [h.readAt_unread]
  refine congrArg X (funext fun i => Fin.ext ?_)
  have o := k0_off3_eq k
  fin_cases i
  · show k0_off3 k 0 + 1 * 0 = t.val
    rw [o]; simpa using e
  · show k0_off3 k 1 + 1 * 0 = 0
    rw [o]; simp
  · show k0_off3 k 2 + 1 * p.val = p.val
    rw [o]; simp
  · show k0_off3 k 3 + 1 * 0 = 0
    rw [o]; simp

/-- Trip `k` reads the second hidden layer's weights of block `k`, at an index. -/
theorem load4_read {a : Memref sig .tc .vmem S6x2x256x256 .bf16} (h : a.IsWhole) (X : Vec Ideal S6x2x256x256 .bf16)
    (e : k.val = t.val) (p : Fin 256) (q : Fin 256) : load4 a (h.unread X) k (ix4 0 0 p q) = X (ix4 t 1 p q) := by
  unfold load4
  rw [h.readAt_unread]
  refine congrArg X (funext fun i => Fin.ext ?_)
  have o := k0_off4_eq k
  fin_cases i
  · show k0_off4 k 0 + 1 * 0 = t.val
    rw [o]; simpa using e
  · show k0_off4 k 1 + 1 * 0 = 1
    rw [o]; simp
  · show k0_off4 k 2 + 1 * p.val = p.val
    rw [o]; simp
  · show k0_off4 k 3 + 1 * q.val = q.val
    rw [o]; simp

/-- Trip `k` reads the second hidden layer's bias of block `k`, at an index. -/
theorem load5_read {a : Memref sig .tc .vmem S6x2x256x1 .bf16} (h : a.IsWhole) (X : Vec Ideal S6x2x256x1 .bf16)
    (e : k.val = t.val) (p : Fin 256) : load5 a (h.unread X) k (ix4 0 0 p 0) = X (ix4 t 1 p 0) := by
  unfold load5
  rw [h.readAt_unread]
  refine congrArg X (funext fun i => Fin.ext ?_)
  have o := k0_off5_eq k
  fin_cases i
  · show k0_off5 k 0 + 1 * 0 = t.val
    rw [o]; simpa using e
  · show k0_off5 k 1 + 1 * 0 = 1
    rw [o]; simp
  · show k0_off5 k 2 + 1 * p.val = p.val
    rw [o]; simp
  · show k0_off5 k 3 + 1 * 0 = 0
    rw [o]; simp

/-- Trip `k` reads the last layer's weights of block `k`, at an index. -/
theorem load6_read {a : Memref sig .tc .vmem S6x1104x256 .bf16} (h : a.IsWhole) (X : Vec Ideal S6x1104x256 .bf16)
    (e : k.val = t.val) (p : Fin 1104) (q : Fin 256) : load6 a (h.unread X) k (ix3 0 p q) = X (ix3 t p q) := by
  unfold load6
  rw [h.readAt_unread]
  refine congrArg X (funext fun i => Fin.ext ?_)
  have o := k0_off6_eq k
  fin_cases i
  · show k0_off6 k 0 + 1 * 0 = t.val
    rw [o]; simpa using e
  · show k0_off6 k 1 + 1 * p.val = p.val
    rw [o]; simp
  · show k0_off6 k 2 + 1 * q.val = q.val
    rw [o]; simp

/-- Trip `k` reads the last layer's bias of block `k`, at an index. -/
theorem load7_read {a : Memref sig .tc .vmem S6x1104x1 .f32} (h : a.IsWhole) (X : Vec Ideal S6x1104x1 .f32)
    (e : k.val = t.val) (p : Fin 1104) : load7 a (h.unread X) k (ix3 0 p 0) = X (ix3 t p 0) := by
  unfold load7
  rw [h.readAt_unread]
  refine congrArg X (funext fun i => Fin.ext ?_)
  have o := k0_off7_eq k
  fin_cases i
  · show k0_off7 k 0 + 1 * 0 = t.val
    rw [o]; simpa using e
  · show k0_off7 k 1 + 1 * p.val = p.val
    rw [o]; simp
  · show k0_off7 k 2 + 1 * 0 = 0
    rw [o]; simp

variable (M : (ℓ : Loc nD τ sig) → Buf (Elt Ideal) ℓ) (c : Dev nD)

/-- The trip's loads are the block's weights. -/
theorem loads_at (e : k.val = t.val) {a3 : Memref sig .tc .vmem S6x256x48 .bf16} (h3 : a3.IsWhole)
    {a4 : Memref sig .tc .vmem S6x2x256x256 .bf16} (h4 : a4.IsWhole) {a5 : Memref sig .tc .vmem S6x2x256x1 .bf16}
    (h5 : a5.IsWhole) {a6 : Memref sig .tc .vmem S6x1104x256 .bf16} (h6 : a6.IsWhole)
    {a7 : Memref sig .tc .vmem S6x1104x1 .f32} (h7 : a7.IsWhole) :
    Loads (weightsAt M c) t (load1 a3 (h3.unread (V M c main_v30)) k) (load2 a4 (h4.unread (V M c main_v35)) k)
      (load3 a5 (h5.unread (V M c main_v37)) k) (load4 a4 (h4.unread (V M c main_v35)) k)
      (load5 a5 (h5.unread (V M c main_v37)) k) (load6 a6 (h6.unread (V M c main_v49)) k)
      (load7 a7 (h7.unread (V M c main_v57)) k) where
  w0 h d := by
    rw [load1_read h3 _ e]
    exact (op_first M c t h (up d)).trans (dif_pos d.isLt)
  b0 h := by
    rw [load1_read h3 _ e]
    exact (op_first M c t h 45).trans ((dif_neg (by decide)).trans (if_pos (by decide)))
  wc h := by
    rw [load1_read h3 _ e]
    exact (op_first M c t h 46).trans ((dif_neg (by decide)).trans ((if_neg (by decide)).trans (if_pos (by decide))))
  zero h := by
    rw [load1_read h3 _ e]
    exact (op_first M c t h 47).trans ((dif_neg (by decide)).trans ((if_neg (by decide)).trans (if_neg (by decide))))
  w1 h i := (load2_read h4 _ e h i).trans (op_hidden M c t 0 h i)
  b1 h := (load3_read h5 _ e h).trans (op_hidden_bias M c t 0 h)
  w2 h i := (load4_read h4 _ e h i).trans (op_hidden M c t 1 h i)
  b2 h := (load5_read h5 _ e h).trans (op_hidden_bias M c t 1 h)
  wf d m i := (load6_read h6 _ e _ i).trans (op_last_row M c t _ d m i (row_div m (up d)) (row_mod m (up d)))
  bf d m := (load7_read h7 _ e _).trans (op_last_bias_row M c t _ d m (row_div m (up d)) (row_mod m (up d)))

end Cert.Flow

end
-- ==== Proof.Flow.lean ====
/-
  The flow itself, for one point, over the real numbers: the six blocks one after another, each moving the 45
  coordinates by its splines and adding up the log-slopes.
-/
module

public import proofs.«01_k».proof.Proof.KernelNet
public import proofs.«01_k».proof.Proof.RefWords

@[expose] public section

noncomputable section

namespace Cert.Flow

open Idealize.ShloMosaic Idealize.ShloMosaic.TcCoe Idealize.SL.Sem

/-- A point as extended real numbers. -/
def coePoint (Z : Fin 45 → ℝ) (d : Fin 45) : EReal := (Z d : EReal)

/-- Output `m` of coordinate `d` of block `t`'s network, as a real number. -/
def logits (w : Weights) (c : EReal) (t : Fin 6) (Z : Fin 45 → ℝ) (d : Fin 45) (m : Fin 23) : ℝ :=
  (net w t (coePoint Z) c (out d m)).toReal

/-- Coordinate `d` after block `t`. -/
def stepPoint (w : Weights) (c : EReal) (t : Fin 6) (Z : Fin 45 → ℝ) (d : Fin 45) : ℝ :=
  next cB (uOf (scaled (logits w c t Z d))) (hOf (scaled (logits w c t Z d))) (vOf (scaled (logits w c t Z d))) (Z d)

/-- The log-slope of block `t` at coordinate `d`. -/
def stepSlope (w : Weights) (c : EReal) (t : Fin 6) (Z : Fin 45 → ℝ) (d : Fin 45) : ℝ :=
  logSlope cB (uOf (scaled (logits w c t Z d))) (hOf (scaled (logits w c t Z d))) (vOf (scaled (logits w c t Z d))) (Z d)

/-- The point and the log-slopes summed so far, after `k` blocks. -/
def flow (w : Weights) (c : EReal) (Z : Fin 45 → ℝ) : ℕ → (Fin 45 → ℝ) × (Fin 45 → ℝ)
  | 0 => (Z, fun _ => 0)
  | k + 1 =>
    let a := flow w c Z k
    if h : k < 6 then (stepPoint w c ⟨k, h⟩ a.1, fun d => a.2 d + stepSlope w c ⟨k, h⟩ a.1 d) else a

/-- What is asked of the weights and the condition: a condition within 8, and outputs that stay within 960 for points
within 16. -/
structure Tame (w : Weights) (c : EReal) : Prop where
  cond : mag c ≤ ((8 : ℝ) : EReal)
  nets : ∀ t r, boundNet w t r ≤ ((960 : ℝ) : EReal)

variable {w : Weights} {c : EReal} {Z : Fin 45 → ℝ}

/-- One block. -/
theorem flow_succ (t : Fin 6) : flow w c Z (t.val + 1)
    = (stepPoint w c t (flow w c Z t.val).1,
        fun d => (flow w c Z t.val).2 d + stepSlope w c t (flow w c Z t.val).1 d) := by
  show (if h : t.val < 6 then _ else _) = _
  rw [dif_pos t.isLt]

/-- The points stay within 16. -/
theorem flow_within (hz : ∀ d, |Z d| ≤ 16) (k : ℕ) : ∀ d, |(flow w c Z k).1 d| ≤ 16 := by
  induction k with
  | zero => exact hz
  | succ k ih =>
    intro d
    by_cases h : k < 6
    · rw [flow_succ (w := w) (c := c) (Z := Z) ⟨k, h⟩]
      exact next_le _ _ _ _ _ (ih d)
    · show |((if h : k < 6 then _ else _) : (Fin 45 → ℝ) × (Fin 45 → ℝ)).1 d| ≤ 16
      rw [dif_neg h]
      exact ih d

/-- The network's outputs are real numbers within 960. -/
theorem net_real (T : Tame w c) (hz : ∀ d, |Z d| ≤ 16) (t : Fin 6) (d : Fin 45) (m : Fin 23) :
    net w t (coePoint Z) c (out d m) = ((logits w c t Z d m : ℝ) : EReal) ∧ |logits w c t Z d m| ≤ 960 := by
  have hz' : ∀ d, mag (coePoint Z d) ≤ ((16 : ℝ) : EReal) := fun d => by
    unfold coePoint
    rw [mag_coe, EReal.coe_le_coe_iff]
    exact hz d
  obtain ⟨a, ha, hb⟩ := real_of_mag ((net_le w t hz' T.cond (out d m)).trans (T.nets t (out d m)))
  have e : logits w c t Z d m = a := by
    unfold logits
    rw [ha, EReal.toReal_coe]
  rw [e]
  exact ⟨ha, hb⟩

/-- A logit times its factor is the scaled logit. -/
theorem scaled_eq (P : Fin 23 → ℝ) (m : Fin 23) : P m * factor m = scaled P m := by
  unfold factor scaled
  split_ifs
  · ring
  · ring

/-- The scaled width and height logits stay within 60. -/
theorem scaled_within (P : Fin 23 → ℝ) (m : Fin 23) (h : |P m| ≤ 960) (hm : m.val < 16) : |scaled P m| ≤ 60 := by
  unfold scaled
  rw [if_pos hm, abs_div, abs_of_pos (by norm_num : (0 : ℝ) < 16)]
  linarith

end Cert.Flow

end
-- ==== Proof.KernelFlow.lean ====
/-
  The kernel's loop for one column: after `k` trips the carried values hold the flow's point, with one, the condition
  and zero below it, and the flow's log-slopes.
-/
module

public import Idealize.ShloMosaic.Lib.Pipeline.ValueKit
public import proofs.«01_k».proof.Proof.Trip
public import proofs.«01_k».proof.Proof.KernelLoads
public import proofs.«01_k».proof.Proof.Flow

@[expose] public section

set_option maxRecDepth 16384

noncomputable section

namespace Cert.Flow

open Idealize.ShloMosaic Idealize.ShloMosaic.TcCoe Idealize.SL.Sem
open Cert.KernelIdeal Cert.KernelIdeal.Gen

/-- Column `n` of the carried values. -/
structure Carry (a : FVec Ideal S48x1024 .f32 × FVec Ideal S48x1024 .f32) (n : Fin 1024) (c : EReal)
    (Z S : Fin 45 → ℝ) : Prop where
  column : Column a.1 n (coePoint Z) c
  slope : ∀ d, a.2 (ix2 (up d) n) = (S d : EReal)
  rest : ∀ d : Fin 48, ¬ d.val < 45 → a.2 (ix2 d n) = 0

variable {w : Weights} {t : Fin 6} {L1 : Vec Ideal S1x256x48 .bf16} {L2 : Vec Ideal S1x1x256x256 .bf16}
  {L3 : Vec Ideal S1x1x256x1 .bf16} {L4 : Vec Ideal S1x1x256x256 .bf16} {L5 : Vec Ideal S1x1x256x1 .bf16}
  {L6 : Vec Ideal S1x1104x256 .bf16} {L7 : Vec Ideal S1x1104x1 .f32} {n : Fin 1024} {x : EReal}
  {Z S : Fin 45 → ℝ} {a : FVec Ideal S48x1024 .f32 × FVec Ideal S48x1024 .f32} {v0 : Vec Ideal S1x1024 .f32}

/-- What each coordinate reads in a trip. -/
theorem kernel_lane (L : Loads w t L1 L2 L3 L4 L5 L6 L7) (C : Carry a n x Z S) (T : Tame w x) (hz : ∀ d, |Z d| ≤ 16)
    (d : Fin 45) : Lane a.1 (k0_pay1 a.1 L1 L2 L3 L4 L5 L6) L7 (up d) n (Z d) (scaled (logits w x t Z d)) where
  point := C.column.point d
  outs m := by
    rw [kernel_net L C.column d m, (net_real T hz t d m).1, ← EReal.coe_mul, scaled_eq]
  within m hm := scaled_within _ m (net_real T hz t d m).2 hm

/-- One trip. -/
theorem carry_step (L : Loads w t L1 L2 L3 L4 L5 L6 L7) (C : Carry a n x Z S) (T : Tame w x) (hz : ∀ d, |Z d| ≤ 16)
    (hv : v0 (ix2 0 n) = x) :
    Carry (spline v0 a.1 a.2 (k0_pay1 a.1 L1 L2 L3 L4 L5 L6) L7) n x (stepPoint w x t Z)
      (fun d => S d + stepSlope w x t Z d) where
  column :=
    { point := fun d => (spline_read (kernel_lane L C T hz d) d.isLt).1
      one := (spline_rest (d := 45) (by decide)).1.trans ((aug_read v0 45 n).trans (if_pos (by decide)))
      cond := (spline_rest (d := 46) (by decide)).1.trans
        ((aug_read v0 46 n).trans ((if_neg (by decide)).trans ((if_pos (by decide)).trans hv)))
      zero := (spline_rest (d := 47) (by decide)).1.trans
        ((aug_read v0 47 n).trans ((if_neg (by decide)).trans (if_neg (by decide)))) }
  slope d := by
    refine (spline_read (kernel_lane L C T hz d) d.isLt).2.trans ?_
    rw [C.slope d, ← EReal.coe_add]
    rfl
  rest d hd := (spline_rest hd).2.trans (C.rest d hd)

/-- Before the first trip. -/
theorem carry_zero (z : Vec Ideal S48x1024 .f32) (hp : ∀ d, z (ix2 (up d) n) = (Z d : EReal))
    (hr : ∀ d : Fin 48, ¬ d.val < 45 → z (ix2 d n) = 0) (hv : v0 (ix2 0 n) = x) :
    Carry (k0_pay99 v0 z, k0_pay100) n x Z (fun _ => 0) := by
  have r : ∀ d, k0_pay99 v0 z (ix2 d n) = z (ix2 d n) + k0_pay98 v0 (ix2 d n) := fun d => by
    pointwise [k0_pay99]
  have s : ∀ d, (k0_pay100 (F := Ideal)) (ix2 d n) = 0 := fun d => by
    pointwise [k0_pay100]
  refine ⟨⟨fun d => ?_, ?_, ?_, ?_⟩, fun d => ?_, fun d _ => s d⟩
  · refine (r (up d)).trans ?_
    rw [hp, aug_read, if_neg (show ¬ (up d).val = 45 from by show ¬ d.val = 45; omega),
      if_neg (show ¬ (up d).val = 46 from by show ¬ d.val = 46; omega), add_zero]
    rfl
  · refine (r 45).trans ?_
    rw [hr 45 (by decide), aug_read, if_pos (by decide), zero_add]
  · refine (r 46).trans ?_
    rw [hr 46 (by decide), aug_read, if_neg (by decide), if_pos (by decide), zero_add, hv]
  · refine (r 47).trans ?_
    rw [hr 47 (by decide), aug_read, if_neg (by decide), if_neg (by decide), zero_add]
  · exact (s (up d)).trans EReal.coe_zero.symm

/-- The whole loop of the kernel. -/
theorem carry_loop (M : (ℓ : Loc nD τ sig) → Buf (Elt Ideal) ℓ) (𝒱 : Variants) (c : Dev nD) (bd : Option 𝒱.V) (i : grid0.Coords) (arg1 : Memref sig .tc .vmem S48x1024 .f32) (harg1 : arg1.IsWhole) (arg2 : Memref sig .tc .vmem S1x1024 .f32) (harg2 : arg2.IsWhole) (arg3 : Memref sig .tc .vmem S6x256x48 .bf16) (harg3 : arg3.IsWhole) (arg4 : Memref sig .tc .vmem S6x2x256x256 .bf16) (harg4 : arg4.IsWhole) (arg5 : Memref sig .tc .vmem S6x2x256x1 .bf16) (harg5 : arg5.IsWhole) (arg6 : Memref sig .tc .vmem S6x1104x256 .bf16) (harg6 : arg6.IsWhole) (arg7 : Memref sig .tc .vmem S6x1104x1 .f32) (harg7 : arg7.IsWhole) (arg8 : Memref sig .tc .vmem S1x1024 .f32) (harg8 : arg8.IsWhole)
    (init : FVec Ideal S48x1024 .f32 × FVec Ideal S48x1024 .f32) (T : Tame (weightsAt M c) x)
    (hz : ∀ d, |Z d| ≤ 16) (hv : v0 (ix2 0 n) = x) (h0 : Carry init n x Z fun _ => 0) : ∀ k, k ≤ 6 →
    Carry (st_k0_t1 (F := Ideal) 𝒱 c bd i arg1 harg1 arg2 harg2 arg3 harg3 arg4 harg4 arg5 harg5 arg6 harg6 arg7 harg7 arg8 harg8 v0 (harg3.unread (V M c main_v30)) (harg4.unread (V M c main_v35)) (harg5.unread (V M c main_v37)) (harg6.unread (V M c main_v49)) (harg7.unread (V M c main_v57)) init k) n x
      (flow (weightsAt M c) x Z k).1 (flow (weightsAt M c) x Z k).2 := by
  intro k
  induction k with
  | zero => exact fun _ => h0
  | succ k ih =>
    intro hk
    have ht : k0_t1_loop.trips = 6 := by decide
    have e := st_k0_t1_succ (F := Ideal) 𝒱 c bd i arg1 harg1 arg2 harg2 arg3 harg3 arg4 harg4 arg5 harg5 arg6 harg6 arg7 harg7 arg8 harg8 v0 (harg3.unread (V M c main_v30)) (harg4.unread (V M c main_v35)) (harg5.unread (V M c main_v37)) (harg6.unread (V M c main_v49)) (harg7.unread (V M c main_v57)) init ⟨k, by omega⟩
    have h := carry_step (loads_at (k := ⟨k, by omega⟩) (t := ⟨k, by omega⟩) M c rfl harg3 harg4 harg5 harg6 harg7)
      (ih (by omega)) T (flow_within hz k) hv
    rw [flow_succ (w := weightsAt M c) (c := x) (Z := Z) ⟨k, by omega⟩]
    refine e ▸ ?_
    rw [trip_spline]
    exact h

end Cert.Flow

end
-- ==== Proof.KernelResult.lean ====
/-
  What the kernel leaves: each column's log-density, from the blocks the launch reads to the whole result.
-/
module

public import Idealize.ShloMosaic.Lib.Pipeline.ValueKit
public import proofs.«01_k».proof.Proof.KernelFlow
public import proofs.«01_k».proof.Proof.Operands

@[expose] public section

set_option maxRecDepth 16384

noncomputable section

namespace Cert.Flow

open Idealize.ShloMosaic Idealize.ShloMosaic.TcCoe Idealize.SL.Sem
open Cert.KernelIdeal Cert.KernelIdeal.Gen

/-- The log-density of a point, from where the flow takes it and its log-slopes. -/
def density (a : (Fin 45 → ℝ) × (Fin 45 → ℝ)) : ℝ := (∑ d, a.2 d) - (∑ d, a.1 d * a.1 d) / 2 - logZ

/-- The word of one. -/
theorem word_unit : Ideal.ofBits .f32 0x3F800000#32 = ((1 : ℝ) : EReal) := by
  simp [Ideal.ofBits, Ideal.ieee, -EReal.coe_mul]
  norm_num

variable {n : Fin 1024} {Z S : Fin 45 → ℝ} {v0 : Vec Ideal S1x1024 .f32}
  {a : FVec Ideal S48x1024 .f32 × FVec Ideal S48x1024 .f32}

/-- The last sum, read at a column. -/
theorem end_read : k0_pay104 v0 a.1 a.2 (ix2 0 n)
    = (∑ d : Fin 48, (a.2 (ix2 d n) - Ideal.ofBits .f32 0x3F000000#32 * a.1 (ix2 d n) * a.1 (ix2 d n)))
      + (Ideal.ofBits .f32 0x3F000000#32 * (v0 (ix2 0 n) * v0 (ix2 0 n) + Ideal.ofBits .f32 0x3F800000#32)
        - Ideal.ofBits .f32 0x422568B0#32) := by
  pointwise [k0_pay104, k0_pay96]

/-- The last sum at a column whose condition is a real number: the two rows for the ones and the condition cancel. -/
theorem end_density {x : ℝ} (C : Carry a n (x : EReal) Z S) (hv : v0 (ix2 0 n) = (x : EReal)) :
    k0_pay104 v0 a.1 a.2 (ix2 0 n) = (density (Z, S) : EReal) := by
  rw [end_read, sum_rows, C.rest 45 (by decide), C.rest 46 (by decide), C.rest 47 (by decide), C.column.one,
    C.column.cond, C.column.zero, hv, word_half, word_unit, word_logZ]
  have e : ∀ d, a.2 (ix2 (up d) n) - ((1 / 2 : ℝ) : EReal) * a.1 (ix2 (up d) n) * a.1 (ix2 (up d) n)
      = ((S d - 1 / 2 * Z d * Z d : ℝ) : EReal) := fun d => by
    rw [C.slope, C.column.point, coePoint, ← EReal.coe_mul, ← EReal.coe_mul, ← EReal.coe_sub]
  rw [Finset.sum_congr rfl fun d _ => e d, coe_sum]
  simp only [← EReal.coe_one, ← EReal.coe_zero, ← EReal.coe_mul, ← EReal.coe_add, ← EReal.coe_sub]
  congr 1
  unfold density
  rw [Finset.sum_sub_distrib]
  have e2 : ∑ d, 1 / 2 * Z d * Z d = (∑ d, Z d * Z d) / 2 := by
    rw [Finset.sum_div]
    exact Finset.sum_congr rfl fun d _ => by ring
  rw [e2]
  ring

variable (M : (ℓ : Loc nD τ sig) → Buf (Elt Ideal) ℓ) (c : Dev nD)

/-- Which block each window shows at each point of the grid. -/
theorem idx : ∀ t : Fin cfg0.N, win0_0.index t = ![0, t.val] ∧ win0_1.index t = ![0, t.val]
    ∧ win0_2.index t = ![0, 0, 0] ∧ win0_3.index t = ![0, 0, 0, 0] ∧ win0_4.index t = ![0, 0, 0, 0]
    ∧ win0_5.index t = ![0, 0, 0] ∧ win0_6.index t = ![0, 0, 0] ∧ win0_7.index t = ![0, t.val] :=
  (by decide +kernel : ∀ t : Fin grid0.N, _)

/-- The first layer's block of any array is the array. -/
theorem whole2 (t : Fin cfg0.N) (X : FVec Ideal S6x256x48 .bf16) :
    (((cfg0.win 2).blk t).view.read (Elt Ideal) X : FVec Ideal S6x256x48 .bf16) = X := by
  blk_ext! [idx t]

/-- The first layer's block is its whole array. -/
theorem block2 (t : Fin cfg0.N) : (iblk M c 2 t : FVec Ideal S6x256x48 .bf16) = V M c main_v30 :=
  (whole2 t (V M c main_v30))

/-- The hidden layers' block of any array is the array. -/
theorem whole3 (t : Fin cfg0.N) (X : FVec Ideal S6x2x256x256 .bf16) :
    (((cfg0.win 3).blk t).view.read (Elt Ideal) X : FVec Ideal S6x2x256x256 .bf16) = X := by
  blk_ext! [idx t]

/-- The hidden layers' block is its whole array. -/
theorem block3 (t : Fin cfg0.N) : (iblk M c 3 t : FVec Ideal S6x2x256x256 .bf16) = V M c main_v35 :=
  (whole3 t (V M c main_v35))

/-- The hidden biases' block of any array is the array. -/
theorem whole4 (t : Fin cfg0.N) (X : FVec Ideal S6x2x256x1 .bf16) :
    (((cfg0.win 4).blk t).view.read (Elt Ideal) X : FVec Ideal S6x2x256x1 .bf16) = X := by
  blk_ext! [idx t]

/-- The hidden biases' block is its whole array. -/
theorem block4 (t : Fin cfg0.N) : (iblk M c 4 t : FVec Ideal S6x2x256x1 .bf16) = V M c main_v37 :=
  (whole4 t (V M c main_v37))

/-- The last layer's block of any array is the array. -/
theorem whole5 (t : Fin cfg0.N) (X : FVec Ideal S6x1104x256 .bf16) :
    (((cfg0.win 5).blk t).view.read (Elt Ideal) X : FVec Ideal S6x1104x256 .bf16) = X := by
  blk_ext! [idx t]

/-- The last layer's block is its whole array. -/
theorem block5 (t : Fin cfg0.N) : (iblk M c 5 t : FVec Ideal S6x1104x256 .bf16) = V M c main_v49 :=
  (whole5 t (V M c main_v49))

/-- The last biases' block of any array is the array. -/
theorem whole6 (t : Fin cfg0.N) (X : FVec Ideal S6x1104x1 .f32) :
    (((cfg0.win 6).blk t).view.read (Elt Ideal) X : FVec Ideal S6x1104x1 .f32) = X := by
  blk_ext! [idx t]

/-- The last biases' block is its whole array. -/
theorem block6 (t : Fin cfg0.N) : (iblk M c 6 t : FVec Ideal S6x1104x1 .f32) = V M c main_v57 :=
  (whole6 t (V M c main_v57))

/-- The number of a column in the whole array. -/
def colOf (t : Fin cfg0.N) (l : Fin 1024) : Fin 32768 :=
  ⟨t.val * 1024 + l.val, by have h : t.val < 32 := t.isLt; omega⟩

/-- The points' block. -/
theorem block0 (t : Fin cfg0.N) (d : Fin 48) (l : Fin 1024) :
    (iblk M c 0 t : Vec Ideal S48x1024 .f32) (ix2 d l) = (V M c main_v59 : FVec Ideal S48x32768 .f32) (ix2 d (colOf t l)) := by
  unfold colOf
  blk_ext [iblk, idx t]

/-- The conditions' block. -/
theorem block1 (t : Fin cfg0.N) (l : Fin 1024) :
    (iblk M c 1 t : Vec Ideal S1x1024 .f32) (ix2 0 l) = (V M c main_v60 : FVec Ideal S1x32768 .f32) (ix2 0 (colOf t l)) := by
  unfold colOf
  blk_ext [iblk, idx t]

/-- The kernel's result, of points, conditions and weights for which the flow stays among the real numbers: each entry is
the point's log-density. -/
theorem kernel_density {Z : Fin 32768 → Fin 45 → ℝ} {C : Fin 32768 → ℝ}
    (hx : ∀ n d, pointsAt M c (ix2 n d) = (Z n d : EReal)) (hz : ∀ n d, |Z n d| ≤ 16)
    (hc : ∀ n, condAt M c (ix2 n 0) = (C n : EReal)) (T : ∀ n, Tame (weightsAt M c) (C n : EReal)) :
    (dats M 0 c).arrAt 7 cfg0.N
      = (fun i => ((density (flow (weightsAt M c) (C (i 1) : EReal) (Z (i 1)) 6) : ℝ) : EReal) :
          FVec Ideal S1x32768 .f32) := by
  refine (dats M 0 c).arrAt_eq_of_covers 7 _ (by decide +kernel) fun t _ y => ?_
  blk_simp
  rw [after0_7]
  unfold outsAt0
  frame_out
  obtain ⟨l, hl⟩ : ∃ l : Fin 1024, y = ix2 0 l := ⟨y 1, by blk_ext []⟩
  rw [hl]
  have hp : ((View.whole main_v61).slice (win0_7.rect t)).emb (ix2 0 l) 1 = colOf t l := by
    apply Fin.ext
    unfold colOf
    blk_simp [idx t]
  have hv : (iblk M c 1 t : Vec Ideal S1x1024 .f32) (ix2 0 l) = (C (colOf t l) : EReal) :=
    (block1 M c t l).trans ((op_cond M c _).trans (hc _))
  have ht : Scf.trips (0#32) (Scalar.addi 0#32 6#32) 1#32 = 6 := by decide
  rw [block2, block3, block4, block5, block6, hp, ht]
  refine end_density (n := l) (carry_loop M Variants.none c none (grid0.coords t) _ _ _ _ _ _ _ _ _ _ _ _ _ _ _ _ _ (T _) (hz _) hv
    (carry_zero _ (fun d => ?_) (fun d hd => ?_) hv) 6 le_rfl) hv
  · rw [block0, op_points]
    exact (dif_pos d.isLt).trans (hx _ _)
  · rw [block0, op_points]
    exact dif_neg hd

end Cert.Flow

end
-- ==== Proof.RefLane.lean ====
/-
  One step of the reference's loop after the network: the spline, a coordinate at a time. Where a coordinate's point
  and the network's outputs for it are real numbers, the new point and the log-slope are the real spline's.
-/
module

public import proofs.«01_k».proof.Proof.Gen.ReferenceIdeal.Step
public import proofs.«01_k».proof.Proof.RefWords

@[expose] public section

set_option maxRecDepth 16384

noncomputable section

namespace Cert.Flow

open Idealize.ShloMosaic Idealize.ShloMosaic.TcCoe Idealize.SL.Sem
open Cert.ReferenceIdeal Cert.ReferenceIdeal.Step

variable {j : ℕ} {s : State Ideal} {n : Fin 32768} {d : Fin 45} {x : ℝ} {P : Fin 23 → ℝ}

/-- The width logits. -/
theorem u_read (L : RLane j s n d x P) (k : Fin 8) : b317 j s (ix3 n d k) = ((uOf (scaled P) k : ℝ) : EReal) := by
  have h := L.outs
  pointwise [b317, b316, b315, b314, h]
  rw [word_16, div_real _ (by norm_num), uOf_scaled]

/-- The height logits. -/
theorem h_read (L : RLane j s n d x P) (k : Fin 8) : b321 j s (ix3 n d k) = ((hOf (scaled P) k : ℝ) : EReal) := by
  have h := L.outs
  pointwise [b321, b320, b319, b318, h]
  rw [word_16, div_real _ (by norm_num), hOf_scaled]

/-- The slope logits, with the constant at both ends. -/
theorem v_read (L : RLane j s n d x P) (k : Fin 9) :
    b325 j s (ix3 n d k) = ((padded cB (vOf (scaled P)) k.val : ℝ) : EReal) := by
  have h := L.outs
  pointwise [b325, b324, b323, b322, h]
  unfold padded
  by_cases hk : 1 ≤ k.val ∧ k.val < 8
  · rw [dif_pos (by omega), dif_pos hk, vOf_scaled]
  · rw [dif_neg (by omega), dif_neg hk, word_c]

/-- The greatest width logit is a real number. -/
theorem width_top_read (L : RLane j s n d x P) : ∃ c : ℝ, b345 j s (ix2 n d) = (c : EReal) := by
  obtain ⟨c, hc⟩ := fold_max (uOf (scaled P))
  have h := u_read L
  have e1 : b344 j s (ix2 n d) = (⊥ : EReal) := by
    pointwise [b344, b343]
    exact word_bot
  have e2 : b342 j s (ix2 n d) = (c : EReal) := by
    pointwise [b342, b341, h]
    rw [word_bot]
    exact hc
  refine ⟨c, (greater_read (b344 j s) (b342 j s) n d).trans ?_⟩
  rw [e1, e2]
  exact max_eq_right bot_le

/-- Each width share, with the least share. -/
theorem width_share_read (L : RLane j s n d x P) (k : Fin 8) :
    b360 j s (ix3 n d k) = ((mB + qB * share (uOf (scaled P)) k : ℝ) : EReal) := by
  have h := u_read L
  obtain ⟨c, hc⟩ := width_top_read L
  pointwise [b360, b359, b358, b357, b356, b355, b354, b353, b352, b351, b350, b349, b348, b347, b346, h, hc]
  exact share_real _ c k

/-- The width shares before a knot. -/
theorem width_sel_read (k : Fin 9) (l : Fin 8) :
    b370 j s (ix4 n d k l) = if l.val < k.val then b360 j s (ix3 n d l) else 0 := by
  pointwise [b370, b369, b368, b367, b366, b365, b364, b363, b362, b361]
  rw [slt_word]

/-- The sum of the width shares up to a knot. -/
theorem width_sum_read (k : Fin 9) : b372 j s (ix3 n d k) = ∑ l : Fin 8, b370 j s (ix4 n d k l) := by
  pointwise [b372, b371]

/-- The width knots. -/
theorem width_knot_read (L : RLane j s n d x P) (k : Fin 9) :
    b393 j s (ix3 n d k) = ((knot (uOf (scaled P)) k.val : ℝ) : EReal) := by
  have h := width_share_read L
  pointwise [b393, b392, b391, b390, b389, b388, b387, b386, b385, b384, b383, b382, b381, b380, b379, b378, b377, b376, b375, b374, b373, width_sum_read, width_sel_read, h]
  rw [ends_word, word_T, word_negT, word_2T]
  exact knots_real _ k

/-- The widths of the bins. -/
theorem width_bin_read (L : RLane j s n d x P) (k : Fin 8) :
    b396 j s (ix3 n d k) = ((width (uOf (scaled P)) k.val : ℝ) : EReal) := by
  have h := width_knot_read L
  pointwise [b396, b395, b394, h]
  rw [← EReal.coe_sub]
  unfold width
  congr 3
  omega

/-- The greatest height logit is a real number. -/
theorem height_top_read (L : RLane j s n d x P) : ∃ c : ℝ, b401 j s (ix2 n d) = (c : EReal) := by
  obtain ⟨c, hc⟩ := fold_max (hOf (scaled P))
  have h := h_read L
  have e1 : b400 j s (ix2 n d) = (⊥ : EReal) := by
    pointwise [b400, b399]
    exact word_bot
  have e2 : b398 j s (ix2 n d) = (c : EReal) := by
    pointwise [b398, b397, h]
    rw [word_bot]
    exact hc
  refine ⟨c, (greater_read (b400 j s) (b398 j s) n d).trans ?_⟩
  rw [e1, e2]
  exact max_eq_right bot_le

/-- Each height share, with the least share. -/
theorem height_share_read (L : RLane j s n d x P) (k : Fin 8) :
    b416 j s (ix3 n d k) = ((mB + qB * share (hOf (scaled P)) k : ℝ) : EReal) := by
  have h := h_read L
  obtain ⟨c, hc⟩ := height_top_read L
  pointwise [b416, b415, b414, b413, b412, b411, b410, b409, b408, b407, b406, b405, b404, b403, b402, h, hc]
  exact share_real _ c k

/-- The height shares before a knot. -/
theorem height_sel_read (k : Fin 9) (l : Fin 8) :
    b426 j s (ix4 n d k l) = if l.val < k.val then b416 j s (ix3 n d l) else 0 := by
  pointwise [b426, b425, b424, b423, b422, b421, b420, b419, b418, b417]
  rw [slt_word]

/-- The sum of the height shares up to a knot. -/
theorem height_sum_read (k : Fin 9) : b428 j s (ix3 n d k) = ∑ l : Fin 8, b426 j s (ix4 n d k l) := by
  pointwise [b428, b427]

/-- The height knots. -/
theorem height_knot_read (L : RLane j s n d x P) (k : Fin 9) :
    b449 j s (ix3 n d k) = ((knot (hOf (scaled P)) k.val : ℝ) : EReal) := by
  have h := height_share_read L
  pointwise [b449, b448, b447, b446, b445, b444, b443, b442, b441, b440, b439, b438, b437, b436, b435, b434, b433, b432, b431, b430, b429, height_sum_read, height_sel_read, h]
  rw [ends_word, word_T, word_negT, word_2T]
  exact knots_real _ k

/-- The heights of the bins. -/
theorem height_bin_read (L : RLane j s n d x P) (k : Fin 8) :
    b452 j s (ix3 n d k) = ((width (hOf (scaled P)) k.val : ℝ) : EReal) := by
  have h := height_knot_read L
  pointwise [b452, b451, b450, h]
  rw [← EReal.coe_sub]
  unfold width
  congr 3
  omega

/-- The slopes at the knots. -/
theorem slope_read (L : RLane j s n d x P) (k : Fin 9) :
    b469 j s (ix3 n d k) = ((slope cB (vOf (scaled P)) k.val : ℝ) : EReal) := by
  have h := v_read L
  pointwise [b469, b468, b467, b466, b465, b464, b463, b462, b461, b460, b459, b458, b457, b456, b455, b454, b453, h]
  rw [if_neg (by simp), ← zero_sub, softplus_real, word_m, ← EReal.coe_add]
  rfl

/-- The clipped point. -/
theorem clip_read (L : RLane j s n d x P) : b340 j s (ix2 n d) = ((clip x : ℝ) : EReal) := by
  have h := L.point
  pointwise [b340, b339, b338, b337, b336, b335, b334, b333, h]
  rw [word_T, word_negT, max_coe, min_coe]; rfl

/-- The number of the bin, as a word. -/
theorem bin_read (L : RLane j s n d x P) :
    b486 j s (ix2 n d) = BitVec.ofNat 32 (bin (knot (uOf (scaled P))) (clip x)) := by
  have h := clip_read L
  have h' := width_knot_read L
  pointwise [b486, b485, b484, b483, b482, b481, b480, b479, b478, b477, b476, b475, b474, b473, b472, b471, b470, h, h']
  simp only [reached]
  exact count_word ⟨_, bin_lt _ _⟩ (decide (T ≤ clip x)) fun hp => Fin.ext (bin_end _ _ (of_decide_eq_true hp))

/-- The bin the reference picks. -/
def binR (P : Fin 23 → ℝ) (x : ℝ) : Bin := binOf cB (uOf (scaled P)) (hOf (scaled P)) (vOf (scaled P)) x

/-- The bin's left knot. -/
theorem left_read (L : RLane j s n d x P) : b497 j s (ix2 n d) = (((binR P x).left : ℝ) : EReal) := by
  have h := bin_read L
  have h' := width_knot_read L
  pointwise [b497, b496, b495, b494, b493, b492, b491, b490, b489, b488, b487, h, h']
  exact pick_word _ (bin_lt _ _) _

/-- The bin's width. -/
theorem wide_read (L : RLane j s n d x P) : b505 j s (ix2 n d) = (((binR P x).wide : ℝ) : EReal) := by
  have h := bin_read L
  have h' := width_bin_read L
  pointwise [b505, b504, b503, b502, b501, b500, b499, b498, b488, b487, h, h']
  exact pick_word _ (bin_lt _ _) _

/-- The bin's lower knot. -/
theorem low_read (L : RLane j s n d x P) : b514 j s (ix2 n d) = (((binR P x).low : ℝ) : EReal) := by
  have h := bin_read L
  have h' := height_knot_read L
  pointwise [b514, b513, b512, b511, b510, b509, b508, b507, b506, b488, b487, h, h']
  exact pick_word _ (bin_lt _ _) _

/-- The bin's height. -/
theorem high_read (L : RLane j s n d x P) : b522 j s (ix2 n d) = (((binR P x).high : ℝ) : EReal) := by
  have h := bin_read L
  have h' := height_bin_read L
  pointwise [b522, b521, b520, b519, b518, b517, b516, b515, b488, b487, h, h']
  exact pick_word _ (bin_lt _ _) _

/-- The bin's mean slope. -/
theorem mean_read (L : RLane j s n d x P) : b531 j s (ix2 n d) = (((binR P x).mean : ℝ) : EReal) := by
  have h := bin_read L
  have h1 := width_bin_read L
  have h2 := height_bin_read L
  have e : ∀ k : Fin 8, b523 j s (ix3 n d k)
      = ((width (hOf (scaled P)) k.val / width (uOf (scaled P)) k.val : ℝ) : EReal) := by
    intro k
    pointwise [b523, h1, h2]
    exact div_real _ (width_pos _ _ k.isLt).ne'
  pointwise [b531, b530, b529, b528, b527, b526, b525, b524, b488, b487, h, e]
  exact pick_word _ (bin_lt _ _) _

/-- The slope at the bin's left end. -/
theorem a_read (L : RLane j s n d x P) : b540 j s (ix2 n d) = (((binR P x).a : ℝ) : EReal) := by
  have h := bin_read L
  have h' := slope_read L
  pointwise [b540, b539, b538, b537, b536, b535, b534, b533, b532, b488, b487, h, h']
  exact pick_word _ (bin_lt _ _) _

/-- The slope at the bin's right end. -/
theorem b_read (L : RLane j s n d x P) : b549 j s (ix2 n d) = (((binR P x).b : ℝ) : EReal) := by
  have h := bin_read L
  have h' := slope_read L
  pointwise [b549, b548, b547, b546, b545, b544, b543, b542, b541, b488, b487, h, h']
  simp only [Nat.add_comm 1]
  exact pick_word _ (bin_lt _ _) fun k => ((slope cB (vOf (scaled P)) (k.val + 1) : ℝ) : EReal)

/-- The bin is a proper one: the point lies in it, and its width, height and slopes are positive. -/
theorem binR_ok (P : Fin 23 → ℝ) (x : ℝ) : (binR P x).Ok (clip x) := binOf_ok _ _ _ _ _

/-- Whether the point is inside the interval. -/
theorem inside_read (L : RLane j s n d x P) (a b : EReal) :
    Scalar.select (b332 j s (ix2 n d)) a b = if -T ≤ x ∧ x ≤ T then a else b := by
  have h := L.point
  pointwise [b332, b331, b330, b329, b328, b327, b326, h]
  rw [word_T, word_negT]
  simp only [EReal.coe_le_coe_iff]
  refine select_iff ?_ a b
  by_cases h1 : -T ≤ x <;> by_cases h2 : x ≤ T <;> simp [h1, h2] <;> decide

/-- The fraction of the bin. -/
theorem frac_read (L : RLane j s n d x P) : b551 j s (ix2 n d) = (((binR P x).frac (clip x) : ℝ) : EReal) := by
  pointwise [b551, b550]
  rw [clip_read L, left_read L, wide_read L, ← EReal.coe_sub, div_real _ (binR_ok P x).wide.ne']
  rfl

/-- The denominator. -/
theorem den_read (L : RLane j s n d x P) : b562 j s (ix2 n d)
    = ((den (binR P x).mean (binR P x).a (binR P x).b ((binR P x).frac (clip x)) : ℝ) : EReal) := by
  pointwise [b562, b561, b560, b559, b558, b557, b556, b555, b554, b553, b552]
  rw [frac_read L, mean_read L, a_read L, b_read L, word_2, ← EReal.coe_one]
  simp only [← EReal.coe_add, ← EReal.coe_mul, ← EReal.coe_sub]
  rfl

/-- One coordinate of a step: the new point. -/
theorem point_read (L : RLane j s n d x P) : b591 j s (ix2 n d)
    = ((next cB (uOf (scaled P)) (hOf (scaled P)) (vOf (scaled P)) x : ℝ) : EReal) := by
  have ok := binR_ok P x
  have hden := den_pos ok.mean ok.a ok.b ok.frac0 ok.frac1
  pointwise [b591, b569, b568, b567, b566, b565, b564, b563, b555, b554, b553, b552]
  rw [inside_read L, den_read L, frac_read L, mean_read L, a_read L, low_read L, high_read L, L.point, ← EReal.coe_one]
  simp only [← EReal.coe_add, ← EReal.coe_mul, ← EReal.coe_sub]
  rw [div_real _ hden.ne', ← EReal.coe_add, ite_coe]
  rfl

/-- One coordinate of a step: its log-slope. -/
theorem slopelog_read (L : RLane j s n d x P) : b595 j s (ix2 n d)
    = ((logSlope cB (uOf (scaled P)) (hOf (scaled P)) (vOf (scaled P)) x : ℝ) : EReal) := by
  have ok := binR_ok P x
  have hden := den_pos ok.mean ok.a ok.b ok.frac0 ok.frac1
  have hnum := num_pos ok.mean ok.a ok.b ok.frac0 ok.frac1
  have hp := mul_pos (mul_pos ok.mean ok.mean) hnum
  pointwise [b595, b594, b593, b592, b590, b589, b588, b587, b586, b585, b584, b583, b582, b581, b580, b579, b578, b577, b576,
    b575, b574, b573, b572, b571, b570, b555, b554, b553, b552]
  rw [inside_read L, den_read L, frac_read L, mean_read L, a_read L, b_read L, word_2, ← EReal.coe_one]
  simp only [← EReal.coe_add, ← EReal.coe_mul, ← EReal.coe_sub]
  have e : (binR P x).b * (binR P x).frac (clip x) * (binR P x).frac (clip x)
      + 2 * (binR P x).mean * ((binR P x).frac (clip x) * (1 - (binR P x).frac (clip x)))
      + (binR P x).a * ((1 - (binR P x).frac (clip x)) * (1 - (binR P x).frac (clip x)))
      = num (binR P x).mean (binR P x).a (binR P x).b ((binR P x).frac (clip x)) := rfl
  rw [e, log_real hden, log_real hp, ← EReal.coe_mul, ← EReal.coe_sub, ← EReal.coe_zero, ite_coe]
  rfl

end Cert.Flow

end
-- ==== Proof.RefFlow.lean ====
/-
  The reference's loop for one point: after `k` steps its state holds the flow's point and the sum of its log-slopes,
  and the weights it was given.
-/
module

public import proofs.«01_k».proof.Proof.RefLane
public import proofs.«01_k».proof.Proof.RefNet
public import proofs.«01_k».proof.Proof.Flow

@[expose] public section

set_option maxRecDepth 16384

noncomputable section

namespace Cert.Flow

open Idealize.ShloMosaic Idealize.ShloMosaic.TcCoe Idealize.SL.Sem
open Cert.ReferenceIdeal Cert.ReferenceIdeal.Step

/-- Row `n` of the state: the point, the summed log-slope, the condition, and the weights. -/
structure Row (s : State Ideal) (n : Fin 32768) (w : Weights) (c : EReal) (Z S : Fin 45 → ℝ) : Prop where
  point : ∀ d, s.main_v1_11 (ix2 n d) = (Z d : EReal)
  slope : s.main_v1_12 (ix1 n) = ((∑ d, S d : ℝ) : EReal)
  cond : s.main_v1_3 (ix2 n 0) = c
  weights : weightsOf s = w

variable {s : State Ideal} {n : Fin 32768} {w : Weights} {c : EReal} {Z S : Fin 45 → ℝ}

/-- The step adds the log-slopes of the coordinates. -/
theorem sum_read (j : ℕ) : b598 j s (ix1 n) = s.main_v1_12 (ix1 n) + ∑ d, b595 j s (ix2 n d) := by
  pointwise [b598, b597, b596]

/-- What each coordinate reads in a step. -/
theorem lane_of (R : Row s n w c Z S) (T : Tame w c) (hz : ∀ d, |Z d| ≤ 16) (t : Fin 6) (d : Fin 45) :
    RLane t.val s n d (Z d) (logits w c t Z d) where
  point := R.point d
  outs m := by
    rw [ref_net (out d m) rfl, R.weights, R.cond]
    have e : (fun d => s.main_v1_11 (ix2 n d)) = coePoint Z := funext R.point
    rw [e]
    exact (net_real T hz t d m).1

/-- One step of the reference. -/
theorem row_step (R : Row s n w c Z S) (T : Tame w c) (hz : ∀ d, |Z d| ≤ 16) (t : Fin 6) :
    Row (step t.val s) n w c (stepPoint w c t Z) (fun d => S d + stepSlope w c t Z d) where
  point d := point_read (lane_of R T hz t d)
  slope := by
    refine (sum_read t.val).trans ?_
    rw [R.slope, Finset.sum_add_distrib, EReal.coe_add]
    congr 1
    rw [← coe_sum]
    exact Finset.sum_congr rfl fun d _ => slopelog_read (lane_of R T hz t d)
  cond := R.cond
  weights := R.weights

/-- The whole loop of the reference. -/
theorem row_loop (it : ℕ → State Ideal) (hs : ∀ k, it (k + 1) = step k (it k)) (T : Tame w c) (hz : ∀ d, |Z d| ≤ 16)
    (R : Row (it 0) n w c Z fun _ => 0) : ∀ k, k ≤ 6 → Row (it k) n w c (flow w c Z k).1 (flow w c Z k).2 := by
  intro k
  induction k with
  | zero => exact fun _ => R
  | succ k ih =>
    intro hk
    have h := row_step (ih (by omega)) T (flow_within hz k) ⟨k, by omega⟩
    rw [hs k, flow_succ (w := w) (c := c) (Z := Z) ⟨k, by omega⟩]
    exact h

end Cert.Flow

end
-- ==== Proof.RefResult.lean ====
/-
  What the reference leaves: each point's log-density.
-/
module

public import proofs.«01_k».proof.Proof.RefFlow
public import proofs.«01_k».proof.Proof.Gen.ReferenceIdeal.StepRun
public import proofs.«01_k».proof.Proof.KernelResult

@[expose] public section

set_option maxRecDepth 16384

noncomputable section

namespace Cert.Flow

open Idealize.ShloMosaic Idealize.ShloMosaic.TcCoe Idealize.SL.Sem
open Cert.ReferenceIdeal Cert.ReferenceIdeal.Step

/-- The word of minus one half. -/
theorem word_minus_half : Ideal.ofBits .f32 0xBF000000#32 = ((-(1 / 2) : ℝ) : EReal) := by
  simp [Ideal.ofBits, Ideal.ieee, -EReal.coe_mul]
  norm_num

variable {s : State Ideal} {n : Fin 32768} {w : Weights} {c : EReal} {Z S : Fin 45 → ℝ}

/-- The result, read at a point. -/
theorem result_read : R_main_v9 s (ix2 0 n)
    = (Ideal.ofBits .f32 0xBF000000#32 * (∑ d : Fin 45, s.main_v1_11 (ix2 n d) * s.main_v1_11 (ix2 n d))
      - Ideal.ofBits .f32 0x422568B0#32) + s.main_v1_12 (ix1 n) := by
  pointwise [R_main_v9]

/-- The result at a point is the log-density. -/
theorem result_density (R : Row s n w c Z S) : R_main_v9 s (ix2 0 n) = ((density (Z, S) : ℝ) : EReal) := by
  rw [result_read, R.slope, word_minus_half, word_logZ]
  have e : ∀ d, s.main_v1_11 (ix2 n d) * s.main_v1_11 (ix2 n d) = ((Z d * Z d : ℝ) : EReal) := fun d => by
    rw [R.point, ← EReal.coe_mul]
  rw [Finset.sum_congr rfl fun d _ => e d, coe_sum]
  simp only [← EReal.coe_mul, ← EReal.coe_add, ← EReal.coe_sub]
  congr 1
  unfold density
  ring

/-- The slope starts at zero. -/
theorem zero_read : (K_main_v0 (F := Ideal)) (ix1 n) = 0 := by
  pointwise [K_main_v0, K_main_cst]

/-- The reference's result, of points, conditions and weights for which the flow stays among the real numbers: each entry
is the point's log-density. -/
theorem reference_density {Z : Fin 32768 → Fin 45 → ℝ} {C : Fin 32768 → ℝ} (it : ℕ → State Ideal)
    (hs : ∀ k, it (k + 1) = step k (it k)) (h0 : ∀ n, Row (it 0) n w (C n : EReal) (Z n) fun _ => 0)
    (hz : ∀ n d, |Z n d| ≤ 16) (T : ∀ n, Tame w (C n : EReal)) :
    R_main_v9 (it 6) = (fun i => ((density (flow w (C (i 1) : EReal) (Z (i 1)) 6) : ℝ) : EReal)) := by
  funext i
  obtain ⟨n, hn⟩ : ∃ n : Fin 32768, i = ix2 0 n := ⟨i 1, by blk_ext []⟩
  rw [hn]
  exact result_density (row_loop it hs (T n) (hz n) (h0 n) 6 le_rfl)

end Cert.Flow

end
-- ==== Proof.Equation.lean ====
/-
  The equation: from equal arguments in the stated range, the idealized kernel and the reference both leave each point's
  log-density.
-/
module

public import proofs.«01_k».proof.Defs
public import proofs.«01_k».proof.Proof.Range
public import proofs.«01_k».proof.Proof.KernelResult
public import proofs.«01_k».proof.Proof.RefResult
public import proofs.«01_k».proof.Proof.Gen.KernelIdeal
public import proofs.«01_k».proof.Proof.Gen.ReferenceIdeal
public import proofs.«01_k».proof.Proof.Gen.Pre_in_range

@[expose] public section

set_option maxRecDepth 16384

noncomputable section

namespace Cert.Flow

open Idealize.ShloMosaic Idealize.ShloMosaic.TcCoe Idealize.SL.Sem

/-- A number within a bound up to 960 is a real number within it. -/
theorem real_within {x : EReal} {b : ℝ} (hb : b ≤ 960) (h : mag x ≤ (b : EReal)) : ∃ a : ℝ, x = (a : EReal) ∧ |a| ≤ b := by
  obtain ⟨a, ha, -⟩ := real_of_mag (h.trans (EReal.coe_le_coe_iff.mpr hb))
  refine ⟨a, ha, ?_⟩
  rw [ha, mag_coe, EReal.coe_le_coe_iff] at h
  exact h

/-- What the stated range gives: real points within 16, real conditions, and the networks' bounds. -/
theorem of_range (m : (ℓ : Loc Cert.KernelIdeal.nD Cert.KernelIdeal.τ Cert.KernelIdeal.sig) → Buf (Elt Ideal) ℓ)
    (h : Cert.Pre_KernelIdeal_in_range m) (c : Dev Cert.KernelIdeal.nD) :
    ∃ (Z : Fin 32768 → Fin 45 → ℝ) (C : Fin 32768 → ℝ),
      (∀ n d, pointsAt m c (ix2 n d) = (Z n d : EReal)) ∧ (∀ n d, |Z n d| ≤ 16)
      ∧ (∀ n, condAt m c (ix2 n 0) = (C n : EReal)) ∧ ∀ n, Tame (weightsAt m c) (C n : EReal) := by
  have hp := fun n d => real_within (by norm_num)
    (range_point (pointsAt m c) (condAt m c) (weightsAt m c) (h c).1 n d)
  have hk := range_cond (pointsAt m c) (condAt m c) (weightsAt m c) (h c).2.1
  have hc := fun n => real_within (by norm_num) (hk n)
  have hw := range_net (pointsAt m c) (condAt m c) (weightsAt m c) (h c).2.2
  choose Z hZ hz using hp
  choose C hC _ using hc
  exact ⟨Z, C, hZ, hz, hC, fun n => ⟨hC n ▸ hk n, hw⟩⟩

/-- The reference's states, one after another. -/
def states (s : Cert.ReferenceIdeal.Step.State Ideal) : ℕ → Cert.ReferenceIdeal.Step.State Ideal
  | 0 => s
  | k + 1 => Cert.ReferenceIdeal.Step.step k (states s k)

/-- The idealized kernel and the reference agree on the stated range. -/
theorem equation : Cert.algebraic_KernelIdeal_ReferenceIdeal_pre_in_range := by
  intro m g m' g' hpre ha
  refine ⟨fun c => (Cert.KernelIdeal.Gen.dats m 0 c).arrAt 7 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.StepRun.run_iter m' g' (fun c => states (Cert.ReferenceIdeal.StepRun.initState m' c))
      (fun c => rfl) (fun c k => rfl))
  obtain ⟨Z, C, hZ, hz, hC, T⟩ := of_range m hpre c
  obtain ⟨a0, a1, a2, a3, a4, a5, a6, a7, a8, a9⟩ := ha c
  refine Eq.trans ?_ (kernel_density m c hZ hz hC T).symm
  refine reference_density (w := weightsAt m c) (Z := Z) (C := C) _ (fun k => rfl) (fun n => ?_) hz T
  exact
    { point := fun d => (congrFun a0 (ix2 n d)).trans (hZ n d)
      slope := by
        refine (zero_read (n := n)).trans ?_
        simp
      cond := (congrFun a1 (ix2 n 0)).trans (hC n)
      weights := by
        unfold weightsAt
        rw [← a2, ← a3, ← a4, ← a5, ← a6, ← a7, ← a8, ← a9]
        rfl }

end Cert.Flow

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.KernelIdeal.Value
public import proofs.«01_k».proof.Proof.Gen.ReferenceIdeal.StepRun
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The frames of the three programs, the named constants of the idealized kernel, and the equation of its result with
the reference's on the stated range. -/
theorem claim : Cert.Claim := ⟨Cert.Kernel.Gen.facts, Cert.KernelIdeal.Gen.facts, Cert.ReferenceIdeal.Gen.facts,
  Cert.Pre_in_range.Gen.facts,
  Cert.Frames.frame_kernel, Cert.Frames.frame_ideal, fun m g _ => Cert.Frames.frame_ideal m g trivial,
  Cert.Frames.frame_reference, fun m g _ => Cert.Frames.frame_reference m g trivial,
  Cert.Frames.named_constants, Cert.Flow.equation⟩

end Cert.Proof

end
